-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainIdeal_zero_points_fit [hPre_zero_points_fit : Cert.Pre_zero_points_fit.Facts] (m : (ℓ : Loc Cert.MainIdeal.nD Cert.MainIdeal.τ Cert.MainIdeal.sig) → Buf (Elt Ideal) ℓ) : Prop :=
  ∀ c : Dev Cert.MainIdeal.nD,
    (Cert.Pre_zero_points_fit.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7)) (m ((c.tc : Thread Cert.MainIdeal.nD Cert.MainIdeal.τ).loc Cert.MainIdeal.main_arg8)) (m ((c.tc : Thread Cert.MainIdeal.nD Cert.MainIdeal.τ).loc Cert.MainIdeal.main_arg9)) (m ((c.tc : Thread Cert.MainIdeal.nD Cert.MainIdeal.τ).loc Cert.MainIdeal.main_arg10))).1 = (fun _ => 1#1)
    ∧ (Cert.Pre_zero_points_fit.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7)) (m ((c.tc : Thread Cert.MainIdeal.nD Cert.MainIdeal.τ).loc Cert.MainIdeal.main_arg8)) (m ((c.tc : Thread Cert.MainIdeal.nD Cert.MainIdeal.τ).loc Cert.MainIdeal.main_arg9)) (m ((c.tc : Thread Cert.MainIdeal.nD Cert.MainIdeal.τ).loc Cert.MainIdeal.main_arg10))).2.1 = (fun _ => 1#1)
    ∧ (Cert.Pre_zero_points_fit.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7)) (m ((c.tc : Thread Cert.MainIdeal.nD Cert.MainIdeal.τ).loc Cert.MainIdeal.main_arg8)) (m ((c.tc : Thread Cert.MainIdeal.nD Cert.MainIdeal.τ).loc Cert.MainIdeal.main_arg9)) (m ((c.tc : Thread Cert.MainIdeal.nD Cert.MainIdeal.τ).loc Cert.MainIdeal.main_arg10))).2.2 = (fun _ => 1#1)

def Pre_MainRefIdeal (m : (ℓ : Loc Cert.MainRefIdeal.nD Cert.MainRefIdeal.τ Cert.MainRefIdeal.sig) → Buf (Elt Ideal) ℓ) : Prop :=
  True

def Pre_MainRefIdeal_zero_points_fit [hPre_zero_points_fit : Cert.Pre_zero_points_fit.Facts] (m : (ℓ : Loc Cert.MainRefIdeal.nD Cert.MainRefIdeal.τ Cert.MainRefIdeal.sig) → Buf (Elt Ideal) ℓ) : Prop :=
  ∀ c : Dev Cert.MainRefIdeal.nD,
    (Cert.Pre_zero_points_fit.fn (F := Ideal) (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7)) (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9)) (m ((c.tc : Thread Cert.MainRefIdeal.nD Cert.MainRefIdeal.τ).loc Cert.MainRefIdeal.main_arg10))).1 = (fun _ => 1#1)
    ∧ (Cert.Pre_zero_points_fit.fn (F := Ideal) (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7)) (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9)) (m ((c.tc : Thread Cert.MainRefIdeal.nD Cert.MainRefIdeal.τ).loc Cert.MainRefIdeal.main_arg10))).2.1 = (fun _ => 1#1)
    ∧ (Cert.Pre_zero_points_fit.fn (F := Ideal) (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7)) (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9)) (m ((c.tc : Thread Cert.MainRefIdeal.nD Cert.MainRefIdeal.τ).loc Cert.MainRefIdeal.main_arg10))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7)
      ∧ r.2.mem ((c.tc : Thread Cert.Main.nD Cert.Main.τ).loc Cert.Main.main_arg8) = m ((c.tc : Thread Cert.Main.nD Cert.Main.τ).loc Cert.Main.main_arg8)
      ∧ r.2.mem ((c.tc : Thread Cert.Main.nD Cert.Main.τ).loc Cert.Main.main_arg9) = m ((c.tc : Thread Cert.Main.nD Cert.Main.τ).loc Cert.Main.main_arg9)
      ∧ r.2.mem ((c.tc : Thread Cert.Main.nD Cert.Main.τ).loc Cert.Main.main_arg10) = m ((c.tc : Thread Cert.Main.nD Cert.Main.τ).loc Cert.Main.main_arg10))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
      ∧ r.2.mem ((c.tc : Thread Cert.MainIdeal.nD Cert.MainIdeal.τ).loc Cert.MainIdeal.main_arg9) = m ((c.tc : Thread Cert.MainIdeal.nD Cert.MainIdeal.τ).loc Cert.MainIdeal.main_arg9)
      ∧ r.2.mem ((c.tc : Thread Cert.MainIdeal.nD Cert.MainIdeal.τ).loc Cert.MainIdeal.main_arg10) = m ((c.tc : Thread Cert.MainIdeal.nD Cert.MainIdeal.τ).loc Cert.MainIdeal.main_arg10))
      ∧ r.2.sem = fun _ => 0)

def quiescent_MainIdeal_pre_zero_points_fit [hMainIdeal : Cert.MainIdeal.Facts] [hPre_zero_points_fit : Cert.Pre_zero_points_fit.Facts] : Prop :=
  ∀ (m : (ℓ : Loc Cert.MainIdeal.nD Cert.MainIdeal.τ Cert.MainIdeal.sig) → Buf (Elt Ideal) ℓ) (g : Dev Cert.MainIdeal.nD → PrngReg), Pre_MainIdeal_zero_points_fit m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
      ∧ r.2.mem ((c.tc : Thread Cert.MainIdeal.nD Cert.MainIdeal.τ).loc Cert.MainIdeal.main_arg9) = m ((c.tc : Thread Cert.MainIdeal.nD Cert.MainIdeal.τ).loc Cert.MainIdeal.main_arg9)
      ∧ r.2.mem ((c.tc : Thread Cert.MainIdeal.nD Cert.MainIdeal.τ).loc Cert.MainIdeal.main_arg10) = m ((c.tc : Thread Cert.MainIdeal.nD Cert.MainIdeal.τ).loc Cert.MainIdeal.main_arg10))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7)
      ∧ r.2.mem ((c.tc : Thread Cert.MainRefIdeal.nD Cert.MainRefIdeal.τ).loc Cert.MainRefIdeal.main_arg8) = m ((c.tc : Thread Cert.MainRefIdeal.nD Cert.MainRefIdeal.τ).loc Cert.MainRefIdeal.main_arg8)
      ∧ r.2.mem ((c.tc : Thread Cert.MainRefIdeal.nD Cert.MainRefIdeal.τ).loc Cert.MainRefIdeal.main_arg9) = m ((c.tc : Thread Cert.MainRefIdeal.nD Cert.MainRefIdeal.τ).loc Cert.MainRefIdeal.main_arg9)
      ∧ r.2.mem ((c.tc : Thread Cert.MainRefIdeal.nD Cert.MainRefIdeal.τ).loc Cert.MainRefIdeal.main_arg10) = m ((c.tc : Thread Cert.MainRefIdeal.nD Cert.MainRefIdeal.τ).loc Cert.MainRefIdeal.main_arg10))
      ∧ r.2.sem = fun _ => 0)

def quiescent_MainRefIdeal_pre_zero_points_fit [hMainRefIdeal : Cert.MainRefIdeal.Facts] [hPre_zero_points_fit : Cert.Pre_zero_points_fit.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal_zero_points_fit m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7)
      ∧ r.2.mem ((c.tc : Thread Cert.MainRefIdeal.nD Cert.MainRefIdeal.τ).loc Cert.MainRefIdeal.main_arg8) = m ((c.tc : Thread Cert.MainRefIdeal.nD Cert.MainRefIdeal.τ).loc Cert.MainRefIdeal.main_arg8)
      ∧ r.2.mem ((c.tc : Thread Cert.MainRefIdeal.nD Cert.MainRefIdeal.τ).loc Cert.MainRefIdeal.main_arg9) = m ((c.tc : Thread Cert.MainRefIdeal.nD Cert.MainRefIdeal.τ).loc Cert.MainRefIdeal.main_arg9)
      ∧ r.2.mem ((c.tc : Thread Cert.MainRefIdeal.nD Cert.MainRefIdeal.τ).loc Cert.MainRefIdeal.main_arg10) = m ((c.tc : Thread Cert.MainRefIdeal.nD Cert.MainRefIdeal.τ).loc Cert.MainRefIdeal.main_arg10))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6)
      ∧ r.2.mem ((c.tc : Thread Cert.AdamDown.nD Cert.AdamDown.τ).loc Cert.AdamDown.main_arg7) = m ((c.tc : Thread Cert.AdamDown.nD Cert.AdamDown.τ).loc Cert.AdamDown.main_arg7))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
      ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6)
      ∧ r.2.mem ((c.tc : Thread Cert.AdamDownRefIdeal.nD Cert.AdamDownRefIdeal.τ).loc Cert.AdamDownRefIdeal.main_arg7) = m ((c.tc : Thread Cert.AdamDownRefIdeal.nD Cert.AdamDownRefIdeal.τ).loc Cert.AdamDownRefIdeal.main_arg7))
      ∧ r.2.sem = fun _ => 0)

def preserves_Main_MainIdeal : Prop :=
  True

def algebraic_MainIdeal_MainRefIdeal_pre_zero_points_fit [hMainIdeal : Cert.MainIdeal.Facts] [hMainRefIdeal : Cert.MainRefIdeal.Facts] [hPre_zero_points_fit : Cert.Pre_zero_points_fit.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal_zero_points_fit m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)
      ∧ m' ((c.tc : Thread Cert.MainRefIdeal.nD Cert.MainRefIdeal.τ).loc Cert.MainRefIdeal.main_arg4) = m ((c.tc : Thread Cert.MainIdeal.nD Cert.MainIdeal.τ).loc Cert.MainIdeal.main_arg4)
      ∧ m' ((c.tc : Thread Cert.MainRefIdeal.nD Cert.MainRefIdeal.τ).loc Cert.MainRefIdeal.main_arg5) = m ((c.tc : Thread Cert.MainIdeal.nD Cert.MainIdeal.τ).loc Cert.MainIdeal.main_arg5)
      ∧ m' ((c.tc : Thread Cert.MainRefIdeal.nD Cert.MainRefIdeal.τ).loc Cert.MainRefIdeal.main_arg6) = m ((c.tc : Thread Cert.MainIdeal.nD Cert.MainIdeal.τ).loc Cert.MainIdeal.main_arg6)
      ∧ m' ((c.tc : Thread Cert.MainRefIdeal.nD Cert.MainRefIdeal.τ).loc Cert.MainRefIdeal.main_arg7) = m ((c.tc : Thread Cert.MainIdeal.nD Cert.MainIdeal.τ).loc Cert.MainIdeal.main_arg7)
      ∧ m' ((c.tc : Thread Cert.MainRefIdeal.nD Cert.MainRefIdeal.τ).loc Cert.MainRefIdeal.main_arg8) = m ((c.tc : Thread Cert.MainIdeal.nD Cert.MainIdeal.τ).loc Cert.MainIdeal.main_arg8)
      ∧ m' ((c.tc : Thread Cert.MainRefIdeal.nD Cert.MainRefIdeal.τ).loc Cert.MainRefIdeal.main_arg9) = m ((c.tc : Thread Cert.MainIdeal.nD Cert.MainIdeal.τ).loc Cert.MainIdeal.main_arg9)
      ∧ m' ((c.tc : Thread Cert.MainRefIdeal.nD Cert.MainRefIdeal.τ).loc Cert.MainRefIdeal.main_arg10) = m ((c.tc : Thread Cert.MainIdeal.nD Cert.MainIdeal.τ).loc Cert.MainIdeal.main_arg10)) →
    ∃ (v0 : (c : Dev Cert.MainIdeal.nD) → Buf (Elt Ideal) ((c.tc : Thread Cert.MainIdeal.nD Cert.MainIdeal.τ).loc Cert.MainIdeal.main_v15_0)) (v1 : (c : Dev Cert.MainIdeal.nD) → Buf (Elt Ideal) ((c.tc : Thread Cert.MainIdeal.nD Cert.MainIdeal.τ).loc Cert.MainIdeal.main_v15_1)) (v2 : (c : Dev Cert.MainIdeal.nD) → Buf (Elt Ideal) ((c.tc : Thread Cert.MainIdeal.nD Cert.MainIdeal.τ).loc Cert.MainIdeal.main_v15_2)) (v3 : (c : Dev Cert.MainIdeal.nD) → Buf (Elt Ideal) ((c.tc : Thread Cert.MainIdeal.nD Cert.MainIdeal.τ).loc Cert.MainIdeal.main_v15_3)) (v4 : (c : Dev Cert.MainIdeal.nD) → Buf (Elt Ideal) ((c.tc : Thread Cert.MainIdeal.nD Cert.MainIdeal.τ).loc Cert.MainIdeal.main_v15_4)) (v5 : (c : Dev Cert.MainIdeal.nD) → Buf (Elt Ideal) ((c.tc : Thread Cert.MainIdeal.nD Cert.MainIdeal.τ).loc Cert.MainIdeal.main_v15_5)) (v6 : (c : Dev Cert.MainIdeal.nD) → Buf (Elt Ideal) ((c.tc : Thread Cert.MainIdeal.nD Cert.MainIdeal.τ).loc Cert.MainIdeal.main_v15_6)) (v7 : (c : Dev Cert.MainIdeal.nD) → Buf (Elt Ideal) ((c.tc : Thread Cert.MainIdeal.nD Cert.MainIdeal.τ).loc Cert.MainIdeal.main_v15_7)) (v8 : (c : Dev Cert.MainIdeal.nD) → Buf (Elt Ideal) ((c.tc : Thread Cert.MainIdeal.nD Cert.MainIdeal.τ).loc Cert.MainIdeal.main_v15_8)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v15_0) = v0 c
          ∧ r.2.mem ((c.tc : Thread Cert.MainIdeal.nD Cert.MainIdeal.τ).loc Cert.MainIdeal.main_v15_1) = v1 c
          ∧ r.2.mem ((c.tc : Thread Cert.MainIdeal.nD Cert.MainIdeal.τ).loc Cert.MainIdeal.main_v15_2) = v2 c
          ∧ r.2.mem ((c.tc : Thread Cert.MainIdeal.nD Cert.MainIdeal.τ).loc Cert.MainIdeal.main_v15_3) = v3 c
          ∧ r.2.mem ((c.tc : Thread Cert.MainIdeal.nD Cert.MainIdeal.τ).loc Cert.MainIdeal.main_v15_4) = v4 c
          ∧ r.2.mem ((c.tc : Thread Cert.MainIdeal.nD Cert.MainIdeal.τ).loc Cert.MainIdeal.main_v15_5) = v5 c
          ∧ r.2.mem ((c.tc : Thread Cert.MainIdeal.nD Cert.MainIdeal.τ).loc Cert.MainIdeal.main_v15_6) = v6 c
          ∧ r.2.mem ((c.tc : Thread Cert.MainIdeal.nD Cert.MainIdeal.τ).loc Cert.MainIdeal.main_v15_7) = v7 c
          ∧ r.2.mem ((c.tc : Thread Cert.MainIdeal.nD Cert.MainIdeal.τ).loc Cert.MainIdeal.main_v15_8) = v8 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
          ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
          ∧ r.2.mem ((c.tc : Thread Cert.MainIdeal.nD Cert.MainIdeal.τ).loc Cert.MainIdeal.main_arg9) = m ((c.tc : Thread Cert.MainIdeal.nD Cert.MainIdeal.τ).loc Cert.MainIdeal.main_arg9)
          ∧ r.2.mem ((c.tc : Thread Cert.MainIdeal.nD Cert.MainIdeal.τ).loc Cert.MainIdeal.main_arg10) = m ((c.tc : Thread Cert.MainIdeal.nD Cert.MainIdeal.τ).loc Cert.MainIdeal.main_arg10))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v156) = v0 c
          ∧ r.2.mem ((c.tc : Thread Cert.MainRefIdeal.nD Cert.MainRefIdeal.τ).loc Cert.MainRefIdeal.main_v168) = v1 c
          ∧ r.2.mem ((c.tc : Thread Cert.MainRefIdeal.nD Cert.MainRefIdeal.τ).loc Cert.MainRefIdeal.main_v171) = v2 c
          ∧ r.2.mem ((c.tc : Thread Cert.MainRefIdeal.nD Cert.MainRefIdeal.τ).loc Cert.MainRefIdeal.main_v194) = v3 c
          ∧ r.2.mem ((c.tc : Thread Cert.MainRefIdeal.nD Cert.MainRefIdeal.τ).loc Cert.MainRefIdeal.main_v196) = v4 c
          ∧ r.2.mem ((c.tc : Thread Cert.MainRefIdeal.nD Cert.MainRefIdeal.τ).loc Cert.MainRefIdeal.main_v198) = v5 c
          ∧ r.2.mem ((c.tc : Thread Cert.MainRefIdeal.nD Cert.MainRefIdeal.τ).loc Cert.MainRefIdeal.main_v200) = v6 c
          ∧ r.2.mem ((c.tc : Thread Cert.MainRefIdeal.nD Cert.MainRefIdeal.τ).loc Cert.MainRefIdeal.main_v202) = v7 c
          ∧ r.2.mem ((c.tc : Thread Cert.MainRefIdeal.nD Cert.MainRefIdeal.τ).loc Cert.MainRefIdeal.main_v204) = v8 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3)
          ∧ r.2.mem ((c.tc : Thread Cert.MainRefIdeal.nD Cert.MainRefIdeal.τ).loc Cert.MainRefIdeal.main_arg4) = m' ((c.tc : Thread Cert.MainRefIdeal.nD Cert.MainRefIdeal.τ).loc Cert.MainRefIdeal.main_arg4)
          ∧ r.2.mem ((c.tc : Thread Cert.MainRefIdeal.nD Cert.MainRefIdeal.τ).loc Cert.MainRefIdeal.main_arg5) = m' ((c.tc : Thread Cert.MainRefIdeal.nD Cert.MainRefIdeal.τ).loc Cert.MainRefIdeal.main_arg5)
          ∧ r.2.mem ((c.tc : Thread Cert.MainRefIdeal.nD Cert.MainRefIdeal.τ).loc Cert.MainRefIdeal.main_arg6) = m' ((c.tc : Thread Cert.MainRefIdeal.nD Cert.MainRefIdeal.τ).loc Cert.MainRefIdeal.main_arg6)
          ∧ r.2.mem ((c.tc : Thread Cert.MainRefIdeal.nD Cert.MainRefIdeal.τ).loc Cert.MainRefIdeal.main_arg7) = m' ((c.tc : Thread Cert.MainRefIdeal.nD Cert.MainRefIdeal.τ).loc Cert.MainRefIdeal.main_arg7)
          ∧ r.2.mem ((c.tc : Thread Cert.MainRefIdeal.nD Cert.MainRefIdeal.τ).loc Cert.MainRefIdeal.main_arg8) = m' ((c.tc : Thread Cert.MainRefIdeal.nD Cert.MainRefIdeal.τ).loc Cert.MainRefIdeal.main_arg8)
          ∧ r.2.mem ((c.tc : Thread Cert.MainRefIdeal.nD Cert.MainRefIdeal.τ).loc Cert.MainRefIdeal.main_arg9) = m' ((c.tc : Thread Cert.MainRefIdeal.nD Cert.MainRefIdeal.τ).loc Cert.MainRefIdeal.main_arg9)
          ∧ r.2.mem ((c.tc : Thread Cert.MainRefIdeal.nD Cert.MainRefIdeal.τ).loc Cert.MainRefIdeal.main_arg10) = m' ((c.tc : Thread Cert.MainRefIdeal.nD Cert.MainRefIdeal.τ).loc Cert.MainRefIdeal.main_arg10))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)) →
    ∃ (v0 : (c : Dev Cert.InputIdeal.nD) → Buf (Elt Ideal) ((c.tc : Thread Cert.InputIdeal.nD Cert.InputIdeal.τ).loc Cert.InputIdeal.main_v0)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v0) = v0 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v4) = v0 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)) →
    ∃ (v0 : (c : Dev Cert.FinishIdeal.nD) → Buf (Elt Ideal) ((c.tc : Thread Cert.FinishIdeal.nD Cert.FinishIdeal.τ).loc Cert.FinishIdeal.main_v0_0)) (v1 : (c : Dev Cert.FinishIdeal.nD) → Buf (Elt Ideal) ((c.tc : Thread Cert.FinishIdeal.nD Cert.FinishIdeal.τ).loc Cert.FinishIdeal.main_v0_1)) (v2 : (c : Dev Cert.FinishIdeal.nD) → Buf (Elt Ideal) ((c.tc : Thread Cert.FinishIdeal.nD Cert.FinishIdeal.τ).loc Cert.FinishIdeal.main_v0_2)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0_0) = v0 c
          ∧ r.2.mem ((c.tc : Thread Cert.FinishIdeal.nD Cert.FinishIdeal.τ).loc Cert.FinishIdeal.main_v0_1) = v1 c
          ∧ r.2.mem ((c.tc : Thread Cert.FinishIdeal.nD Cert.FinishIdeal.τ).loc Cert.FinishIdeal.main_v0_2) = v2 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v28) = v0 c
          ∧ r.2.mem ((c.tc : Thread Cert.FinishRefIdeal.nD Cert.FinishRefIdeal.τ).loc Cert.FinishRefIdeal.main_v29) = v1 c
          ∧ r.2.mem ((c.tc : Thread Cert.FinishRefIdeal.nD Cert.FinishRefIdeal.τ).loc Cert.FinishRefIdeal.main_v18) = v2 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)) →
    ∃ (v0 : (c : Dev Cert.AdamIdeal.nD) → Buf (Elt Ideal) ((c.tc : Thread Cert.AdamIdeal.nD Cert.AdamIdeal.τ).loc Cert.AdamIdeal.main_v6_0)) (v1 : (c : Dev Cert.AdamIdeal.nD) → Buf (Elt Ideal) ((c.tc : Thread Cert.AdamIdeal.nD Cert.AdamIdeal.τ).loc Cert.AdamIdeal.main_v6_1)) (v2 : (c : Dev Cert.AdamIdeal.nD) → Buf (Elt Ideal) ((c.tc : Thread Cert.AdamIdeal.nD Cert.AdamIdeal.τ).loc Cert.AdamIdeal.main_v6_2)) (v3 : (c : Dev Cert.AdamIdeal.nD) → Buf (Elt Ideal) ((c.tc : Thread Cert.AdamIdeal.nD Cert.AdamIdeal.τ).loc Cert.AdamIdeal.main_v6_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v6_0) = v0 c
          ∧ r.2.mem ((c.tc : Thread Cert.AdamIdeal.nD Cert.AdamIdeal.τ).loc Cert.AdamIdeal.main_v6_1) = v1 c
          ∧ r.2.mem ((c.tc : Thread Cert.AdamIdeal.nD Cert.AdamIdeal.τ).loc Cert.AdamIdeal.main_v6_2) = v2 c
          ∧ r.2.mem ((c.tc : Thread Cert.AdamIdeal.nD Cert.AdamIdeal.τ).loc Cert.AdamIdeal.main_v6_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v20) = v0 c
          ∧ r.2.mem ((c.tc : Thread Cert.AdamRefIdeal.nD Cert.AdamRefIdeal.τ).loc Cert.AdamRefIdeal.main_v21) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)
      ∧ m' ((c.tc : Thread Cert.AdamDownRefIdeal.nD Cert.AdamDownRefIdeal.τ).loc Cert.AdamDownRefIdeal.main_arg7) = m ((c.tc : Thread Cert.AdamDownIdeal.nD Cert.AdamDownIdeal.τ).loc Cert.AdamDownIdeal.main_arg7)) →
    ∃ (v0 : (c : Dev Cert.AdamDownIdeal.nD) → Buf (Elt Ideal) ((c.tc : Thread Cert.AdamDownIdeal.nD Cert.AdamDownIdeal.τ).loc Cert.AdamDownIdeal.main_v6_0)) (v1 : (c : Dev Cert.AdamDownIdeal.nD) → Buf (Elt Ideal) ((c.tc : Thread Cert.AdamDownIdeal.nD Cert.AdamDownIdeal.τ).loc Cert.AdamDownIdeal.main_v6_1)) (v2 : (c : Dev Cert.AdamDownIdeal.nD) → Buf (Elt Ideal) ((c.tc : Thread Cert.AdamDownIdeal.nD Cert.AdamDownIdeal.τ).loc Cert.AdamDownIdeal.main_v6_2)) (v3 : (c : Dev Cert.AdamDownIdeal.nD) → Buf (Elt Ideal) ((c.tc : Thread Cert.AdamDownIdeal.nD Cert.AdamDownIdeal.τ).loc Cert.AdamDownIdeal.main_v6_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v6_0) = v0 c
          ∧ r.2.mem ((c.tc : Thread Cert.AdamDownIdeal.nD Cert.AdamDownIdeal.τ).loc Cert.AdamDownIdeal.main_v6_1) = v1 c
          ∧ r.2.mem ((c.tc : Thread Cert.AdamDownIdeal.nD Cert.AdamDownIdeal.τ).loc Cert.AdamDownIdeal.main_v6_2) = v2 c
          ∧ r.2.mem ((c.tc : Thread Cert.AdamDownIdeal.nD Cert.AdamDownIdeal.τ).loc Cert.AdamDownIdeal.main_v6_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
          ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v20) = v0 c
          ∧ r.2.mem ((c.tc : Thread Cert.AdamDownRefIdeal.nD Cert.AdamDownRefIdeal.τ).loc Cert.AdamDownRefIdeal.main_v21) = v1 c
          ∧ r.2.mem ((c.tc : Thread Cert.AdamDownRefIdeal.nD Cert.AdamDownRefIdeal.τ).loc Cert.AdamDownRefIdeal.main_v4) = v2 c
          ∧ r.2.mem ((c.tc : Thread Cert.AdamDownRefIdeal.nD Cert.AdamDownRefIdeal.τ).loc Cert.AdamDownRefIdeal.main_v10) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6)
          ∧ r.2.mem ((c.tc : Thread Cert.AdamDownRefIdeal.nD Cert.AdamDownRefIdeal.τ).loc Cert.AdamDownRefIdeal.main_arg7) = m' ((c.tc : Thread Cert.AdamDownRefIdeal.nD Cert.AdamDownRefIdeal.τ).loc Cert.AdamDownRefIdeal.main_arg7))

def Claim : Prop :=
  ∃ (hMain : Cert.Main.Facts) (hMainIdeal : Cert.MainIdeal.Facts) (hMainRefIdeal : Cert.MainRefIdeal.Facts) (hNorm : Cert.Norm.Facts) (hNormIdeal : Cert.NormIdeal.Facts) (hNormRefIdeal : Cert.NormRefIdeal.Facts) (hDown : Cert.Down.Facts) (hDownIdeal : Cert.DownIdeal.Facts) (hDownRefIdeal : Cert.DownRefIdeal.Facts) (hInput : Cert.Input.Facts) (hInputIdeal : Cert.InputIdeal.Facts) (hInputRefIdeal : Cert.InputRefIdeal.Facts) (hFinish : Cert.Finish.Facts) (hFinishIdeal : Cert.FinishIdeal.Facts) (hFinishRefIdeal : Cert.FinishRefIdeal.Facts) (hAdam : Cert.Adam.Facts) (hAdamIdeal : Cert.AdamIdeal.Facts) (hAdamRefIdeal : Cert.AdamRefIdeal.Facts) (hAdamDown : Cert.AdamDown.Facts) (hAdamDownIdeal : Cert.AdamDownIdeal.Facts) (hAdamDownRefIdeal : Cert.AdamDownRefIdeal.Facts) (hPre_zero_points_fit : Cert.Pre_zero_points_fit.Facts),
    quiescent_Main (hMain := hMain)
    ∧ quiescent_MainIdeal (hMainIdeal := hMainIdeal)
    ∧ quiescent_MainIdeal_pre_zero_points_fit (hMainIdeal := hMainIdeal) (hPre_zero_points_fit := hPre_zero_points_fit)
    ∧ quiescent_MainRefIdeal (hMainRefIdeal := hMainRefIdeal)
    ∧ quiescent_MainRefIdeal_pre_zero_points_fit (hMainRefIdeal := hMainRefIdeal) (hPre_zero_points_fit := hPre_zero_points_fit)
    ∧ quiescent_Norm (hNorm := hNorm)
    ∧ quiescent_NormIdeal (hNormIdeal := hNormIdeal)
    ∧ quiescent_NormRefIdeal (hNormRefIdeal := hNormRefIdeal)
    ∧ quiescent_Down (hDown := hDown)
    ∧ quiescent_DownIdeal (hDownIdeal := hDownIdeal)
    ∧ quiescent_DownRefIdeal (hDownRefIdeal := hDownRefIdeal)
    ∧ quiescent_Input (hInput := hInput)
    ∧ quiescent_InputIdeal (hInputIdeal := hInputIdeal)
    ∧ quiescent_InputRefIdeal (hInputRefIdeal := hInputRefIdeal)
    ∧ quiescent_Finish (hFinish := hFinish)
    ∧ quiescent_FinishIdeal (hFinishIdeal := hFinishIdeal)
    ∧ quiescent_FinishRefIdeal (hFinishRefIdeal := hFinishRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Main_MainIdeal
    ∧ algebraic_MainIdeal_MainRefIdeal_pre_zero_points_fit (hMainIdeal := hMainIdeal) (hMainRefIdeal := hMainRefIdeal) (hPre_zero_points_fit := hPre_zero_points_fit)
    ∧ preserves_Norm_NormIdeal
    ∧ algebraic_NormIdeal_NormRefIdeal (hNormIdeal := hNormIdeal) (hNormRefIdeal := hNormRefIdeal)
    ∧ preserves_Down_DownIdeal
    ∧ algebraic_DownIdeal_DownRefIdeal (hDownIdeal := hDownIdeal) (hDownRefIdeal := hDownRefIdeal)
    ∧ preserves_Input_InputIdeal
    ∧ algebraic_InputIdeal_InputRefIdeal (hInputIdeal := hInputIdeal) (hInputRefIdeal := hInputRefIdeal)
    ∧ preserves_Finish_FinishIdeal
    ∧ algebraic_FinishIdeal_FinishRefIdeal (hFinishIdeal := hFinishIdeal) (hFinishRefIdeal := hFinishRefIdeal)
    ∧ preserves_Adam_AdamIdeal
    ∧ algebraic_AdamIdeal_AdamRefIdeal (hAdamIdeal := hAdamIdeal) (hAdamRefIdeal := hAdamRefIdeal)
    ∧ preserves_AdamDown_AdamDownIdeal
    ∧ algebraic_AdamDownIdeal_AdamDownRefIdeal (hAdamDownIdeal := hAdamDownIdeal) (hAdamDownRefIdeal := hAdamDownRefIdeal)
-- ==== Pre_zero_points_fit.lean ====
abbrev S1536x3584 : Shape := ⟨2, ![1536, 3584]⟩
abbrev S3x18944x112 : Shape := ⟨3, ![3, 18944, 112]⟩
abbrev S18944x28 : Shape := ⟨2, ![18944, 28]⟩
abbrev S3x3584x592 : Shape := ⟨3, ![3, 3584, 592]⟩
abbrev S3584x148 : Shape := ⟨2, ![3584, 148]⟩
abbrev S_ : Shape := ⟨0, ![]⟩

class Facts : Prop where
  bcast_S_S18944x28 : S_.BroadcastsInDim S18944x28 (![] : Fin 0 → Fin S18944x28.rank)
  bcast_S_S3584x148 : S_.BroadcastsInDim S3584x148 (![] : Fin 0 → Fin S3584x148.rank)

variable [Facts]

def fn {F : FTy → Type} [FloatOps F] (main_arg0 : FVec F S1536x3584 .bf16) (main_arg1 : FVec F S1536x3584 .bf16) (main_arg2 : IVec S3x18944x112 32) (main_arg3 : IVec S18944x28 8) (main_arg4 : FVec F S18944x28 .f32) (main_arg5 : IVec S3x18944x112 32) (main_arg6 : IVec S18944x28 8) (main_arg7 : FVec F S18944x28 .f32) (main_arg8 : IVec S3x3584x592 32) (main_arg9 : IVec S3584x148 8) (main_arg10 : FVec F S3584x148 .f32) : IVec S18944x28 1 × IVec S18944x28 1 × IVec S3584x148 1 :=
  let main_c : IVec S_ 8 := constantI S_ 8 128#8
  let main_v0 : IVec S18944x28 8 := broadcastInDim S18944x28 ![] bcast_S_S18944x28 main_c
  let main_v1 : IVec S18944x28 1 := cmpi .ule main_arg3 main_v0
  let main_c_0 : IVec S_ 8 := constantI S_ 8 128#8
  let main_v2 : IVec S18944x28 8 := broadcastInDim S18944x28 ![] bcast_S_S18944x28 main_c_0
  let main_v3 : IVec S18944x28 1 := cmpi .ule main_arg6 main_v2
  let main_c_1 : IVec S_ 8 := constantI S_ 8 128#8
  let main_v4 : IVec S3584x148 8 := broadcastInDim S3584x148 ![] bcast_S_S3584x148 main_c_1
  let main_v5 : IVec S3584x148 1 := cmpi .ule main_arg9 main_v4
  (main_v1, main_v3, main_v5)
-- ==== Main.lean ====
abbrev S1536x3584 : Shape := ⟨2, ![1536, 3584]⟩
abbrev S3x18944x112 : Shape := ⟨3, ![3, 18944, 112]⟩
abbrev S18944x28 : Shape := ⟨2, ![18944, 28]⟩
abbrev S3x3584x592 : Shape := ⟨3, ![3, 3584, 592]⟩
abbrev S3584x148 : Shape := ⟨2, ![3584, 148]⟩
abbrev S3x112x18944 : Shape := ⟨3, ![3, 112, 18944]⟩
abbrev S28x18944 : Shape := ⟨2, ![28, 18944]⟩
abbrev S3x592x3584 : Shape := ⟨3, ![3, 592, 3584]⟩
abbrev S148x3584 : Shape := ⟨2, ![148, 3584]⟩
abbrev S3x74x8x3584 : Shape := ⟨4, ![3, 74, 8, 3584]⟩
abbrev S74x2x3584 : Shape := ⟨3, ![74, 2, 3584]⟩
abbrev S1536x18944 : Shape := ⟨2, ![1536, 18944]⟩
abbrev S3584x18944 : Shape := ⟨2, ![3584, 18944]⟩
abbrev S18944x3584 : Shape := ⟨2, ![18944, 3584]⟩
abbrev S7x4x18944 : Shape := ⟨3, ![7, 4, 18944]⟩
abbrev S3x112x256 : Shape := ⟨3, ![3, 112, 256]⟩
abbrev S28x256 : Shape := ⟨2, ![28, 256]⟩
abbrev S3x1x8x3584 : Shape := ⟨4, ![3, 1, 8, 3584]⟩
abbrev S1x2x3584 : Shape := ⟨3, ![1, 2, 3584]⟩
abbrev S1536x256 : Shape := ⟨2, ![1536, 256]⟩
abbrev S3584x256 : Shape := ⟨2, ![3584, 256]⟩
abbrev S256x3584 : Shape := ⟨2, ![256, 3584]⟩
abbrev S7x4x256 : Shape := ⟨3, ![7, 4, 256]⟩
abbrev S32x256 : Shape := ⟨2, ![32, 256]⟩
abbrev S1x1x256 : Shape := ⟨3, ![1, 1, 256]⟩
abbrev S1x256 : Shape := ⟨2, ![1, 256]⟩
abbrev S32x3584 : Shape := ⟨2, ![32, 3584]⟩
abbrev S3x8x3584 : Shape := ⟨3, ![3, 8, 3584]⟩
abbrev S1x1x3584 : Shape := ⟨3, ![1, 1, 3584]⟩
abbrev S1x3584 : Shape := ⟨2, ![1, 3584]⟩
abbrev S2x3584 : Shape := ⟨2, ![2, 3584]⟩
abbrev S512x3584 : Shape := ⟨2, ![512, 3584]⟩
abbrev S512x256 : Shape := ⟨2, ![512, 256]⟩
abbrev S1536x512 : Shape := ⟨2, ![1536, 512]⟩
abbrev S128x256 : Shape := ⟨2, ![128, 256]⟩
abbrev S256 : Shape := ⟨1, ![256]⟩
abbrev S256x512 : Shape := ⟨2, ![256, 512]⟩
abbrev S128x512 : Shape := ⟨2, ![128, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 35
  | .vmem => 41
  | .smem => 0
  | _ => 0

abbrev bufTy : (tb : Table) → Fin (tcTables nBuf tb) → BufTy
  | .hbm, ⟨0, _⟩ => ⟨S1536x3584, .bf16⟩
  | .hbm, ⟨1, _⟩ => ⟨S1536x3584, .bf16⟩
  | .hbm, ⟨2, _⟩ => ⟨S3x18944x112, .i32⟩
  | .hbm, ⟨3, _⟩ => ⟨S18944x28, .i8⟩
  | .hbm, ⟨4, _⟩ => ⟨S18944x28, .f32⟩
  | .hbm, ⟨5, _⟩ => ⟨S3x18944x112, .i32⟩
  | .hbm, ⟨6, _⟩ => ⟨S18944x28, .i8⟩
  | .hbm, ⟨7, _⟩ => ⟨S18944x28, .f32⟩
  | .hbm, ⟨8, _⟩ => ⟨S3x3584x592, .i32⟩
  | .hbm, ⟨9, _⟩ => ⟨S3584x148, .i8⟩
  | .hbm, ⟨10, _⟩ => ⟨S3584x148, .f32⟩
  | .hbm, ⟨11, _⟩ => ⟨S3x112x18944, .i32⟩
  | .hbm, ⟨12, _⟩ => ⟨S28x18944, .i8⟩
  | .hbm, ⟨13, _⟩ => ⟨S28x18944, .i32⟩
  | .hbm, ⟨14, _⟩ => ⟨S28x18944, .f32⟩
  | .hbm, ⟨15, _⟩ => ⟨S3x112x18944, .i32⟩
  | .hbm, ⟨16, _⟩ => ⟨S28x18944, .i8⟩
  | .hbm, ⟨17, _⟩ => ⟨S28x18944, .i32⟩
  | .hbm, ⟨18, _⟩ => ⟨S28x18944, .f32⟩
  | .hbm, ⟨19, _⟩ => ⟨S3x592x3584, .i32⟩
  | .hbm, ⟨20, _⟩ => ⟨S148x3584, .i8⟩
  | .hbm, ⟨21, _⟩ => ⟨S148x3584, .i32⟩
  | .hbm, ⟨22, _⟩ => ⟨S148x3584, .f32⟩
  | .hbm, ⟨23, _⟩ => ⟨S3x74x8x3584, .i32⟩
  | .hbm, ⟨24, _⟩ => ⟨S74x2x3584, .i32⟩
  | .hbm, ⟨25, _⟩ => ⟨S74x2x3584, .f32⟩
  | .hbm, ⟨26, _⟩ => ⟨S1536x18944, .bf16⟩
  | .hbm, ⟨27, _⟩ => ⟨S1536x18944, .bf16⟩
  | .hbm, ⟨28, _⟩ => ⟨S1536x18944, .bf16⟩
  | .hbm, ⟨29, _⟩ => ⟨S3584x18944, .bf16⟩
  | .hbm, ⟨30, _⟩ => ⟨S3584x18944, .bf16⟩
  | .hbm, ⟨31, _⟩ => ⟨S18944x3584, .bf16⟩
  | .hbm, ⟨32, _⟩ => ⟨S7x4x18944, .f32⟩
  | .hbm, ⟨33, _⟩ => ⟨S7x4x18944, .f32⟩
  | .hbm, ⟨34, _⟩ => ⟨S74x2x3584, .f32⟩
  | .local _ .vmem, ⟨0, _⟩ => ⟨S1536x3584, .bf16⟩
  | .local _ .vmem, ⟨1, _⟩ => ⟨S1536x3584, .bf16⟩
  | .local _ .vmem, ⟨2, _⟩ => ⟨S3x112x256, .i32⟩
  | .local _ .vmem, ⟨3, _⟩ => ⟨S3x112x256, .i32⟩
  | .local _ .vmem, ⟨4, _⟩ => ⟨S28x256, .i32⟩
  | .local _ .vmem, ⟨5, _⟩ => ⟨S28x256, .i32⟩
  | .local _ .vmem, ⟨6, _⟩ => ⟨S28x256, .f32⟩
  | .local _ .vmem, ⟨7, _⟩ => ⟨S28x256, .f32⟩
  | .local _ .vmem, ⟨8, _⟩ => ⟨S3x112x256, .i32⟩
  | .local _ .vmem, ⟨9, _⟩ => ⟨S3x112x256, .i32⟩
  | .local _ .vmem, ⟨10, _⟩ => ⟨S28x256, .i32⟩
  | .local _ .vmem, ⟨11, _⟩ => ⟨S28x256, .i32⟩
  | .local _ .vmem, ⟨12, _⟩ => ⟨S28x256, .f32⟩
  | .local _ .vmem, ⟨13, _⟩ => ⟨S28x256, .f32⟩
  | .local _ .vmem, ⟨14, _⟩ => ⟨S3x1x8x3584, .i32⟩
  | .local _ .vmem, ⟨15, _⟩ => ⟨S3x1x8x3584, .i32⟩
  | .local _ .vmem, ⟨16, _⟩ => ⟨S1x2x3584, .i32⟩
  | .local _ .vmem, ⟨17, _⟩ => ⟨S1x2x3584, .i32⟩
  | .local _ .vmem, ⟨18, _⟩ => ⟨S1x2x3584, .f32⟩
  | .local _ .vmem, ⟨19, _⟩ => ⟨S1x2x3584, .f32⟩
  | .local _ .vmem, ⟨20, _⟩ => ⟨S1536x256, .bf16⟩
  | .local _ .vmem, ⟨21, _⟩ => ⟨S1536x256, .bf16⟩
  | .local _ .vmem, ⟨22, _⟩ => ⟨S1536x256, .bf16⟩
  | .local _ .vmem, ⟨23, _⟩ => ⟨S1536x256, .bf16⟩
  | .local _ .vmem, ⟨24, _⟩ => ⟨S1536x256, .bf16⟩
  | .local _ .vmem, ⟨25, _⟩ => ⟨S1536x256, .bf16⟩
  | .local _ .vmem, ⟨26, _⟩ => ⟨S3584x256, .bf16⟩
  | .local _ .vmem, ⟨27, _⟩ => ⟨S3584x256, .bf16⟩
  | .local _ .vmem, ⟨28, _⟩ => ⟨S3584x256, .bf16⟩
  | .local _ .vmem, ⟨29, _⟩ => ⟨S3584x256, .bf16⟩
  | .local _ .vmem, ⟨30, _⟩ => ⟨S256x3584, .bf16⟩
  | .local _ .vmem, ⟨31, _⟩ => ⟨S256x3584, .bf16⟩
  | .local _ .vmem, ⟨32, _⟩ => ⟨S7x4x256, .f32⟩
  | .local _ .vmem, ⟨33, _⟩ => ⟨S7x4x256, .f32⟩
  | .local _ .vmem, ⟨34, _⟩ => ⟨S7x4x256, .f32⟩
  | .local _ .vmem, ⟨35, _⟩ => ⟨S7x4x256, .f32⟩
  | .local _ .vmem, ⟨36, _⟩ => ⟨S1x2x3584, .f32⟩
  | .local _ .vmem, ⟨37, _⟩ => ⟨S1x2x3584, .f32⟩
  | .local _ .vmem, ⟨38, _⟩ => ⟨S3584x256, .i8⟩
  | .local _ .vmem, ⟨39, _⟩ => ⟨S3584x256, .i8⟩
  | .local _ .vmem, ⟨40, _⟩ => ⟨S256x3584, .i8⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v15_7 : Ref sig .tc := ⟨.hbm, 33, rfl⟩
abbrev main_v15_8 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![74], ![false]⟩

@[reducible] def k0_t1_loop : Scf.Loop 32 :=
  let c0_i32 : BitVec 32 := 0#32
  let c112_i32 : BitVec 32 := 112#32
  let v1 : BitVec 32 := Scalar.addi c0_i32 c112_i32
  let c1_i32 : BitVec 32 := 1#32
  ⟨c0_i32, v1, c1_i32⟩
def k0_off1 (k0_t1 : Fin k0_t1_loop.trips) : Fin 3 → Nat :=
  let c0 : Index := 0#32
  let c0_i32_18 : BitVec 32 := 0#32
  let c0_i32 : BitVec 32 := 0#32
  let c1_i32 : BitVec 32 := 1#32
  let arg24 : BitVec 32 := Scf.iv c0_i32 c1_i32 k0_t1
  let c1_i32_17 : BitVec 32 := 1#32
  let v8 : BitVec 32 := Scalar.muli arg24 c1_i32_17
  let v9 : BitVec 32 := Scalar.addi c0_i32_18 v8
  let v27 : Index := Scalar.indexCast v9
  let c0_25 : Index := 0#32
  ![0, v27.toNat, 0]
def k0_off2 (k0_t1 : Fin k0_t1_loop.trips) : Fin 3 → Nat :=
  let c1 : Index := 1#32
  let c0_i32_18 : BitVec 32 := 0#32
  let c0_i32 : BitVec 32 := 0#32
  let c1_i32 : BitVec 32 := 1#32
  let arg24 : BitVec 32 := Scf.iv c0_i32 c1_i32 k0_t1
  let c1_i32_17 : BitVec 32 := 1#32
  let v8 : BitVec 32 := Scalar.muli arg24 c1_i32_17
  let v9 : BitVec 32 := Scalar.addi c0_i32_18 v8
  let v37 : Index := Scalar.indexCast v9
  let c0_28 : Index := 0#32
  ![1, v37.toNat, 0]
def k0_off3 (k0_t1 : Fin k0_t1_loop.trips) : Fin 3 → Nat :=
  let c2 : Index := 2#32
  let c0_i32_18 : BitVec 32 := 0#32
  let c0_i32 : BitVec 32 := 0#32
  let c1_i32 : BitVec 32 := 1#32
  let arg24 : BitVec 32 := Scf.iv c0_i32 c1_i32 k0_t1
  let c1_i32_17 : BitVec 32 := 1#32
  let v8 : BitVec 32 := Scalar.muli arg24 c1_i32_17
  let v9 : BitVec 32 := Scalar.addi c0_i32_18 v8
  let v48 : Index := Scalar.indexCast v9
  let c0_31 : Index := 0#32
  ![2, v48.toNat, 0]
def k0_off4 (k0_t1 : Fin k0_t1_loop.trips) : Fin 2 → Nat :=
  let c0_i32_18 : BitVec 32 := 0#32
  let c0_i32 : BitVec 32 := 0#32
  let c1_i32 : BitVec 32 := 1#32
  let arg24 : BitVec 32 := Scf.iv c0_i32 c1_i32 k0_t1
  let c1_i32_17 : BitVec 32 := 1#32
  let v8 : BitVec 32 := Scalar.muli arg24 c1_i32_17
  let v9 : BitVec 32 := Scalar.addi c0_i32_18 v8
  let c0_i32_19 : BitVec 32 := 0#32
  let v11 : BitVec 1 := Scalar.cmpi .sgt v9 c0_i32_19
  let v12 : BitVec 32 := Scalar.extui v11
  let c0_i32_20 : BitVec 32 := 0#32
  let v13 : BitVec 1 := Scalar.cmpi .slt v9 c0_i32_20
  let v14 : BitVec 32 := Scalar.extui v13
  let v15 : BitVec 32 := Scalar.subi v12 v14
  let c4_i32 : BitVec 32 := 4#32
  let c0_i32_21 : BitVec 32 := 0#32
  let v16 : BitVec 1 := Scalar.cmpi .sgt c4_i32 c0_i32_21
  let v17 : BitVec 32 := Scalar.extui v16
  let c0_i32_22 : BitVec 32 := 0#32
  let v18 : BitVec 1 := Scalar.cmpi .slt c4_i32 c0_i32_22
  let v19 : BitVec 32 := Scalar.extui v18
  let v20 : BitVec 32 := Scalar.subi v17 v19
  let v21 : BitVec 1 := Scalar.cmpi .ne v15 v20
  let v22 : BitVec 32 := Scalar.remsi v9 c4_i32
  let c0_i32_23 : BitVec 32 := 0#32
  let v23 : BitVec 1 := Scalar.cmpi .ne v22 c0_i32_23
  let v24 : BitVec 1 := Scalar.andi v21 v23
  let v10 : BitVec 32 := Scalar.divsi v9 c4_i32
  let c1_i32_24 : BitVec 32 := 1#32
  let v25 : BitVec 32 := Scalar.subi v10 c1_i32_24
  let v26 : BitVec 32 := Scalar.select v24 v25 v10
  let v59 : Index := Scalar.indexCast v26
  let c0_33 : Index := 0#32
  ![v59.toNat, 0]
def k0_mult1 (k0_t1 : Fin k0_t1_loop.trips) : BitVec 32 :=
  let c0_i32_18 : BitVec 32 := 0#32
  let c0_i32 : BitVec 32 := 0#32
  let c1_i32 : BitVec 32 := 1#32
  let arg24 : BitVec 32 := Scf.iv c0_i32 c1_i32 k0_t1
  let c1_i32_17 : BitVec 32 := 1#32
  let v8 : BitVec 32 := Scalar.muli arg24 c1_i32_17
  let v9 : BitVec 32 := Scalar.addi c0_i32_18 v8
  let c32_i32 : BitVec 32 := 32#32
  let v65 : BitVec 32 := Scalar.muli v9 c32_i32
  v65
def k0_off5 (k0_t1 : Fin k0_t1_loop.trips) : Fin 2 → Nat :=
  let c0_i32_18 : BitVec 32 := 0#32
  let c0_i32 : BitVec 32 := 0#32
  let c1_i32 : BitVec 32 := 1#32
  let arg24 : BitVec 32 := Scf.iv c0_i32 c1_i32 k0_t1
  let c1_i32_17 : BitVec 32 := 1#32
  let v8 : BitVec 32 := Scalar.muli arg24 c1_i32_17
  let v9 : BitVec 32 := Scalar.addi c0_i32_18 v8
  let c32_i32 : BitVec 32 := 32#32
  let v65 : BitVec 32 := Scalar.muli v9 c32_i32
  let v66 : BitVec 32 := v65
  let v75 : Index := Scalar.indexCast v66
  let c0_35 : Index := 0#32
  ![v75.toNat, 0]
@[reducible] def k0_t2_loop : Scf.Loop 32 :=
  let c0_i32_1 : BitVec 32 := 0#32
  let c112_i32_2 : BitVec 32 := 112#32
  let v3 : BitVec 32 := Scalar.addi c0_i32_1 c112_i32_2
  let c1_i32_3 : BitVec 32 := 1#32
  ⟨c0_i32_1, v3, c1_i32_3⟩
def k0_off6 (k0_t2 : Fin k0_t2_loop.trips) : Fin 3 → Nat :=
  let c0 : Index := 0#32
  let c0_i32_18 : BitVec 32 := 0#32
  let c0_i32_1 : BitVec 32 := 0#32
  let c1_i32_3 : BitVec 32 := 1#32
  let arg24 : BitVec 32 := Scf.iv c0_i32_1 c1_i32_3 k0_t2
  let c1_i32_17 : BitVec 32 := 1#32
  let v8 : BitVec 32 := Scalar.muli arg24 c1_i32_17
  let v9 : BitVec 32 := Scalar.addi c0_i32_18 v8
  let v27 : Index := Scalar.indexCast v9
  let c0_25 : Index := 0#32
  ![0, v27.toNat, 0]
def k0_off7 (k0_t2 : Fin k0_t2_loop.trips) : Fin 3 → Nat :=
  let c1 : Index := 1#32
  let c0_i32_18 : BitVec 32 := 0#32
  let c0_i32_1 : BitVec 32 := 0#32
  let c1_i32_3 : BitVec 32 := 1#32
  let arg24 : BitVec 32 := Scf.iv c0_i32_1 c1_i32_3 k0_t2
  let c1_i32_17 : BitVec 32 := 1#32
  let v8 : BitVec 32 := Scalar.muli arg24 c1_i32_17
  let v9 : BitVec 32 := Scalar.addi c0_i32_18 v8
  let v37 : Index := Scalar.indexCast v9
  let c0_28 : Index := 0#32
  ![1, v37.toNat, 0]
def k0_off8 (k0_t2 : Fin k0_t2_loop.trips) : Fin 3 → Nat :=
  let c2 : Index := 2#32
  let c0_i32_18 : BitVec 32 := 0#32
  let c0_i32_1 : BitVec 32 := 0#32
  let c1_i32_3 : BitVec 32 := 1#32
  let arg24 : BitVec 32 := Scf.iv c0_i32_1 c1_i32_3 k0_t2
  let c1_i32_17 : BitVec 32 := 1#32
  let v8 : BitVec 32 := Scalar.muli arg24 c1_i32_17
  let v9 : BitVec 32 := Scalar.addi c0_i32_18 v8
  let v48 : Index := Scalar.indexCast v9
  let c0_31 : Index := 0#32
  ![2, v48.toNat, 0]
def k0_off9 (k0_t2 : Fin k0_t2_loop.trips) : Fin 2 → Nat :=
  let c0_i32_18 : BitVec 32 := 0#32
  let c0_i32_1 : BitVec 32 := 0#32
  let c1_i32_3 : BitVec 32 := 1#32
  let arg24 : BitVec 32 := Scf.iv c0_i32_1 c1_i32_3 k0_t2
  let c1_i32_17 : BitVec 32 := 1#32
  let v8 : BitVec 32 := Scalar.muli arg24 c1_i32_17
  let v9 : BitVec 32 := Scalar.addi c0_i32_18 v8
  let c0_i32_19 : BitVec 32 := 0#32
  let v11 : BitVec 1 := Scalar.cmpi .sgt v9 c0_i32_19
  let v12 : BitVec 32 := Scalar.extui v11
  let c0_i32_20 : BitVec 32 := 0#32
  let v13 : BitVec 1 := Scalar.cmpi .slt v9 c0_i32_20
  let v14 : BitVec 32 := Scalar.extui v13
  let v15 : BitVec 32 := Scalar.subi v12 v14
  let c4_i32 : BitVec 32 := 4#32
  let c0_i32_21 : BitVec 32 := 0#32
  let v16 : BitVec 1 := Scalar.cmpi .sgt c4_i32 c0_i32_21
  let v17 : BitVec 32 := Scalar.extui v16
  let c0_i32_22 : BitVec 32 := 0#32
  let v18 : BitVec 1 := Scalar.cmpi .slt c4_i32 c0_i32_22
  let v19 : BitVec 32 := Scalar.extui v18
  let v20 : BitVec 32 := Scalar.subi v17 v19
  let v21 : BitVec 1 := Scalar.cmpi .ne v15 v20
  let v22 : BitVec 32 := Scalar.remsi v9 c4_i32
  let c0_i32_23 : BitVec 32 := 0#32
  let v23 : BitVec 1 := Scalar.cmpi .ne v22 c0_i32_23
  let v24 : BitVec 1 := Scalar.andi v21 v23
  let v10 : BitVec 32 := Scalar.divsi v9 c4_i32
  let c1_i32_24 : BitVec 32 := 1#32
  let v25 : BitVec 32 := Scalar.subi v10 c1_i32_24
  let v26 : BitVec 32 := Scalar.select v24 v25 v10
  let v59 : Index := Scalar.indexCast v26
  let c0_33 : Index := 0#32
  ![v59.toNat, 0]
def k0_mult2 (k0_t2 : Fin k0_t2_loop.trips) : BitVec 32 :=
  let c0_i32_18 : BitVec 32 := 0#32
  let c0_i32_1 : BitVec 32 := 0#32
  let c1_i32_3 : BitVec 32 := 1#32
  let arg24 : BitVec 32 := Scf.iv c0_i32_1 c1_i32_3 k0_t2
  let c1_i32_17 : BitVec 32 := 1#32
  let v8 : BitVec 32 := Scalar.muli arg24 c1_i32_17
  let v9 : BitVec 32 := Scalar.addi c0_i32_18 v8
  let c32_i32 : BitVec 32 := 32#32
  let v65 : BitVec 32 := Scalar.muli v9 c32_i32
  v65
def k0_off10 (k0_t2 : Fin k0_t2_loop.trips) : Fin 2 → Nat :=
  let c0_i32_18 : BitVec 32 := 0#32
  let c0_i32_1 : BitVec 32 := 0#32
  let c1_i32_3 : BitVec 32 := 1#32
  let arg24 : BitVec 32 := Scf.iv c0_i32_1 c1_i32_3 k0_t2
  let c1_i32_17 : BitVec 32 := 1#32
  let v8 : BitVec 32 := Scalar.muli arg24 c1_i32_17
  let v9 : BitVec 32 := Scalar.addi c0_i32_18 v8
  let c32_i32 : BitVec 32 := 32#32
  let v65 : BitVec 32 := Scalar.muli v9 c32_i32
  let v66 : BitVec 32 := v65
  let v75 : Index := Scalar.indexCast v66
  let c0_35 : Index := 0#32
  ![v75.toNat, 0]
@[reducible] def k0_t3_loop : Scf.Loop 32 :=
  let c0_i32_8 : BitVec 32 := 0#32
  let c8_i32 : BitVec 32 := 8#32
  let v5 : BitVec 32 := Scalar.addi c0_i32_8 c8_i32
  let c1_i32_9 : BitVec 32 := 1#32
  ⟨c0_i32_8, v5, c1_i32_9⟩
def k0_off11 (k0_t3 : Fin k0_t3_loop.trips) : Fin 3 → Nat :=
  let c0 : Index := 0#32
  let c0_i32_18 : BitVec 32 := 0#32
  let c0_i32_8 : BitVec 32 := 0#32
  let c1_i32_9 : BitVec 32 := 1#32
  let arg24 : BitVec 32 := Scf.iv c0_i32_8 c1_i32_9 k0_t3
  let c1_i32_17 : BitVec 32 := 1#32
  let v8 : BitVec 32 := Scalar.muli arg24 c1_i32_17
  let v9 : BitVec 32 := Scalar.addi c0_i32_18 v8
  let v29 : Index := Scalar.indexCast v9
  let c0_28 : Index := 0#32
  ![0, v29.toNat, 0]
def k0_off12 (k0_t3 : Fin k0_t3_loop.trips) : Fin 3 → Nat :=
  let c1 : Index := 1#32
  let c0_i32_18 : BitVec 32 := 0#32
  let c0_i32_8 : BitVec 32 := 0#32
  let c1_i32_9 : BitVec 32 := 1#32
  let arg24 : BitVec 32 := Scf.iv c0_i32_8 c1_i32_9 k0_t3
  let c1_i32_17 : BitVec 32 := 1#32
  let v8 : BitVec 32 := Scalar.muli arg24 c1_i32_17
  let v9 : BitVec 32 := Scalar.addi c0_i32_18 v8
  let v41 : Index := Scalar.indexCast v9
  let c0_34 : Index := 0#32
  ![1, v41.toNat, 0]
def k0_off13 (k0_t3 : Fin k0_t3_loop.trips) : Fin 3 → Nat :=
  let c2 : Index := 2#32
  let c0_i32_18 : BitVec 32 := 0#32
  let c0_i32_8 : BitVec 32 := 0#32
  let c1_i32_9 : BitVec 32 := 1#32
  let arg24 : BitVec 32 := Scf.iv c0_i32_8 c1_i32_9 k0_t3
  let c1_i32_17 : BitVec 32 := 1#32
  let v8 : BitVec 32 := Scalar.muli arg24 c1_i32_17
  let v9 : BitVec 32 := Scalar.addi c0_i32_18 v8
  let v54 : Index := Scalar.indexCast v9
  let c0_40 : Index := 0#32
  ![2, v54.toNat, 0]
def k0_off14 (k0_t3 : Fin k0_t3_loop.trips) : Fin 2 → Nat :=
  let c0_i32_18 : BitVec 32 := 0#32
  let c0_i32_8 : BitVec 32 := 0#32
  let c1_i32_9 : BitVec 32 := 1#32
  let arg24 : BitVec 32 := Scf.iv c0_i32_8 c1_i32_9 k0_t3
  let c1_i32_17 : BitVec 32 := 1#32
  let v8 : BitVec 32 := Scalar.muli arg24 c1_i32_17
  let v9 : BitVec 32 := Scalar.addi c0_i32_18 v8
  let c0_i32_19 : BitVec 32 := 0#32
  let v11 : BitVec 1 := Scalar.cmpi .sgt v9 c0_i32_19
  let v12 : BitVec 32 := Scalar.extui v11
  let c0_i32_20 : BitVec 32 := 0#32
  let v13 : BitVec 1 := Scalar.cmpi .slt v9 c0_i32_20
  let v14 : BitVec 32 := Scalar.extui v13
  let v15 : BitVec 32 := Scalar.subi v12 v14
  let c4_i32 : BitVec 32 := 4#32
  let c0_i32_21 : BitVec 32 := 0#32
  let v16 : BitVec 1 := Scalar.cmpi .sgt c4_i32 c0_i32_21
  let v17 : BitVec 32 := Scalar.extui v16
  let c0_i32_22 : BitVec 32 := 0#32
  let v18 : BitVec 1 := Scalar.cmpi .slt c4_i32 c0_i32_22
  let v19 : BitVec 32 := Scalar.extui v18
  let v20 : BitVec 32 := Scalar.subi v17 v19
  let v21 : BitVec 1 := Scalar.cmpi .ne v15 v20
  let v22 : BitVec 32 := Scalar.remsi v9 c4_i32
  let c0_i32_23 : BitVec 32 := 0#32
  let v23 : BitVec 1 := Scalar.cmpi .ne v22 c0_i32_23
  let v24 : BitVec 1 := Scalar.andi v21 v23
  let v10 : BitVec 32 := Scalar.divsi v9 c4_i32
  let c1_i32_24 : BitVec 32 := 1#32
  let v25 : BitVec 32 := Scalar.subi v10 c1_i32_24
  let v26 : BitVec 32 := Scalar.select v24 v25 v10
  let v67 : Index := Scalar.indexCast v26
  let c0_44 : Index := 0#32
  ![v67.toNat, 0]
def k0_mult3 (k0_t3 : Fin k0_t3_loop.trips) : BitVec 32 :=
  let c0_i32_18 : BitVec 32 := 0#32
  let c0_i32_8 : BitVec 32 := 0#32
  let c1_i32_9 : BitVec 32 := 1#32
  let arg24 : BitVec 32 := Scf.iv c0_i32_8 c1_i32_9 k0_t3
  let c1_i32_17 : BitVec 32 := 1#32
  let v8 : BitVec 32 := Scalar.muli arg24 c1_i32_17
  let v9 : BitVec 32 := Scalar.addi c0_i32_18 v8
  let c32_i32 : BitVec 32 := 32#32
  let v73 : BitVec 32 := Scalar.muli v9 c32_i32
  v73
def k0_off15 (k0_t3 : Fin k0_t3_loop.trips) : Fin 2 → Nat :=
  let c0_i32_18 : BitVec 32 := 0#32
  let c0_i32_8 : BitVec 32 := 0#32
  let c1_i32_9 : BitVec 32 := 1#32
  let arg24 : BitVec 32 := Scf.iv c0_i32_8 c1_i32_9 k0_t3
  let c1_i32_17 : BitVec 32 := 1#32
  let v8 : BitVec 32 := Scalar.muli arg24 c1_i32_17
  let v9 : BitVec 32 := Scalar.addi c0_i32_18 v8
  let c32_i32 : BitVec 32 := 32#32
  let v73 : BitVec 32 := Scalar.muli v9 c32_i32
  let v74 : BitVec 32 := v73
  let v85 : Index := Scalar.indexCast v74
  let c0_48 : Index := 0#32
  ![v85.toNat, 0]
@[reducible] def k0_t4_loop : Scf.Loop 32 :=
  let c0_i32_11 : BitVec 32 := 0#32
  let c3_i32 : BitVec 32 := 3#32
  let v6 : BitVec 32 := Scalar.addi c0_i32_11 c3_i32
  let c1_i32_12 : BitVec 32 := 1#32
  ⟨c0_i32_11, v6, c1_i32_12⟩
def k0_mult4 (k0_t4 : Fin k0_t4_loop.trips) : BitVec 32 :=
  let c0_i32_18 : BitVec 32 := 0#32
  let c0_i32_11 : BitVec 32 := 0#32
  let c1_i32_12 : BitVec 32 := 1#32
  let arg24 : BitVec 32 := Scf.iv c0_i32_11 c1_i32_12 k0_t4
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  v10
def k0_off16 (k0_t4 : Fin k0_t4_loop.trips) : Fin 2 → Nat :=
  let c0_i32_18 : BitVec 32 := 0#32
  let c0_i32_11 : BitVec 32 := 0#32
  let c1_i32_12 : BitVec 32 := 1#32
  let arg24 : BitVec 32 := Scf.iv c0_i32_11 c1_i32_12 k0_t4
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  let v11 : BitVec 32 := v10
  let v12 : Index := Scalar.indexCast v11
  let c0 : Index := 0#32
  ![v12.toNat, 0]
def k0_off17 (k0_t4 : Fin k0_t4_loop.trips) : Fin 2 → Nat :=
  let c0_i32_18 : BitVec 32 := 0#32
  let c0_i32_11 : BitVec 32 := 0#32
  let c1_i32_12 : BitVec 32 := 1#32
  let arg24 : BitVec 32 := Scf.iv c0_i32_11 c1_i32_12 k0_t4
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  let v11 : BitVec 32 := v10
  let v31 : Index := Scalar.indexCast v11
  let c0_29 : Index := 0#32
  ![v31.toNat, 0]
@[reducible] def k0_t5_loop : Scf.Loop 32 :=
  let c0_i32_14 : BitVec 32 := 0#32
  let c7_i32 : BitVec 32 := 7#32
  let v7 : BitVec 32 := Scalar.addi c0_i32_14 c7_i32
  let c1_i32_15 : BitVec 32 := 1#32
  ⟨c0_i32_14, v7, c1_i32_15⟩
def k0_mult5 (k0_t5 : Fin k0_t5_loop.trips) : BitVec 32 :=
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  v10
def k0_off18 (k0_t5 : Fin k0_t5_loop.trips) : Fin 2 → Nat :=
  let c0 : Index := 0#32
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  let v11 : BitVec 32 := v10
  let v12 : Index := Scalar.indexCast v11
  ![0, v12.toNat]
def k0_off19 (k0_t5 : Fin k0_t5_loop.trips) : Fin 2 → Nat :=
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  let v11 : BitVec 32 := v10
  let v17 : Index := Scalar.indexCast v11
  let c0_21 : Index := 0#32
  ![v17.toNat, 0]
def k0_off20 (k0_t5 : Fin k0_t5_loop.trips) : Fin 3 → Nat :=
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let v24 : Index := Scalar.indexCast v9
  let c0_23 : Index := 0#32
  let c0_24 : Index := 0#32
  ![v24.toNat, 0, 0]
def k0_off21 (k0_t5 : Fin k0_t5_loop.trips) : Fin 3 → Nat :=
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let v31 : Index := Scalar.indexCast v9
  let c1 : Index := 1#32
  let c0_26 : Index := 0#32
  ![v31.toNat, 1, 0]
def k0_off22 (k0_t5 : Fin k0_t5_loop.trips) : Fin 3 → Nat :=
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let v38 : Index := Scalar.indexCast v9
  let c2 : Index := 2#32
  let c0_28 : Index := 0#32
  ![v38.toNat, 2, 0]
def k0_off23 (k0_t5 : Fin k0_t5_loop.trips) : Fin 3 → Nat :=
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let v45 : Index := Scalar.indexCast v9
  let c3 : Index := 3#32
  let c0_30 : Index := 0#32
  ![v45.toNat, 3, 0]
def k0_off24 (k0_t5 : Fin k0_t5_loop.trips) : Fin 2 → Nat :=
  let c0_52 : Index := 0#32
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  let v11 : BitVec 32 := v10
  let v91 : Index := Scalar.indexCast v11
  ![0, v91.toNat]
def k0_off25 (k0_t5 : Fin k0_t5_loop.trips) : Fin 3 → Nat :=
  let c0_54 : Index := 0#32
  let c0_55 : Index := 0#32
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  let v11 : BitVec 32 := v10
  let v98 : Index := Scalar.indexCast v11
  ![0, 0, v98.toNat]
def k0_off26 (k0_t5 : Fin k0_t5_loop.trips) : Fin 3 → Nat :=
  let c0_57 : Index := 0#32
  let c1_58 : Index := 1#32
  let c0_i32_18 : BitVec 32 := 0#32
  let c0_i32_14 : BitVec 32 := 0#32
  let c1_i32_15 : BitVec 32 := 1#32
  let arg24 : BitVec 32 := Scf.iv c0_i32_14 c1_i32_15 k0_t5
  let c1_i32_17 : BitVec 32 := 1#32
  let v8 : BitVec 32 := Scalar.muli arg24 c1_i32_17
  let v9 : BitVec 32 := Scalar.addi c0_i32_18 v8
  let c512_i32 : BitVec 32 := 512#32
  let v10 : BitVec 32 := Scalar.muli v9 c512_i32
  let v11 : BitVec 32 := v10
  let v105 : Index := Scalar.indexCast v11
  ![0, 1, v105.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1536x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x112x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x112x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S28x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S28x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x1x8x3584 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x3584 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x3584 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1536x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1536x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1536x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3584x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3584x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x3584 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S7x4x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S7x4x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x3584 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MainRefIdeal.lean ====
abbrev S1536x3584 : Shape := ⟨2, ![1536, 3584]⟩
abbrev S3x18944x112 : Shape := ⟨3, ![3, 18944, 112]⟩
abbrev S18944x28 : Shape := ⟨2, ![18944, 28]⟩
abbrev S3x3584x592 : Shape := ⟨3, ![3, 3584, 592]⟩
abbrev S3584x148 : Shape := ⟨2, ![3584, 148]⟩
abbrev S32 : Shape := ⟨1, ![32]⟩
abbrev S32x1x1 : Shape := ⟨3, ![32, 1, 1]⟩
abbrev S1x18944x112 : Shape := ⟨3, ![1, 18944, 112]⟩
abbrev S18944x112 : Shape := ⟨2, ![18944, 112]⟩
abbrev S32x18944x112 : Shape := ⟨3, ![32, 18944, 112]⟩
abbrev S_ : Shape := ⟨0, ![]⟩
abbrev S18944x28x4 : Shape := ⟨3, ![18944, 28, 4]⟩
abbrev S1x3584x592 : Shape := ⟨3, ![1, 3584, 592]⟩
abbrev S3584x592 : Shape := ⟨2, ![3584, 592]⟩
abbrev S32x3584x592 : Shape := ⟨3, ![32, 3584, 592]⟩
abbrev S3584x148x4 : Shape := ⟨3, ![3584, 148, 4]⟩
abbrev S1536x112x32 : Shape := ⟨3, ![1536, 112, 32]⟩
abbrev S1536x18944 : Shape := ⟨2, ![1536, 18944]⟩
abbrev S32x592x1536 : Shape := ⟨3, ![32, 592, 1536]⟩
abbrev S1536x592x32 : Shape := ⟨3, ![1536, 592, 32]⟩
abbrev S112x32x18944 : Shape := ⟨3, ![112, 32, 18944]⟩
abbrev S592x32x3584 : Shape := ⟨3, ![592, 32, 3584]⟩
abbrev S3584x18944 : Shape := ⟨2, ![3584, 18944]⟩
abbrev S18944x3584 : Shape := ⟨2, ![18944, 3584]⟩
abbrev S28x18944 : Shape := ⟨2, ![28, 18944]⟩
abbrev S7x4x18944 : Shape := ⟨3, ![7, 4, 18944]⟩
abbrev S148x3584 : Shape := ⟨2, ![148, 3584]⟩
abbrev S74x2x3584 : Shape := ⟨3, ![74, 2, 3584]⟩

abbrev nBuf : Space → Nat
  | .hbm => 241
  | .vmem => 0
  | .smem => 0
  | _ => 0

abbrev hbmTy0_0 (i : Nat) : BufTy := match i % 128 with
  | 0 => ⟨S1536x3584, .bf16⟩
  | 1 => ⟨S1536x3584, .bf16⟩
  | 2 => ⟨S3x18944x112, .i32⟩
  | 3 => ⟨S18944x28, .i8⟩
  | 4 => ⟨S18944x28, .f32⟩
  | 5 => ⟨S3x18944x112, .i32⟩
  | 6 => ⟨S18944x28, .i8⟩
  | 7 => ⟨S18944x28, .f32⟩
  | 8 => ⟨S3x3584x592, .i32⟩
  | 9 => ⟨S3584x148, .i8⟩
  | 10 => ⟨S3584x148, .f32⟩
  | 11 => ⟨S3x18944x112, .i32⟩
  | 12 => ⟨S32, .i32⟩
  | 13 => ⟨S32x1x1, .i32⟩
  | 14 => ⟨S1x18944x112, .i32⟩
  | 15 => ⟨S18944x112, .i32⟩
  | 16 => ⟨S1x18944x112, .i32⟩
  | 17 => ⟨S32x18944x112, .i32⟩
  | 18 => ⟨S32x18944x112, .i32⟩
  | 19 => ⟨S32x18944x112, .i32⟩
  | 20 => ⟨S_, .i32⟩
  | 21 => ⟨S32x18944x112, .i32⟩
  | 22 => ⟨S32x18944x112, .i32⟩
  | 23 => ⟨S1x18944x112, .i32⟩
  | 24 => ⟨S18944x112, .i32⟩
  | 25 => ⟨S1x18944x112, .i32⟩
  | 26 => ⟨S32x18944x112, .i32⟩
  | 27 => ⟨S32x18944x112, .i32⟩
  | 28 => ⟨S32x18944x112, .i32⟩
  | 29 => ⟨S_, .i32⟩
  | 30 => ⟨S32x18944x112, .i32⟩
  | 31 => ⟨S32x18944x112, .i32⟩
  | 32 => ⟨S_, .i32⟩
  | 33 => ⟨S32x18944x112, .i32⟩
  | 34 => ⟨S32x18944x112, .i32⟩
  | 35 => ⟨S32x18944x112, .i32⟩
  | 36 => ⟨S1x18944x112, .i32⟩
  | 37 => ⟨S18944x112, .i32⟩
  | 38 => ⟨S1x18944x112, .i32⟩
  | 39 => ⟨S32x18944x112, .i32⟩
  | 40 => ⟨S32x18944x112, .i32⟩
  | 41 => ⟨S32x18944x112, .i32⟩
  | 42 => ⟨S_, .i32⟩
  | 43 => ⟨S32x18944x112, .i32⟩
  | 44 => ⟨S32x18944x112, .i32⟩
  | 45 => ⟨S_, .i32⟩
  | 46 => ⟨S32x18944x112, .i32⟩
  | 47 => ⟨S32x18944x112, .i32⟩
  | 48 => ⟨S32x18944x112, .i32⟩
  | 49 => ⟨S18944x28x4, .i8⟩
  | 50 => ⟨S18944x112, .i8⟩
  | 51 => ⟨S18944x112, .i32⟩
  | 52 => ⟨S18944x112, .f32⟩
  | 53 => ⟨S32x18944x112, .i32⟩
  | 54 => ⟨S32x18944x112, .f32⟩
  | 55 => ⟨S1x18944x112, .f32⟩
  | 56 => ⟨S32x18944x112, .f32⟩
  | 57 => ⟨S32x18944x112, .f32⟩
  | 58 => ⟨S3x18944x112, .i32⟩
  | 59 => ⟨S32, .i32⟩
  | 60 => ⟨S32x1x1, .i32⟩
  | 61 => ⟨S1x18944x112, .i32⟩
  | 62 => ⟨S18944x112, .i32⟩
  | 63 => ⟨S1x18944x112, .i32⟩
  | 64 => ⟨S32x18944x112, .i32⟩
  | 65 => ⟨S32x18944x112, .i32⟩
  | 66 => ⟨S32x18944x112, .i32⟩
  | 67 => ⟨S_, .i32⟩
  | 68 => ⟨S32x18944x112, .i32⟩
  | 69 => ⟨S32x18944x112, .i32⟩
  | 70 => ⟨S1x18944x112, .i32⟩
  | 71 => ⟨S18944x112, .i32⟩
  | 72 => ⟨S1x18944x112, .i32⟩
  | 73 => ⟨S32x18944x112, .i32⟩
  | 74 => ⟨S32x18944x112, .i32⟩
  | 75 => ⟨S32x18944x112, .i32⟩
  | 76 => ⟨S_, .i32⟩
  | 77 => ⟨S32x18944x112, .i32⟩
  | 78 => ⟨S32x18944x112, .i32⟩
  | 79 => ⟨S_, .i32⟩
  | 80 => ⟨S32x18944x112, .i32⟩
  | 81 => ⟨S32x18944x112, .i32⟩
  | 82 => ⟨S32x18944x112, .i32⟩
  | 83 => ⟨S1x18944x112, .i32⟩
  | 84 => ⟨S18944x112, .i32⟩
  | 85 => ⟨S1x18944x112, .i32⟩
  | 86 => ⟨S32x18944x112, .i32⟩
  | 87 => ⟨S32x18944x112, .i32⟩
  | 88 => ⟨S32x18944x112, .i32⟩
  | 89 => ⟨S_, .i32⟩
  | 90 => ⟨S32x18944x112, .i32⟩
  | 91 => ⟨S32x18944x112, .i32⟩
  | 92 => ⟨S_, .i32⟩
  | 93 => ⟨S32x18944x112, .i32⟩
  | 94 => ⟨S32x18944x112, .i32⟩
  | 95 => ⟨S32x18944x112, .i32⟩
  | 96 => ⟨S18944x28x4, .i8⟩
  | 97 => ⟨S18944x112, .i8⟩
  | 98 => ⟨S18944x112, .i32⟩
  | 99 => ⟨S18944x112, .f32⟩
  | 100 => ⟨S32x18944x112, .i32⟩
  | 101 => ⟨S32x18944x112, .f32⟩
  | 102 => ⟨S1x18944x112, .f32⟩
  | 103 => ⟨S32x18944x112, .f32⟩
  | 104 => ⟨S32x18944x112, .f32⟩
  | 105 => ⟨S3x3584x592, .i32⟩
  | 106 => ⟨S32, .i32⟩
  | 107 => ⟨S32x1x1, .i32⟩
  | 108 => ⟨S1x3584x592, .i32⟩
  | 109 => ⟨S3584x592, .i32⟩
  | 110 => ⟨S1x3584x592, .i32⟩
  | 111 => ⟨S32x3584x592, .i32⟩
  | 112 => ⟨S32x3584x592, .i32⟩
  | 113 => ⟨S32x3584x592, .i32⟩
  | 114 => ⟨S_, .i32⟩
  | 115 => ⟨S32x3584x592, .i32⟩
  | 116 => ⟨S32x3584x592, .i32⟩
  | 117 => ⟨S1x3584x592, .i32⟩
  | 118 => ⟨S3584x592, .i32⟩
  | 119 => ⟨S1x3584x592, .i32⟩
  | 120 => ⟨S32x3584x592, .i32⟩
  | 121 => ⟨S32x3584x592, .i32⟩
  | 122 => ⟨S32x3584x592, .i32⟩
  | 123 => ⟨S_, .i32⟩
  | 124 => ⟨S32x3584x592, .i32⟩
  | 125 => ⟨S32x3584x592, .i32⟩
  | 126 => ⟨S_, .i32⟩
  | 127 => ⟨S32x3584x592, .i32⟩
  | _ => ⟨S1536x3584, .bf16⟩

abbrev hbmTy0_1 (i : Nat) : BufTy := match i % 128 with
  | 0 => ⟨S32x3584x592, .i32⟩
  | 1 => ⟨S32x3584x592, .i32⟩
  | 2 => ⟨S1x3584x592, .i32⟩
  | 3 => ⟨S3584x592, .i32⟩
  | 4 => ⟨S1x3584x592, .i32⟩
  | 5 => ⟨S32x3584x592, .i32⟩
  | 6 => ⟨S32x3584x592, .i32⟩
  | 7 => ⟨S32x3584x592, .i32⟩
  | 8 => ⟨S_, .i32⟩
  | 9 => ⟨S32x3584x592, .i32⟩
  | 10 => ⟨S32x3584x592, .i32⟩
  | 11 => ⟨S_, .i32⟩
  | 12 => ⟨S32x3584x592, .i32⟩
  | 13 => ⟨S32x3584x592, .i32⟩
  | 14 => ⟨S32x3584x592, .i32⟩
  | 15 => ⟨S3584x148x4, .i8⟩
  | 16 => ⟨S3584x592, .i8⟩
  | 17 => ⟨S3584x592, .i32⟩
  | 18 => ⟨S3584x592, .f32⟩
  | 19 => ⟨S32x3584x592, .i32⟩
  | 20 => ⟨S32x3584x592, .f32⟩
  | 21 => ⟨S1x3584x592, .f32⟩
  | 22 => ⟨S32x3584x592, .f32⟩
  | 23 => ⟨S32x3584x592, .f32⟩
  | 24 => ⟨S18944x28x4, .f32⟩
  | 25 => ⟨S18944x112, .f32⟩
  | 26 => ⟨S1x18944x112, .f32⟩
  | 27 => ⟨S32x18944x112, .f32⟩
  | 28 => ⟨S32x18944x112, .f32⟩
  | 29 => ⟨S32x18944x112, .bf16⟩
  | 30 => ⟨S18944x28x4, .f32⟩
  | 31 => ⟨S18944x112, .f32⟩
  | 32 => ⟨S1x18944x112, .f32⟩
  | 33 => ⟨S32x18944x112, .f32⟩
  | 34 => ⟨S32x18944x112, .f32⟩
  | 35 => ⟨S32x18944x112, .bf16⟩
  | 36 => ⟨S3584x148x4, .f32⟩
  | 37 => ⟨S3584x592, .f32⟩
  | 38 => ⟨S1x3584x592, .f32⟩
  | 39 => ⟨S32x3584x592, .f32⟩
  | 40 => ⟨S32x3584x592, .f32⟩
  | 41 => ⟨S32x3584x592, .bf16⟩
  | 42 => ⟨S1536x112x32, .bf16⟩
  | 43 => ⟨S1536x18944, .f32⟩
  | 44 => ⟨S1536x112x32, .bf16⟩
  | 45 => ⟨S1536x18944, .f32⟩
  | 46 => ⟨S1536x18944, .f32⟩
  | 47 => ⟨S1536x18944, .f32⟩
  | 48 => ⟨S_, .f32⟩
  | 49 => ⟨S1536x18944, .f32⟩
  | 50 => ⟨S1536x18944, .f32⟩
  | 51 => ⟨S_, .f32⟩
  | 52 => ⟨S1536x18944, .f32⟩
  | 53 => ⟨S1536x18944, .f32⟩
  | 54 => ⟨S1536x18944, .f32⟩
  | 55 => ⟨S1536x18944, .f32⟩
  | 56 => ⟨S1536x18944, .bf16⟩
  | 57 => ⟨S32x592x1536, .f32⟩
  | 58 => ⟨S1536x592x32, .f32⟩
  | 59 => ⟨S1536x18944, .f32⟩
  | 60 => ⟨S1536x18944, .f32⟩
  | 61 => ⟨S1536x18944, .f32⟩
  | 62 => ⟨S_, .f32⟩
  | 63 => ⟨S1536x18944, .f32⟩
  | 64 => ⟨S1536x18944, .f32⟩
  | 65 => ⟨S1536x18944, .f32⟩
  | 66 => ⟨S_, .f32⟩
  | 67 => ⟨S1536x18944, .f32⟩
  | 68 => ⟨S1536x18944, .f32⟩
  | 69 => ⟨S1536x18944, .f32⟩
  | 70 => ⟨S1536x18944, .bf16⟩
  | 71 => ⟨S1536x18944, .f32⟩
  | 72 => ⟨S1536x18944, .f32⟩
  | 73 => ⟨S1536x18944, .bf16⟩
  | 74 => ⟨S1536x112x32, .bf16⟩
  | 75 => ⟨S112x32x18944, .f32⟩
  | 76 => ⟨S32x18944x112, .f32⟩
  | 77 => ⟨S32x18944x112, .f32⟩
  | 78 => ⟨S_, .f32⟩
  | 79 => ⟨S18944x112, .f32⟩
  | 80 => ⟨S18944x28x4, .f32⟩
  | 81 => ⟨S_, .f32⟩
  | 82 => ⟨S18944x28, .f32⟩
  | 83 => ⟨S1536x112x32, .bf16⟩
  | 84 => ⟨S112x32x18944, .f32⟩
  | 85 => ⟨S32x18944x112, .f32⟩
  | 86 => ⟨S32x18944x112, .f32⟩
  | 87 => ⟨S_, .f32⟩
  | 88 => ⟨S18944x112, .f32⟩
  | 89 => ⟨S18944x28x4, .f32⟩
  | 90 => ⟨S_, .f32⟩
  | 91 => ⟨S18944x28, .f32⟩
  | 92 => ⟨S1536x592x32, .bf16⟩
  | 93 => ⟨S592x32x3584, .f32⟩
  | 94 => ⟨S32x3584x592, .f32⟩
  | 95 => ⟨S32x3584x592, .f32⟩
  | 96 => ⟨S_, .f32⟩
  | 97 => ⟨S3584x592, .f32⟩
  | 98 => ⟨S3584x148x4, .f32⟩
  | 99 => ⟨S_, .f32⟩
  | 100 => ⟨S3584x148, .f32⟩
  | 101 => ⟨S112x32x18944, .bf16⟩
  | 102 => ⟨S3584x18944, .bf16⟩
  | 103 => ⟨S112x32x18944, .bf16⟩
  | 104 => ⟨S3584x18944, .bf16⟩
  | 105 => ⟨S592x32x3584, .bf16⟩
  | 106 => ⟨S18944x3584, .bf16⟩
  | 107 => ⟨S28x18944, .f32⟩
  | 108 => ⟨S7x4x18944, .f32⟩
  | 109 => ⟨S28x18944, .f32⟩
  | 110 => ⟨S7x4x18944, .f32⟩
  | 111 => ⟨S148x3584, .f32⟩
  | 112 => ⟨S74x2x3584, .f32⟩
  | _ => ⟨S1536x3584, .bf16⟩

abbrev hbmTy (i : Nat) : BufTy := match i / 128 with
  | 0 => hbmTy0_0 i
  | 1 => hbmTy0_1 i
  | _ => ⟨S1536x3584, .bf16⟩

abbrev bufTy : (tb : Table) → Fin (tcTables nBuf tb) → BufTy
  | .hbm, ⟨i, _⟩ => hbmTy i
  | _, _ => ⟨S1536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_5 : Ref sig .tc := ⟨.hbm, 76, rfl⟩
abbrev main_v59 : Ref sig .tc := ⟨.hbm, 77, rfl⟩
abbrev main_v60 : Ref sig .tc := ⟨.hbm, 78, rfl⟩
abbrev main_c_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_7 : Ref sig .tc := ⟨.hbm, 89, rfl⟩
abbrev main_v70 : Ref sig .tc := ⟨.hbm, 90, rfl⟩
abbrev main_v71 : Ref sig .tc := ⟨.hbm, 91, rfl⟩
abbrev main_c_8 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_c_9 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_c_10 : Ref sig .tc := ⟨.hbm, 123, rfl⟩
abbrev main_v101 : Ref sig .tc := ⟨.hbm, 124, rfl⟩
abbrev main_v102 : Ref sig .tc := ⟨.hbm, 125, rfl⟩
abbrev main_c_11 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_c_12 : Ref sig .tc := ⟨.hbm, 136, rfl⟩
abbrev main_v112 : Ref sig .tc := ⟨.hbm, 137, rfl⟩
abbrev main_v113 : Ref sig .tc := ⟨.hbm, 138, rfl⟩
abbrev main_c_13 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst : Ref sig .tc := ⟨.hbm, 176, rfl⟩
abbrev main_v150 : Ref sig .tc := ⟨.hbm, 177, rfl⟩
abbrev main_v151 : Ref sig .tc := ⟨.hbm, 178, rfl⟩
abbrev main_cst_14 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_cst_15 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_cst_16 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_cst_17 : Ref sig .tc := ⟨.hbm, 206, rfl⟩
abbrev main_v176 : Ref sig .tc := ⟨.hbm, 207, rfl⟩
abbrev main_v177 : Ref sig .tc := ⟨.hbm, 208, rfl⟩
abbrev main_cst_18 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_cst_19 : Ref sig .tc := ⟨.hbm, 215, rfl⟩
abbrev main_v183 : Ref sig .tc := ⟨.hbm, 216, rfl⟩
abbrev main_v184 : Ref sig .tc := ⟨.hbm, 217, rfl⟩
abbrev main_cst_20 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_cst_21 : Ref sig .tc := ⟨.hbm, 224, rfl⟩
abbrev main_v190 : Ref sig .tc := ⟨.hbm, 225, rfl⟩
abbrev main_v191 : Ref sig .tc := ⟨.hbm, 226, rfl⟩
abbrev main_cst_22 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩

abbrev nD : Nat := 1
abbrev τ : Topo := Topo.v7x

variable {F : FTy → Type} [FloatOps F]
-- ==== Norm.lean ====
abbrev S1536x3584 : Shape := ⟨2, ![1536, 3584]⟩
abbrev S1x3584 : Shape := ⟨2, ![1, 3584]⟩
abbrev S256x3584 : Shape := ⟨2, ![256, 3584]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S1536x3584, .bf16⟩
  | .hbm, ⟨1, _⟩ => ⟨S1x3584, .f32⟩
  | .hbm, ⟨2, _⟩ => ⟨S1536x3584, .bf16⟩
  | .local _ .vmem, ⟨0, _⟩ => ⟨S256x3584, .bf16⟩
  | .local _ .vmem, ⟨1, _⟩ => ⟨S256x3584, .bf16⟩
  | .local _ .vmem, ⟨2, _⟩ => ⟨S1x3584, .f32⟩
  | .local _ .vmem, ⟨3, _⟩ => ⟨S256x3584, .bf16⟩
  | .local _ .vmem, ⟨4, _⟩ => ⟨S256x3584, .bf16⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S1536x3584 : Shape := ⟨2, ![1536, 3584]⟩
abbrev S1x3584 : Shape := ⟨2, ![1, 3584]⟩
abbrev S_ : Shape := ⟨0, ![]⟩
abbrev S1536 : Shape := ⟨1, ![1536]⟩
abbrev S1536x1 : Shape := ⟨2, ![1536, 1]⟩

abbrev nBuf : Space → Nat
  | .hbm => 22
  | .vmem => 0
  | .smem => 0
  | _ => 0

abbrev bufTy : (tb : Table) → Fin (tcTables nBuf tb) → BufTy
  | .hbm, ⟨0, _⟩ => ⟨S1536x3584, .bf16⟩
  | .hbm, ⟨1, _⟩ => ⟨S1x3584, .f32⟩
  | .hbm, ⟨2, _⟩ => ⟨S1536x3584, .f32⟩
  | .hbm, ⟨3, _⟩ => ⟨S1536x3584, .f32⟩
  | .hbm, ⟨4, _⟩ => ⟨S_, .f32⟩
  | .hbm, ⟨5, _⟩ => ⟨S1536, .f32⟩
  | .hbm, ⟨6, _⟩ => ⟨S1536x1, .f32⟩
  | .hbm, ⟨7, _⟩ => ⟨S_, .f32⟩
  | .hbm, ⟨8, _⟩ => ⟨S1536x1, .f32⟩
  | .hbm, ⟨9, _⟩ => ⟨S1536x1, .f32⟩
  | .hbm, ⟨10, _⟩ => ⟨S_, .f32⟩
  | .hbm, ⟨11, _⟩ => ⟨S1536x1, .f32⟩
  | .hbm, ⟨12, _⟩ => ⟨S1536x1, .f32⟩
  | .hbm, ⟨13, _⟩ => ⟨S1536x1, .f32⟩
  | .hbm, ⟨14, _⟩ => ⟨S_, .f32⟩
  | .hbm, ⟨15, _⟩ => ⟨S1536x1, .f32⟩
  | .hbm, ⟨16, _⟩ => ⟨S1536x1, .f32⟩
  | .hbm, ⟨17, _⟩ => ⟨S1536x3584, .f32⟩
  | .hbm, ⟨18, _⟩ => ⟨S1536x3584, .f32⟩
  | .hbm, ⟨19, _⟩ => ⟨S1536x3584, .f32⟩
  | .hbm, ⟨20, _⟩ => ⟨S1536x3584, .f32⟩
  | .hbm, ⟨21, _⟩ => ⟨S1536x3584, .bf16⟩
  | _, _ => ⟨S1536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Down.lean ====
abbrev S1536x3584 : Shape := ⟨2, ![1536, 3584]⟩
abbrev S1536x18944 : Shape := ⟨2, ![1536, 18944]⟩
abbrev S18944x3584 : Shape := ⟨2, ![18944, 3584]⟩
abbrev S1536x512 : Shape := ⟨2, ![1536, 512]⟩
abbrev S512x3584 : Shape := ⟨2, ![512, 3584]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S1536x3584, .bf16⟩
  | .hbm, ⟨1, _⟩ => ⟨S1536x18944, .bf16⟩
  | .hbm, ⟨2, _⟩ => ⟨S18944x3584, .bf16⟩
  | .hbm, ⟨3, _⟩ => ⟨S1536x3584, .bf16⟩
  | .local _ .vmem, ⟨0, _⟩ => ⟨S1536x3584, .bf16⟩
  | .local _ .vmem, ⟨1, _⟩ => ⟨S1536x512, .bf16⟩
  | .local _ .vmem, ⟨2, _⟩ => ⟨S1536x512, .bf16⟩
  | .local _ .vmem, ⟨3, _⟩ => ⟨S512x3584, .bf16⟩
  | .local _ .vmem, ⟨4, _⟩ => ⟨S512x3584, .bf16⟩
  | .local _ .vmem, ⟨5, _⟩ => ⟨S1536x3584, .bf16⟩
  | .local _ .vmem, ⟨6, _⟩ => ⟨S1536x3584, .f32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![37], ![false]⟩

@[reducible] def k0_t1_loop : Scf.Loop 32 :=
  let c0_i32_1 : BitVec 32 := 0#32
  let c3_i32 : BitVec 32 := 3#32
  let v3 : BitVec 32 := Scalar.addi c0_i32_1 c3_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v7 : BitVec 32 := Scalar.muli arg6 c1_i32_4
  let v8 : BitVec 32 := Scalar.addi c0_i32_5 v7
  let c512_i32 : BitVec 32 := 512#32
  let v9 : BitVec 32 := Scalar.muli v8 c512_i32
  v9
def k0_off1 (k0_t1 : Fin k0_t1_loop.trips) : Fin 2 → Nat :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v7 : BitVec 32 := Scalar.muli arg6 c1_i32_4
  let v8 : BitVec 32 := Scalar.addi c0_i32_5 v7
  let c512_i32 : BitVec 32 := 512#32
  let v9 : BitVec 32 := Scalar.muli v8 c512_i32
  let v10 : BitVec 32 := v9
  let v11 : Index := Scalar.indexCast v10
  let c0 : Index := 0#32
  ![v11.toNat, 0]
def k0_off2 (k0_t1 : Fin k0_t1_loop.trips) : Fin 2 → Nat :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v7 : BitVec 32 := Scalar.muli arg6 c1_i32_4
  let v8 : BitVec 32 := Scalar.addi c0_i32_5 v7
  let c512_i32 : BitVec 32 := 512#32
  let v9 : BitVec 32 := Scalar.muli v8 c512_i32
  let v10 : BitVec 32 := v9
  let v13 : Index := Scalar.indexCast v10
  let c0_6 : Index := 0#32
  ![v13.toNat, 0]
def k0_cond2 (i : grid0.Coords) : BitVec 1 :=
  let arg0 : BitVec 32 := BitVec.ofNat 32 (i 0).val
  let c36_i32 : BitVec 32 := 36#32
  let v4 : BitVec 1 := Scalar.cmpi .eq arg0 c36_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DownRefIdeal.lean ====
abbrev S1536x3584 : Shape := ⟨2, ![1536, 3584]⟩
abbrev S1536x18944 : Shape := ⟨2, ![1536, 18944]⟩
abbrev S18944x3584 : Shape := ⟨2, ![18944, 3584]⟩

abbrev nBuf : Space → Nat
  | .hbm => 7
  | .vmem => 0
  | .smem => 0
  | _ => 0

abbrev bufTy : (tb : Table) → Fin (tcTables nBuf tb) → BufTy
  | .hbm, ⟨0, _⟩ => ⟨S1536x3584, .bf16⟩
  | .hbm, ⟨1, _⟩ => ⟨S1536x18944, .bf16⟩
  | .hbm, ⟨2, _⟩ => ⟨S18944x3584, .bf16⟩
  | .hbm, ⟨3, _⟩ => ⟨S1536x3584, .f32⟩
  | .hbm, ⟨4, _⟩ => ⟨S1536x3584, .f32⟩
  | .hbm, ⟨5, _⟩ => ⟨S1536x3584, .f32⟩
  | .hbm, ⟨6, _⟩ => ⟨S1536x3584, .bf16⟩
  | _, _ => ⟨S1536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Input.lean ====
abbrev S1536x18944 : Shape := ⟨2, ![1536, 18944]⟩
abbrev S3584x18944 : Shape := ⟨2, ![3584, 18944]⟩
abbrev S1536x3584 : Shape := ⟨2, ![1536, 3584]⟩
abbrev S1536x512 : Shape := ⟨2, ![1536, 512]⟩
abbrev S3584x512 : Shape := ⟨2, ![3584, 512]⟩
abbrev S512x3584 : Shape := ⟨2, ![512, 3584]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S1536x18944, .bf16⟩
  | .hbm, ⟨1, _⟩ => ⟨S1536x18944, .bf16⟩
  | .hbm, ⟨2, _⟩ => ⟨S3584x18944, .bf16⟩
  | .hbm, ⟨3, _⟩ => ⟨S3584x18944, .bf16⟩
  | .hbm, ⟨4, _⟩ => ⟨S1536x3584, .f32⟩
  | .local _ .vmem, ⟨0, _⟩ => ⟨S1536x512, .bf16⟩
  | .local _ .vmem, ⟨1, _⟩ => ⟨S1536x512, .bf16⟩
  | .local _ .vmem, ⟨2, _⟩ => ⟨S1536x512, .bf16⟩
  | .local _ .vmem, ⟨3, _⟩ => ⟨S1536x512, .bf16⟩
  | .local _ .vmem, ⟨4, _⟩ => ⟨S3584x512, .bf16⟩
  | .local _ .vmem, ⟨5, _⟩ => ⟨S3584x512, .bf16⟩
  | .local _ .vmem, ⟨6, _⟩ => ⟨S3584x512, .bf16⟩
  | .local _ .vmem, ⟨7, _⟩ => ⟨S3584x512, .bf16⟩
  | .local _ .vmem, ⟨8, _⟩ => ⟨S1536x3584, .f32⟩
  | _, _ => ⟨S1536x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![37], ![false]⟩

@[reducible] def k0_t1_loop : Scf.Loop 32 :=
  let c0_i32_1 : BitVec 32 := 0#32
  let c3_i32 : BitVec 32 := 3#32
  let v3 : BitVec 32 := Scalar.addi c0_i32_1 c3_i32
  let c1_i32 : BitVec 32 := 1#32
  ⟨c0_i32_1, v3, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v4 : BitVec 32 := Scalar.muli arg6 c1_i32_3
  let v5 : BitVec 32 := Scalar.addi c0_i32_4 v4
  let c512_i32 : BitVec 32 := 512#32
  let v6 : BitVec 32 := Scalar.muli v5 c512_i32
  v6
def k0_off1 (k0_t1 : Fin k0_t1_loop.trips) : Fin 2 → Nat :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v4 : BitVec 32 := Scalar.muli arg6 c1_i32_3
  let v5 : BitVec 32 := Scalar.addi c0_i32_4 v4
  let c512_i32 : BitVec 32 := 512#32
  let v6 : BitVec 32 := Scalar.muli v5 c512_i32
  let v7 : BitVec 32 := v6
  let v8 : Index := Scalar.indexCast v7
  let c0 : Index := 0#32
  ![v8.toNat, 0]
def k0_off2 (k0_t1 : Fin k0_t1_loop.trips) : Fin 2 → Nat :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v4 : BitVec 32 := Scalar.muli arg6 c1_i32_3
  let v5 : BitVec 32 := Scalar.addi c0_i32_4 v4
  let c512_i32 : BitVec 32 := 512#32
  let v6 : BitVec 32 := Scalar.muli v5 c512_i32
  let v7 : BitVec 32 := v6
  let v11 : Index := Scalar.indexCast v7
  let c0_5 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3584x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== InputRefIdeal.lean ====
abbrev S1536x18944 : Shape := ⟨2, ![1536, 18944]⟩
abbrev S3584x18944 : Shape := ⟨2, ![3584, 18944]⟩
abbrev S18944x3584 : Shape := ⟨2, ![18944, 3584]⟩
abbrev S1536x3584 : Shape := ⟨2, ![1536, 3584]⟩

abbrev nBuf : Space → Nat
  | .hbm => 9
  | .vmem => 0
  | .smem => 0
  | _ => 0

abbrev bufTy : (tb : Table) → Fin (tcTables nBuf tb) → BufTy
  | .hbm, ⟨0, _⟩ => ⟨S1536x18944, .bf16⟩
  | .hbm, ⟨1, _⟩ => ⟨S1536x18944, .bf16⟩
  | .hbm, ⟨2, _⟩ => ⟨S3584x18944, .bf16⟩
  | .hbm, ⟨3, _⟩ => ⟨S3584x18944, .bf16⟩
  | .hbm, ⟨4, _⟩ => ⟨S18944x3584, .bf16⟩
  | .hbm, ⟨5, _⟩ => ⟨S1536x3584, .f32⟩
  | .hbm, ⟨6, _⟩ => ⟨S18944x3584, .bf16⟩
  | .hbm, ⟨7, _⟩ => ⟨S1536x3584, .f32⟩
  | .hbm, ⟨8, _⟩ => ⟨S1536x3584, .f32⟩
  | _, _ => ⟨S1536x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Finish.lean ====
abbrev S1536x3584 : Shape := ⟨2, ![1536, 3584]⟩
abbrev S1x3584 : Shape := ⟨2, ![1, 3584]⟩
abbrev S1536x1 : Shape := ⟨2, ![1536, 1]⟩
abbrev S256x3584 : Shape := ⟨2, ![256, 3584]⟩
abbrev S256x1 : Shape := ⟨2, ![256, 1]⟩
abbrev S256 : Shape := ⟨1, ![256]⟩

abbrev nBuf : Space → Nat
  | .hbm => 7
  | .vmem => 13
  | .smem => 0
  | _ => 0

abbrev bufTy : (tb : Table) → Fin (tcTables nBuf tb) → BufTy
  | .hbm, ⟨0, _⟩ => ⟨S1536x3584, .bf16⟩
  | .hbm, ⟨1, _⟩ => ⟨S1536x3584, .bf16⟩
  | .hbm, ⟨2, _⟩ => ⟨S1x3584, .f32⟩
  | .hbm, ⟨3, _⟩ => ⟨S1536x3584, .f32⟩
  | .hbm, ⟨4, _⟩ => ⟨S1536x3584, .bf16⟩
  | .hbm, ⟨5, _⟩ => ⟨S1536x3584, .bf16⟩
  | .hbm, ⟨6, _⟩ => ⟨S1536x1, .f32⟩
  | .local _ .vmem, ⟨0, _⟩ => ⟨S256x3584, .bf16⟩
  | .local _ .vmem, ⟨1, _⟩ => ⟨S256x3584, .bf16⟩
  | .local _ .vmem, ⟨2, _⟩ => ⟨S256x3584, .bf16⟩
  | .local _ .vmem, ⟨3, _⟩ => ⟨S256x3584, .bf16⟩
  | .local _ .vmem, ⟨4, _⟩ => ⟨S1x3584, .f32⟩
  | .local _ .vmem, ⟨5, _⟩ => ⟨S256x3584, .f32⟩
  | .local _ .vmem, ⟨6, _⟩ => ⟨S256x3584, .f32⟩
  | .local _ .vmem, ⟨7, _⟩ => ⟨S256x3584, .bf16⟩
  | .local _ .vmem, ⟨8, _⟩ => ⟨S256x3584, .bf16⟩
  | .local _ .vmem, ⟨9, _⟩ => ⟨S256x3584, .bf16⟩
  | .local _ .vmem, ⟨10, _⟩ => ⟨S256x3584, .bf16⟩
  | .local _ .vmem, ⟨11, _⟩ => ⟨S256x1, .f32⟩
  | .local _ .vmem, ⟨12, _⟩ => ⟨S256x1, .f32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinishRefIdeal.lean ====
abbrev S1536x3584 : Shape := ⟨2, ![1536, 3584]⟩
abbrev S1x3584 : Shape := ⟨2, ![1, 3584]⟩
abbrev S_ : Shape := ⟨0, ![]⟩
abbrev S1536 : Shape := ⟨1, ![1536]⟩
abbrev S1536x1 : Shape := ⟨2, ![1536, 1]⟩

abbrev nBuf : Space → Nat
  | .hbm => 40
  | .vmem => 0
  | .smem => 0
  | _ => 0

abbrev bufTy : (tb : Table) → Fin (tcTables nBuf tb) → BufTy
  | .hbm, ⟨0, _⟩ => ⟨S1536x3584, .bf16⟩
  | .hbm, ⟨1, _⟩ => ⟨S1536x3584, .bf16⟩
  | .hbm, ⟨2, _⟩ => ⟨S1x3584, .f32⟩
  | .hbm, ⟨3, _⟩ => ⟨S1536x3584, .f32⟩
  | .hbm, ⟨4, _⟩ => ⟨S1536x3584, .f32⟩
  | .hbm, ⟨5, _⟩ => ⟨S1536x3584, .f32⟩
  | .hbm, ⟨6, _⟩ => ⟨S_, .f32⟩
  | .hbm, ⟨7, _⟩ => ⟨S1536, .f32⟩
  | .hbm, ⟨8, _⟩ => ⟨S1536x1, .f32⟩
  | .hbm, ⟨9, _⟩ => ⟨S_, .f32⟩
  | .hbm, ⟨10, _⟩ => ⟨S1536x1, .f32⟩
  | .hbm, ⟨11, _⟩ => ⟨S1536x1, .f32⟩
  | .hbm, ⟨12, _⟩ => ⟨S_, .f32⟩
  | .hbm, ⟨13, _⟩ => ⟨S1536x1, .f32⟩
  | .hbm, ⟨14, _⟩ => ⟨S1536x1, .f32⟩
  | .hbm, ⟨15, _⟩ => ⟨S1536x1, .f32⟩
  | .hbm, ⟨16, _⟩ => ⟨S_, .f32⟩
  | .hbm, ⟨17, _⟩ => ⟨S1536x1, .f32⟩
  | .hbm, ⟨18, _⟩ => ⟨S1536x1, .f32⟩
  | .hbm, ⟨19, _⟩ => ⟨S1536x3584, .f32⟩
  | .hbm, ⟨20, _⟩ => ⟨S1536x3584, .f32⟩
  | .hbm, ⟨21, _⟩ => ⟨S1536x3584, .f32⟩
  | .hbm, ⟨22, _⟩ => ⟨S_, .f32⟩
  | .hbm, ⟨23, _⟩ => ⟨S1536, .f32⟩
  | .hbm, ⟨24, _⟩ => ⟨S1536x1, .f32⟩
  | .hbm, ⟨25, _⟩ => ⟨S_, .f32⟩
  | .hbm, ⟨26, _⟩ => ⟨S1536x1, .f32⟩
  | .hbm, ⟨27, _⟩ => ⟨S1536x1, .f32⟩
  | .hbm, ⟨28, _⟩ => ⟨S1536x1, .f32⟩
  | .hbm, ⟨29, _⟩ => ⟨S1536x3584, .f32⟩
  | .hbm, ⟨30, _⟩ => ⟨S1536x3584, .f32⟩
  | .hbm, ⟨31, _⟩ => ⟨S1536x3584, .f32⟩
  | .hbm, ⟨32, _⟩ => ⟨S1536x3584, .f32⟩
  | .hbm, ⟨33, _⟩ => ⟨S1536x3584, .f32⟩
  | .hbm, ⟨34, _⟩ => ⟨S1536x3584, .f32⟩
  | .hbm, ⟨35, _⟩ => ⟨S1536x3584, .f32⟩
  | .hbm, ⟨36, _⟩ => ⟨S1536x3584, .f32⟩
  | .hbm, ⟨37, _⟩ => ⟨S1536x3584, .f32⟩
  | .hbm, ⟨38, _⟩ => ⟨S1536x3584, .bf16⟩
  | .hbm, ⟨39, _⟩ => ⟨S1536x3584, .bf16⟩
  | _, _ => ⟨S1536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Adam.lean ====
abbrev S18944x28 : Shape := ⟨2, ![18944, 28]⟩
abbrev S_ : Shape := ⟨0, ![]⟩
abbrev S1 : Shape := ⟨1, ![1]⟩
abbrev S4 : Shape := ⟨1, ![4]⟩
abbrev S1x4 : Shape := ⟨2, ![1, 4]⟩
abbrev S2368x28 : Shape := ⟨2, ![2368, 28]⟩
abbrev S1x1 : Shape := ⟨2, ![1, 1]⟩

abbrev nBuf : Space → Nat
  | .hbm => 18
  | .vmem => 16
  | .smem => 1
  | _ => 0

abbrev bufTy : (tb : Table) → Fin (tcTables nBuf tb) → BufTy
  | .hbm, ⟨0, _⟩ => ⟨S18944x28, .f32⟩
  | .hbm, ⟨1, _⟩ => ⟨S18944x28, .f32⟩
  | .hbm, ⟨2, _⟩ => ⟨S18944x28, .f32⟩
  | .hbm, ⟨3, _⟩ => ⟨S18944x28, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S4, .f32⟩
  | .hbm, ⟨13, _⟩ => ⟨S1x4, .f32⟩
  | .hbm, ⟨14, _⟩ => ⟨S18944x28, .f32⟩
  | .hbm, ⟨15, _⟩ => ⟨S18944x28, .f32⟩
  | .hbm, ⟨16, _⟩ => ⟨S18944x28, .f32⟩
  | .hbm, ⟨17, _⟩ => ⟨S18944x28, .f32⟩
  | .local _ .vmem, ⟨0, _⟩ => ⟨S2368x28, .f32⟩
  | .local _ .vmem, ⟨1, _⟩ => ⟨S2368x28, .f32⟩
  | .local _ .vmem, ⟨2, _⟩ => ⟨S2368x28, .f32⟩
  | .local _ .vmem, ⟨3, _⟩ => ⟨S2368x28, .f32⟩
  | .local _ .vmem, ⟨4, _⟩ => ⟨S2368x28, .f32⟩
  | .local _ .vmem, ⟨5, _⟩ => ⟨S2368x28, .f32⟩
  | .local _ .vmem, ⟨6, _⟩ => ⟨S2368x28, .f32⟩
  | .local _ .vmem, ⟨7, _⟩ => ⟨S2368x28, .f32⟩
  | .local _ .vmem, ⟨8, _⟩ => ⟨S2368x28, .f32⟩
  | .local _ .vmem, ⟨9, _⟩ => ⟨S2368x28, .f32⟩
  | .local _ .vmem, ⟨10, _⟩ => ⟨S2368x28, .f32⟩
  | .local _ .vmem, ⟨11, _⟩ => ⟨S2368x28, .f32⟩
  | .local _ .vmem, ⟨12, _⟩ => ⟨S2368x28, .f32⟩
  | .local _ .vmem, ⟨13, _⟩ => ⟨S2368x28, .f32⟩
  | .local _ .vmem, ⟨14, _⟩ => ⟨S2368x28, .f32⟩
  | .local _ .vmem, ⟨15, _⟩ => ⟨S2368x28, .f32⟩
  | .local _ .smem, ⟨0, _⟩ => ⟨S1x4, .f32⟩
  | _, _ => ⟨S18944x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2368x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2368x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2368x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2368x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2368x28 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2368x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2368x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2368x28 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamIdeal.lean ====
abbrev S18944x28 : Shape := ⟨2, ![18944, 28]⟩
abbrev S_ : Shape := ⟨0, ![]⟩
abbrev S1 : Shape := ⟨1, ![1]⟩
abbrev S4 : Shape := ⟨1, ![4]⟩
abbrev S1x4 : Shape := ⟨2, ![1, 4]⟩
abbrev S2368x28 : Shape := ⟨2, ![2368, 28]⟩
abbrev S1x1 : Shape := ⟨2, ![1, 1]⟩

abbrev nBuf : Space → Nat
  | .hbm => 18
  | .vmem => 16
  | .smem => 1
  | _ => 0

abbrev bufTy : (tb : Table) → Fin (tcTables nBuf tb) → BufTy
  | .hbm, ⟨0, _⟩ => ⟨S18944x28, .f32⟩
  | .hbm, ⟨1, _⟩ => ⟨S18944x28, .f32⟩
  | .hbm, ⟨2, _⟩ => ⟨S18944x28, .f32⟩
  | .hbm, ⟨3, _⟩ => ⟨S18944x28, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S4, .f32⟩
  | .hbm, ⟨13, _⟩ => ⟨S1x4, .f32⟩
  | .hbm, ⟨14, _⟩ => ⟨S18944x28, .f32⟩
  | .hbm, ⟨15, _⟩ => ⟨S18944x28, .f32⟩
  | .hbm, ⟨16, _⟩ => ⟨S18944x28, .f32⟩
  | .hbm, ⟨17, _⟩ => ⟨S18944x28, .f32⟩
  | .local _ .vmem, ⟨0, _⟩ => ⟨S2368x28, .f32⟩
  | .local _ .vmem, ⟨1, _⟩ => ⟨S2368x28, .f32⟩
  | .local _ .vmem, ⟨2, _⟩ => ⟨S2368x28, .f32⟩
  | .local _ .vmem, ⟨3, _⟩ => ⟨S2368x28, .f32⟩
  | .local _ .vmem, ⟨4, _⟩ => ⟨S2368x28, .f32⟩
  | .local _ .vmem, ⟨5, _⟩ => ⟨S2368x28, .f32⟩
  | .local _ .vmem, ⟨6, _⟩ => ⟨S2368x28, .f32⟩
  | .local _ .vmem, ⟨7, _⟩ => ⟨S2368x28, .f32⟩
  | .local _ .vmem, ⟨8, _⟩ => ⟨S2368x28, .f32⟩
  | .local _ .vmem, ⟨9, _⟩ => ⟨S2368x28, .f32⟩
  | .local _ .vmem, ⟨10, _⟩ => ⟨S2368x28, .f32⟩
  | .local _ .vmem, ⟨11, _⟩ => ⟨S2368x28, .f32⟩
  | .local _ .vmem, ⟨12, _⟩ => ⟨S2368x28, .f32⟩
  | .local _ .vmem, ⟨13, _⟩ => ⟨S2368x28, .f32⟩
  | .local _ .vmem, ⟨14, _⟩ => ⟨S2368x28, .f32⟩
  | .local _ .vmem, ⟨15, _⟩ => ⟨S2368x28, .f32⟩
  | .local _ .smem, ⟨0, _⟩ => ⟨S1x4, .f32⟩
  | _, _ => ⟨S18944x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2368x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2368x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2368x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2368x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2368x28 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2368x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2368x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2368x28 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRefIdeal.lean ====
abbrev S18944x28 : Shape := ⟨2, ![18944, 28]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S18944x28, .f32⟩
  | .hbm, ⟨1, _⟩ => ⟨S18944x28, .f32⟩
  | .hbm, ⟨2, _⟩ => ⟨S18944x28, .f32⟩
  | .hbm, ⟨3, _⟩ => ⟨S18944x28, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S18944x28, .f32⟩
  | .hbm, ⟨10, _⟩ => ⟨S18944x28, .f32⟩
  | .hbm, ⟨11, _⟩ => ⟨S_, .f32⟩
  | .hbm, ⟨12, _⟩ => ⟨S18944x28, .f32⟩
  | .hbm, ⟨13, _⟩ => ⟨S18944x28, .f32⟩
  | .hbm, ⟨14, _⟩ => ⟨S18944x28, .f32⟩
  | .hbm, ⟨15, _⟩ => ⟨S_, .f32⟩
  | .hbm, ⟨16, _⟩ => ⟨S18944x28, .f32⟩
  | .hbm, ⟨17, _⟩ => ⟨S18944x28, .f32⟩
  | .hbm, ⟨18, _⟩ => ⟨S18944x28, .f32⟩
  | .hbm, ⟨19, _⟩ => ⟨S_, .f32⟩
  | .hbm, ⟨20, _⟩ => ⟨S18944x28, .f32⟩
  | .hbm, ⟨21, _⟩ => ⟨S18944x28, .f32⟩
  | .hbm, ⟨22, _⟩ => ⟨S18944x28, .f32⟩
  | .hbm, ⟨23, _⟩ => ⟨S18944x28, .f32⟩
  | .hbm, ⟨24, _⟩ => ⟨S18944x28, .f32⟩
  | .hbm, ⟨25, _⟩ => ⟨S18944x28, .f32⟩
  | .hbm, ⟨26, _⟩ => ⟨S18944x28, .f32⟩
  | .hbm, ⟨27, _⟩ => ⟨S18944x28, .f32⟩
  | .hbm, ⟨28, _⟩ => ⟨S18944x28, .f32⟩
  | .hbm, ⟨29, _⟩ => ⟨S18944x28, .f32⟩
  | .hbm, ⟨30, _⟩ => ⟨S18944x28, .f32⟩
  | .hbm, ⟨31, _⟩ => ⟨S18944x28, .f32⟩
  | .hbm, ⟨32, _⟩ => ⟨S18944x28, .f32⟩
  | .hbm, ⟨33, _⟩ => ⟨S18944x28, .f32⟩
  | _, _ => ⟨S18944x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== AdamDown.lean ====
abbrev S3584x148 : Shape := ⟨2, ![3584, 148]⟩
abbrev S_ : Shape := ⟨0, ![]⟩
abbrev S1 : Shape := ⟨1, ![1]⟩
abbrev S4 : Shape := ⟨1, ![4]⟩
abbrev S1x4 : Shape := ⟨2, ![1, 4]⟩
abbrev S448x148 : Shape := ⟨2, ![448, 148]⟩
abbrev S1x1 : Shape := ⟨2, ![1, 1]⟩

abbrev nBuf : Space → Nat
  | .hbm => 18
  | .vmem => 16
  | .smem => 1
  | _ => 0

abbrev bufTy : (tb : Table) → Fin (tcTables nBuf tb) → BufTy
  | .hbm, ⟨0, _⟩ => ⟨S3584x148, .f32⟩
  | .hbm, ⟨1, _⟩ => ⟨S3584x148, .f32⟩
  | .hbm, ⟨2, _⟩ => ⟨S3584x148, .f32⟩
  | .hbm, ⟨3, _⟩ => ⟨S3584x148, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S4, .f32⟩
  | .hbm, ⟨13, _⟩ => ⟨S1x4, .f32⟩
  | .hbm, ⟨14, _⟩ => ⟨S3584x148, .f32⟩
  | .hbm, ⟨15, _⟩ => ⟨S3584x148, .f32⟩
  | .hbm, ⟨16, _⟩ => ⟨S3584x148, .f32⟩
  | .hbm, ⟨17, _⟩ => ⟨S3584x148, .f32⟩
  | .local _ .vmem, ⟨0, _⟩ => ⟨S448x148, .f32⟩
  | .local _ .vmem, ⟨1, _⟩ => ⟨S448x148, .f32⟩
  | .local _ .vmem, ⟨2, _⟩ => ⟨S448x148, .f32⟩
  | .local _ .vmem, ⟨3, _⟩ => ⟨S448x148, .f32⟩
  | .local _ .vmem, ⟨4, _⟩ => ⟨S448x148, .f32⟩
  | .local _ .vmem, ⟨5, _⟩ => ⟨S448x148, .f32⟩
  | .local _ .vmem, ⟨6, _⟩ => ⟨S448x148, .f32⟩
  | .local _ .vmem, ⟨7, _⟩ => ⟨S448x148, .f32⟩
  | .local _ .vmem, ⟨8, _⟩ => ⟨S448x148, .f32⟩
  | .local _ .vmem, ⟨9, _⟩ => ⟨S448x148, .f32⟩
  | .local _ .vmem, ⟨10, _⟩ => ⟨S448x148, .f32⟩
  | .local _ .vmem, ⟨11, _⟩ => ⟨S448x148, .f32⟩
  | .local _ .vmem, ⟨12, _⟩ => ⟨S448x148, .f32⟩
  | .local _ .vmem, ⟨13, _⟩ => ⟨S448x148, .f32⟩
  | .local _ .vmem, ⟨14, _⟩ => ⟨S448x148, .f32⟩
  | .local _ .vmem, ⟨15, _⟩ => ⟨S448x148, .f32⟩
  | .local _ .smem, ⟨0, _⟩ => ⟨S1x4, .f32⟩
  | _, _ => ⟨S3584x148, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S448x148 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x148 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x148 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S448x148 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S448x148 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S448x148 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S448x148 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S448x148 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S3584x148 : Shape := ⟨2, ![3584, 148]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S3584x148, .f32⟩
  | .hbm, ⟨1, _⟩ => ⟨S3584x148, .f32⟩
  | .hbm, ⟨2, _⟩ => ⟨S3584x148, .f32⟩
  | .hbm, ⟨3, _⟩ => ⟨S3584x148, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S3584x148, .f32⟩
  | .hbm, ⟨10, _⟩ => ⟨S3584x148, .f32⟩
  | .hbm, ⟨11, _⟩ => ⟨S_, .f32⟩
  | .hbm, ⟨12, _⟩ => ⟨S3584x148, .f32⟩
  | .hbm, ⟨13, _⟩ => ⟨S3584x148, .f32⟩
  | .hbm, ⟨14, _⟩ => ⟨S3584x148, .f32⟩
  | .hbm, ⟨15, _⟩ => ⟨S_, .f32⟩
  | .hbm, ⟨16, _⟩ => ⟨S3584x148, .f32⟩
  | .hbm, ⟨17, _⟩ => ⟨S3584x148, .f32⟩
  | .hbm, ⟨18, _⟩ => ⟨S3584x148, .f32⟩
  | .hbm, ⟨19, _⟩ => ⟨S_, .f32⟩
  | .hbm, ⟨20, _⟩ => ⟨S3584x148, .f32⟩
  | .hbm, ⟨21, _⟩ => ⟨S3584x148, .f32⟩
  | .hbm, ⟨22, _⟩ => ⟨S3584x148, .f32⟩
  | .hbm, ⟨23, _⟩ => ⟨S3584x148, .f32⟩
  | .hbm, ⟨24, _⟩ => ⟨S3584x148, .f32⟩
  | .hbm, ⟨25, _⟩ => ⟨S3584x148, .f32⟩
  | .hbm, ⟨26, _⟩ => ⟨S3584x148, .f32⟩
  | .hbm, ⟨27, _⟩ => ⟨S3584x148, .f32⟩
  | .hbm, ⟨28, _⟩ => ⟨S3584x148, .f32⟩
  | .hbm, ⟨29, _⟩ => ⟨S3584x148, .f32⟩
  | .hbm, ⟨30, _⟩ => ⟨S3584x148, .f32⟩
  | .hbm, ⟨31, _⟩ => ⟨S3584x148, .f32⟩
  | .hbm, ⟨32, _⟩ => ⟨S3584x148, .f32⟩
  | .hbm, ⟨33, _⟩ => ⟨S3584x148, .f32⟩
  | _, _ => ⟨S3584x148, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.MainRun.Kit.lean ====
/- The staging buffers of the region of `Main` and its three scratch buffers, named: what the run of the body is
   stated over. -/
module

public import proofs.«01_k».proof.Proof.Gen.Main.Frame
public import proofs.«01_k».proof.Proof.Gen.Main.Skeleton
public import proofs.«01_k».proof.Proof.Gen.Main.Loops

@[expose] public section

-- the long axes need deep recursion
set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on any staging memrefs -/

/-- Each window's current staging memref at point `t`, as the pipeline passes it, and its wholeness. -/
abbrev ms0_0 (t : Fin cfg0.N) : Memref sig .tc .vmem S1536x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x112x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S28x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S28x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x112x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S28x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x1x8x3584 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x3584 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x3584 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1536x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S3584x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S3584x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x3584 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S7x4x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S7x4x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x2x3584 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S3584x256 .i8 := Memref.whole cc0_scratch0
abbrev scM0_1 : Memref sig .tc .vmem S3584x256 .i8 := Memref.whole cc0_scratch1
abbrev scM0_2 : Memref sig .tc .vmem S256x3584 .i8 := Memref.whole cc0_scratch2

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The unit axis of the packed down weights' staging buffer squeezed away: the buffer the third loop reads through. -/
abbrev viewQ (arg9 : Memref sig .tc .vmem S3x1x8x3584 .i32) : Memref sig .tc .vmem S3x8x3584 .i32 :=
  (arg9.slice (Rect.unit (s := S3x1x8x3584) ![0, 0, 0, 0] S3x1x8x3584.size inb_S3x1x8x3584_S3x1x8x3584_0_0_0_0) (fun _ => rfl)).squeeze S3x8x3584 squeezes_S3x1x8x3584_S3x8x3584

/-- The same for the down zero points. -/
abbrev viewZ (arg10 : Memref sig .tc .vmem S1x2x3584 .i32) : Memref sig .tc .vmem S2x3584 .i32 :=
  (arg10.slice (Rect.unit (s := S1x2x3584) ![0, 0, 0] S1x2x3584.size inb_S1x2x3584_S1x2x3584_0_0_0) (fun _ => rfl)).squeeze S2x3584 squeezes_S1x2x3584_S2x3584

/-- The same for the down scales. -/
abbrev viewS (arg11 : Memref sig .tc .vmem S1x2x3584 .f32) : Memref sig .tc .vmem S2x3584 .f32 :=
  (arg11.slice (Rect.unit (s := S1x2x3584) ![0, 0, 0] S1x2x3584.size inb_S1x2x3584_S1x2x3584_0_0_0) (fun _ => rfl)).squeeze S2x3584 squeezes_S1x2x3584_S2x3584

/-- A rectangle of the whole shape holds every index. -/
theorem unit_set_univ {s : Shape} (off : Fin s.rank → ℕ) (inb) (h0 : ∀ a, off a = 0) :
    (Rect.unit (s := s) off s.size inb).set = Finset.univ := by
  ext x
  simp only [Finset.mem_univ, iff_true, Rect.mem_set_unit]
  intro a
  rw [h0 a]
  exact ⟨Nat.zero_le _, by rw [Nat.zero_add]; exact (x a).isLt⟩

theorem viewQ_set (a : Memref sig .tc .vmem S3x1x8x3584 .i32) : (viewQ a).view.set = a.view.set := by
  refine (Memref.set_view_squeeze _ _).trans ?_
  show (a.view.slice _).set = _
  rw [View.set_slice, unit_set_univ _ _ (by decide)]; rfl

theorem viewZ_set (a : Memref sig .tc .vmem S1x2x3584 .i32) : (viewZ a).view.set = a.view.set := by
  refine (Memref.set_view_squeeze _ _).trans ?_
  show (a.view.slice _).set = _
  rw [View.set_slice, unit_set_univ _ _ (by decide)]; rfl

theorem viewS_set (a : Memref sig .tc .vmem S1x2x3584 .f32) : (viewS a).view.set = a.view.set := by
  refine (Memref.set_view_squeeze _ _).trans ?_
  show (a.view.slice _).set = _
  rw [View.set_slice, unit_set_univ _ _ (by decide)]; rfl

/-- Holding the packed down weights' buffer is holding it through its squeezed view. -/
theorem viewQ_own (c : Dev nD) (a : Memref sig .tc .vmem S3x1x8x3584 .i32) (f : BufTy.Contents (Elt F) a.view.ty) :
    ((a.view.loc (c : Thread nD τ) ↦[a.view.set]{fullShare} f : sProp 𝕄)) = ((viewQ a).view.loc (c : Thread nD τ) ↦[(viewQ a).view.set]{fullShare} f) := by
  rw [viewQ_set]

/-- The same for the down zero points. -/
theorem viewZ_own (c : Dev nD) (a : Memref sig .tc .vmem S1x2x3584 .i32) (f : BufTy.Contents (Elt F) a.view.ty) :
    ((a.view.loc (c : Thread nD τ) ↦[a.view.set]{fullShare} f : sProp 𝕄)) = ((viewZ a).view.loc (c : Thread nD τ) ↦[(viewZ a).view.set]{fullShare} f) := by
  rw [viewZ_set]

/-- The same for the down scales. -/
theorem viewS_own (c : Dev nD) (a : Memref sig .tc .vmem S1x2x3584 .f32) (f : BufTy.Contents (Elt F) a.view.ty) :
    ((a.view.loc (c : Thread nD τ) ↦[a.view.set]{fullShare} f : sProp 𝕄)) = ((viewS a).view.loc (c : Thread nD τ) ↦[(viewS a).view.set]{fullShare} f) := by
  rw [viewS_set]

end Cert.Main.Gen

end
-- ==== Proof.MainRun.Run.lean ====
/- One grid point of the region of `Main`, run once for any staging buffers. -/
module

public import proofs.«01_k».proof.Proof.MainRun.Kit

@[expose] public section

set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A loop at the head of a program, by its invariant. -/
theorem loop_head (c : Dev nD) (E : Set ℕ) (l : Scf.Loop 32) (hok : l.OK)
    (body : Fin l.trips → Unit → Prog (TpuEff nD τ sig (Elt F) Λ₀ .tc) Unit)
    (L : LoopInv (M := MT nD τ sig Unit (Elt F) ℕ (UR sig nD τ) ℕ) frame (wpE (defs₀ (F := F)) Variants.none (c : Thread nD τ) none) E l.lb l.ub l.st hok () body)
    (J : ℕ → Unit → sProp (MT nD τ sig Unit (Elt F) ℕ (UR sig nD τ) ℕ)) (hJ : L.inv = J)
    (kk : Prog (TpuEff nD τ sig (Elt F) Λ₀ .tc) PUnit) (Q : PUnit → sProp (MT nD τ sig Unit (Elt F) ℕ (UR sig nD τ) ℕ)) :
    iprop(J 0 () ∗ (J l.trips () -∗ wp frame (wpE (defs₀ (F := F)) Variants.none (c : Thread nD τ) none) E kk Q))
      ⊢ wp frame (wpE (defs₀ (F := F)) Variants.none (c : Thread nD τ) none) E (Scf.Loop.for l hok () body >>= fun _ => kk) Q := by
  subst hJ
  iintro ⟨HI, HK⟩
  iapply (exec_loop frame (wpE (defs₀ (F := F)) Variants.none (c : Thread nD τ) none) E l.lb l.ub l.st hok () body L) $$ [HI]
  · iexact HI
  iintro %acc Hinv
  iapply HK
  iexact Hinv

/-- The body is its five loops in order. -/
theorem skel_eq (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole) :
    cc0_main_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
      = (Scf.Loop.for k0_t1_loop k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32)) >>= fun _ => Scf.Loop.for k0_t2_loop k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32)) >>= fun _ => Scf.Loop.for k0_t3_loop k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32)) >>= fun _ => Scf.Loop.for k0_t4_loop k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) >>= fun _ => Scf.Loop.for k0_t5_loop k0_t5_ok () (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) >>= fun _ => Prog.ret PUnit.unit) :=
  rfl

set_option maxHeartbeats 16000000 in
/-- The run of one point: on whole staging memrefs — the inputs' at their contents, the outputs' and the scratch
    buffers at anything — the body runs to the continuation holding the inputs' as they were, the outputs' and the
    scratch buffers at some contents. The five loops are taken in order, each by its invariant. -/
theorem kernelRun0_A (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_main_eq_skeleton, skel_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    ihave H8 := (Entails.of_eq (viewQ_own c arg9 _)) $$ H8
    ihave H9 := (Entails.of_eq (viewZ_own c arg10 _)) $$ H9
    ihave H10 := (Entails.of_eq (viewS_own c arg11 _)) $$ H10
    iapply (loop_head c E k0_t1_loop k0_t1_ok _ (loopInv_k0_t1 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg3.unread x2) (harg4.unread x3) (harg5.unread x4) f14 fs0) (inv_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg3.unread x2) (harg4.unread x3) (harg5.unread x4) f14 fs0) rfl _ _)
    isplitl [H2 H3 H4 H14 HS0]
    · isplitl [H2]; · iexact H2
      isplitl [H3]; · iexact H3
      isplitl [H4]; · iexact H4
      isplitl [H14]
      · iexists _; isplitl [H14]; · iexact H14
        ipureintro; rfl
      iexists _; isplitl [HS0]; · iexact HS0
      ipureintro; rfl
    iintro ⟨H2, H3, H4, ⟨%eH14, H14, %_hH14⟩, ⟨%eHS0, HS0, %_hHS0⟩⟩
    iapply (loop_head c E k0_t2_loop k0_t2_ok _ (loopInv_k0_t2 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg6.unread x5) (harg7.unread x6) (harg8.unread x7) f15 fs1) (inv_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg6.unread x5) (harg7.unread x6) (harg8.unread x7) f15 fs1) rfl _ _)
    isplitl [H5 H6 H7 H15 HS1]
    · isplitl [H5]; · iexact H5
      isplitl [H6]; · iexact H6
      isplitl [H7]; · iexact H7
      isplitl [H15]
      · iexists _; isplitl [H15]; · iexact H15
        ipureintro; rfl
      iexists _; isplitl [HS1]; · iexact HS1
      ipureintro; rfl
    iintro ⟨H5, H6, H7, ⟨%eH15, H15, %_hH15⟩, ⟨%eHS1, HS1, %_hHS1⟩⟩
    iapply (loop_head c E k0_t3_loop k0_t3_ok _ (loopInv_k0_t3 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32) (viewQ arg9) rfl (viewZ arg10) rfl (viewS arg11) rfl (harg9.unread x8) (harg10.unread x9) (harg11.unread x10) f16 fs2) (inv_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32) (viewQ arg9) rfl (viewZ arg10) rfl (viewS arg11) rfl (harg9.unread x8) (harg10.unread x9) (harg11.unread x10) f16 fs2) rfl _ _)
    isplitl [H8 H9 H10 H16 HS2]
    · isplitl [H8]; · iexact H8
      isplitl [H9]; · iexact H9
      isplitl [H10]; · iexact H10
      isplitl [H16]
      · iexists _; isplitl [H16]; · iexact H16
        ipureintro; rfl
      iexists _; isplitl [HS2]; · iexact HS2
      ipureintro; rfl
    iintro ⟨H8, H9, H10, ⟨%eH16, H16, %_hH16⟩, ⟨%eHS2, HS2, %_hHS2⟩⟩
    iapply (loop_head c E k0_t4_loop k0_t4_ok _ (loopInv_k0_t4 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) eH14 eH15 eH16 f11 f12 f13) (inv_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) eH14 eH15 eH16 f11 f12 f13) rfl _ _)
    isplitl [H0 H1 H14 H15 H16 H11 H12 H13]
    · isplitl [H0]; · iexact H0
      isplitl [H1]; · iexact H1
      isplitl [H14]; · iexact H14
      isplitl [H15]; · iexact H15
      isplitl [H16]; · iexact H16
      isplitl [H11]
      · iexists _; isplitl [H11]; · iexact H11
        ipureintro; rfl
      isplitl [H12]
      · iexists _; isplitl [H12]; · iexact H12
        ipureintro; rfl
      iexists _; isplitl [H13]; · iexact H13
      ipureintro; rfl
    iintro ⟨H0, H1, H14, H15, H16, ⟨%eH11, H11, %_hH11⟩, ⟨%eH12, H12, %_hH12⟩, ⟨%eH13, H13, %_hH13⟩⟩
    iapply (loop_head c E k0_t5_loop k0_t5_ok _ (loopInv_k0_t5 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) eH11 eH12 eH13 eHS0 eHS1 eHS2 f17 f18 f19) (inv_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) eH11 eH12 eH13 eHS0 eHS1 eHS2 f17 f18 f19) rfl _ _)
    isplitl [H0 H1 H11 H12 H13 HS0 HS1 HS2 H17 H18 H19]
    · isplitl [H0]; · iexact H0
      isplitl [H1]; · iexact H1
      isplitl [H11]; · iexact H11
      isplitl [H12]; · iexact H12
      isplitl [H13]; · iexact H13
      isplitl [HS0]; · iexact HS0
      isplitl [HS1]; · iexact HS1
      isplitl [HS2]; · iexact HS2
      isplitl [H17]
      · iexists _; isplitl [H17]; · iexact H17
        ipureintro; rfl
      isplitl [H18]
      · iexists _; isplitl [H18]; · iexact H18
        ipureintro; rfl
      iexists _; isplitl [H19]; · iexact H19
      ipureintro; rfl
    iintro ⟨H0, H1, H11, H12, H13, HS0, HS1, HS2, ⟨%eH17, H17, %_hH17⟩, ⟨%eH18, H18, %_hH18⟩, ⟨%eH19, H19, %_hH19⟩⟩
    sl_step
    iapply Hk
    ihave H8 := (Entails.of_eq (viewQ_own c arg9 _).symm) $$ H8
    ihave H9 := (Entails.of_eq (viewZ_own c arg10 _).symm) $$ H9
    ihave H10 := (Entails.of_eq (viewS_own c arg11 _).symm) $$ H10
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Main.Gen

end
-- ==== Proof.MainRun.Frame.lean ====
/- The region of `Main` point by point, its outputs' contents left unnamed; the region's run; and the frame claim. -/
module

public import proofs.«01_k».proof.Proof.MainRun.Run
public import Idealize.ShloMosaic.Lib.Claim

@[expose] public section

-- the long axes need deep recursion
set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows, 11 to 19: the frame says nothing of what the kernel leaves in them. -/
def forgets0 : Fin 20 → Bool := fun w => w.val == 11 || w.val == 12 || w.val == 13 || w.val == 14 || w.val == 15 || w.val == 16 || w.val == 17 || w.val == 18 || w.val == 19

/-- The proof data of the one pipeline on core `c`: the arrays as the region finds them (`V`); after the body at
    point `t` each input's buffer at its block and the outputs at contents left unnamed; the invariant holds the
    scratch buffers and the random number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

/-- The proof data's arrays are the contents that the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- And what it returns, the windows one by one. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 2000000 in
/-- The body at any point: the inputs' memrefs hold their blocks, so the run applies; the
    invariant hands the body its scratch buffers at some contents and takes them back at some contents; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body that the pipeline calls at point `t` is `bodyAt0`. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- What `run_main` states, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every input array of the pipeline unchanged and every other
    unscoped buffer as the region found it; nothing is stated of the outputs (windows 11 to 19). -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((dats m 0 c).toRForget_arrAt_iff (fgt := forgets0) (w := 0) rfl _ _).mp ((h c).1 0)).trans (((dats m 0 c).arrAt_in 0 rfl _).trans ((A_eq m c 0).trans (V_main_arg0 m c))),
      (((dats m 0 c).toRForget_arrAt_iff (fgt := forgets0) (w := 1) rfl _ _).mp ((h c).1 1)).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

/-- The frame claim of `Main`, at any interpretation of the floats: it ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Main.Gen

end
-- ==== Proof.MainIdealRun.Kit.lean ====
/- The staging buffers of the region of `MainIdeal` and its three scratch buffers, named: what the run of the body is
   stated over. -/
module

public import proofs.«01_k».proof.Proof.Gen.MainIdeal.Frame
public import proofs.«01_k».proof.Proof.Gen.MainIdeal.Skeleton
public import proofs.«01_k».proof.Proof.Gen.MainIdeal.Loops

@[expose] public section

-- the long axes need deep recursion
set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on any staging memrefs -/

/-- One staging buffer of output window 11, through which its contents are stated; the choice does not matter. -/
abbrev VO0_11 : View sig .tc .vmem S1536x256 .bf16 := (Memref.whole cc0_stg11_0 : Memref sig .tc .vmem S1536x256 .bf16).view
/-- One staging buffer of output window 12, through which its contents are stated; the choice does not matter. -/
abbrev VO0_12 : View sig .tc .vmem S1536x256 .bf16 := (Memref.whole cc0_stg12_0 : Memref sig .tc .vmem S1536x256 .bf16).view
/-- One staging buffer of output window 13, through which its contents are stated; the choice does not matter. -/
abbrev VO0_13 : View sig .tc .vmem S1536x256 .bf16 := (Memref.whole cc0_stg13_0 : Memref sig .tc .vmem S1536x256 .bf16).view
/-- One staging buffer of output window 14, through which its contents are stated; the choice does not matter. -/
abbrev VO0_14 : View sig .tc .vmem S3584x256 .bf16 := (Memref.whole cc0_stg14_0 : Memref sig .tc .vmem S3584x256 .bf16).view
/-- One staging buffer of output window 15, through which its contents are stated; the choice does not matter. -/
abbrev VO0_15 : View sig .tc .vmem S3584x256 .bf16 := (Memref.whole cc0_stg15_0 : Memref sig .tc .vmem S3584x256 .bf16).view
/-- One staging buffer of output window 16, through which its contents are stated; the choice does not matter. -/
abbrev VO0_16 : View sig .tc .vmem S256x3584 .bf16 := (Memref.whole cc0_stg16_0 : Memref sig .tc .vmem S256x3584 .bf16).view
/-- One staging buffer of output window 17, through which its contents are stated; the choice does not matter. -/
abbrev VO0_17 : View sig .tc .vmem S7x4x256 .f32 := (Memref.whole cc0_stg17_0 : Memref sig .tc .vmem S7x4x256 .f32).view
/-- One staging buffer of output window 18, through which its contents are stated; the choice does not matter. -/
abbrev VO0_18 : View sig .tc .vmem S7x4x256 .f32 := (Memref.whole cc0_stg18_0 : Memref sig .tc .vmem S7x4x256 .f32).view
/-- One staging buffer of output window 19, through which its contents are stated; the choice does not matter. -/
abbrev VO0_19 : View sig .tc .vmem S1x2x3584 .f32 := (Memref.whole cc0_stg19_0 : Memref sig .tc .vmem S1x2x3584 .f32).view
/-- Each window's current staging memref at point `t`, as the pipeline passes it, and its wholeness. -/
abbrev ms0_0 (t : Fin cfg0.N) : Memref sig .tc .vmem S1536x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x112x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S28x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S28x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x112x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S28x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x1x8x3584 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x3584 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x3584 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1536x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S3584x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S3584x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x3584 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S7x4x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S7x4x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x2x3584 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S3584x256 .i8 := Memref.whole cc0_scratch0
abbrev scM0_1 : Memref sig .tc .vmem S3584x256 .i8 := Memref.whole cc0_scratch1
abbrev scM0_2 : Memref sig .tc .vmem S256x3584 .i8 := Memref.whole cc0_scratch2

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The unit axis of the packed down weights' staging buffer squeezed away: the buffer the third loop reads through. -/
abbrev viewQ (arg9 : Memref sig .tc .vmem S3x1x8x3584 .i32) : Memref sig .tc .vmem S3x8x3584 .i32 :=
  (arg9.slice (Rect.unit (s := S3x1x8x3584) ![0, 0, 0, 0] S3x1x8x3584.size inb_S3x1x8x3584_S3x1x8x3584_0_0_0_0) (fun _ => rfl)).squeeze S3x8x3584 squeezes_S3x1x8x3584_S3x8x3584

/-- The same for the down zero points. -/
abbrev viewZ (arg10 : Memref sig .tc .vmem S1x2x3584 .i32) : Memref sig .tc .vmem S2x3584 .i32 :=
  (arg10.slice (Rect.unit (s := S1x2x3584) ![0, 0, 0] S1x2x3584.size inb_S1x2x3584_S1x2x3584_0_0_0) (fun _ => rfl)).squeeze S2x3584 squeezes_S1x2x3584_S2x3584

/-- The same for the down scales. -/
abbrev viewS (arg11 : Memref sig .tc .vmem S1x2x3584 .f32) : Memref sig .tc .vmem S2x3584 .f32 :=
  (arg11.slice (Rect.unit (s := S1x2x3584) ![0, 0, 0] S1x2x3584.size inb_S1x2x3584_S1x2x3584_0_0_0) (fun _ => rfl)).squeeze S2x3584 squeezes_S1x2x3584_S2x3584

/-- A rectangle of the whole shape holds every index. -/
theorem unit_set_univ {s : Shape} (off : Fin s.rank → ℕ) (inb) (h0 : ∀ a, off a = 0) :
    (Rect.unit (s := s) off s.size inb).set = Finset.univ := by
  ext x
  simp only [Finset.mem_univ, iff_true, Rect.mem_set_unit]
  intro a
  rw [h0 a]
  exact ⟨Nat.zero_le _, by rw [Nat.zero_add]; exact (x a).isLt⟩

theorem viewQ_set (a : Memref sig .tc .vmem S3x1x8x3584 .i32) : (viewQ a).view.set = a.view.set := by
  refine (Memref.set_view_squeeze _ _).trans ?_
  show (a.view.slice _).set = _
  rw [View.set_slice, unit_set_univ _ _ (by decide)]; rfl

theorem viewZ_set (a : Memref sig .tc .vmem S1x2x3584 .i32) : (viewZ a).view.set = a.view.set := by
  refine (Memref.set_view_squeeze _ _).trans ?_
  show (a.view.slice _).set = _
  rw [View.set_slice, unit_set_univ _ _ (by decide)]; rfl

theorem viewS_set (a : Memref sig .tc .vmem S1x2x3584 .f32) : (viewS a).view.set = a.view.set := by
  refine (Memref.set_view_squeeze _ _).trans ?_
  show (a.view.slice _).set = _
  rw [View.set_slice, unit_set_univ _ _ (by decide)]; rfl

/-- Holding the packed down weights' buffer is holding it through its squeezed view. -/
theorem viewQ_own (c : Dev nD) (a : Memref sig .tc .vmem S3x1x8x3584 .i32) (f : BufTy.Contents (Elt F) a.view.ty) :
    ((a.view.loc (c : Thread nD τ) ↦[a.view.set]{fullShare} f : sProp 𝕄)) = ((viewQ a).view.loc (c : Thread nD τ) ↦[(viewQ a).view.set]{fullShare} f) := by
  rw [viewQ_set]

/-- The same for the down zero points. -/
theorem viewZ_own (c : Dev nD) (a : Memref sig .tc .vmem S1x2x3584 .i32) (f : BufTy.Contents (Elt F) a.view.ty) :
    ((a.view.loc (c : Thread nD τ) ↦[a.view.set]{fullShare} f : sProp 𝕄)) = ((viewZ a).view.loc (c : Thread nD τ) ↦[(viewZ a).view.set]{fullShare} f) := by
  rw [viewZ_set]

/-- The same for the down scales. -/
theorem viewS_own (c : Dev nD) (a : Memref sig .tc .vmem S1x2x3584 .f32) (f : BufTy.Contents (Elt F) a.view.ty) :
    ((a.view.loc (c : Thread nD τ) ↦[a.view.set]{fullShare} f : sProp 𝕄)) = ((viewS a).view.loc (c : Thread nD τ) ↦[(viewS a).view.set]{fullShare} f) := by
  rw [viewS_set]

end Cert.MainIdeal.Gen

end
-- ==== Proof.MainIdealRun.Lists.lean ====
/- What each of the five loops of one grid point of `MainIdeal` writes into each buffer, for any staging buffers. -/
module

public import proofs.«01_k».proof.Proof.MainIdealRun.Kit

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A whole buffer written all over holds the same whatever it held before. -/
theorem writes_whole {s : Shape} {e : EltTy} (a : Memref sig .tc .vmem s e) (h : a.IsWhole) (f : BufTy.Contents (Elt F) a.view.ty)
    (L : List (View.Piece (Elt F) s e)) (hc : ∀ y, ∃ p ∈ L, y ∈ p.1.set) :
    a.view.writes (Elt F) f L = h.unread (View.canon L) :=
  h.eq_unread (View.read_writes_eq_canon a.view f L hc)

/-- A loop at the head of a program, by its invariant. -/
theorem loop_head (c : Dev nD) (E : Set ℕ) (l : Scf.Loop 32) (hok : l.OK)
    (body : Fin l.trips → Unit → Prog (TpuEff nD τ sig (Elt F) Λ₀ .tc) Unit)
    (L : LoopInv (M := MT nD τ sig Unit (Elt F) ℕ (UR sig nD τ) ℕ) frame (wpE (defs₀ (F := F)) Variants.none (c : Thread nD τ) none) E l.lb l.ub l.st hok () body)
    (J : ℕ → Unit → sProp (MT nD τ sig Unit (Elt F) ℕ (UR sig nD τ) ℕ)) (hJ : L.inv = J)
    (kk : Prog (TpuEff nD τ sig (Elt F) Λ₀ .tc) PUnit) (Q : PUnit → sProp (MT nD τ sig Unit (Elt F) ℕ (UR sig nD τ) ℕ)) :
    iprop(J 0 () ∗ (J l.trips () -∗ wp frame (wpE (defs₀ (F := F)) Variants.none (c : Thread nD τ) none) E kk Q))
      ⊢ wp frame (wpE (defs₀ (F := F)) Variants.none (c : Thread nD τ) none) E (Scf.Loop.for l hok () body >>= fun _ => kk) Q := by
  subst hJ
  iintro ⟨HI, HK⟩
  iapply (exec_loop frame (wpE (defs₀ (F := F)) Variants.none (c : Thread nD τ) none) E l.lb l.ub l.st hok () body L) $$ [HI]
  · iexact HI
  iintro %acc Hinv
  iapply HK
  iexact Hinv

/-- The pieces of the first loop: the gate weights and their integer part. -/
def L1 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x2 : Vec F S3x112x256 .i32) (x3 : Vec F S28x256 .i32) (x4 : Vec F S28x256 .f32) : List (View.Piece (Elt F) S3584x256 .bf16) × List (View.Piece (Elt F) S3584x256 .i8) :=
  pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg3.unread x2) (harg4.unread x3) (harg5.unread x4) k0_t1_loop.trips

/-- The pieces of the second loop: the up weights and their integer part. -/
def L2 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x5 : Vec F S3x112x256 .i32) (x6 : Vec F S28x256 .i32) (x7 : Vec F S28x256 .f32) : List (View.Piece (Elt F) S3584x256 .bf16) × List (View.Piece (Elt F) S3584x256 .i8) :=
  pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg6.unread x5) (harg7.unread x6) (harg8.unread x7) k0_t2_loop.trips

/-- The pieces of the third loop: the down weights and their integer part. -/
def L3 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x8 : Vec F S3x1x8x3584 .i32) (x9 : Vec F S1x2x3584 .i32) (x10 : Vec F S1x2x3584 .f32) : List (View.Piece (Elt F) S256x3584 .bf16) × List (View.Piece (Elt F) S256x3584 .i8) :=
  pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32) (viewQ arg9) rfl (viewZ arg10) rfl (viewS arg11) rfl (harg9.unread x8) (harg10.unread x9) (harg11.unread x10) k0_t3_loop.trips

/-- These pieces cover the buffer. -/
theorem cov1a (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x2 : Vec F S3x112x256 .i32) (x3 : Vec F S28x256 .i32) (x4 : Vec F S28x256 .f32) (y : S3584x256.Idx) :
    ∃ p ∈ (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1, y ∈ p.1.set :=
  View.cover_of_tiledL (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1 S32x256.size (by sl_kernel_rfl) y

/-- These pieces cover the buffer. -/
theorem cov1b (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x2 : Vec F S3x112x256 .i32) (x3 : Vec F S28x256 .i32) (x4 : Vec F S28x256 .f32) (y : S3584x256.Idx) :
    ∃ p ∈ (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2, y ∈ p.1.set :=
  View.cover_of_tiledL (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2 S32x256.size (by sl_kernel_rfl) y

/-- These pieces cover the buffer. -/
theorem cov2a (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x5 : Vec F S3x112x256 .i32) (x6 : Vec F S28x256 .i32) (x7 : Vec F S28x256 .f32) (y : S3584x256.Idx) :
    ∃ p ∈ (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1, y ∈ p.1.set :=
  View.cover_of_tiledL (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1 S32x256.size (by sl_kernel_rfl) y

/-- These pieces cover the buffer. -/
theorem cov2b (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x5 : Vec F S3x112x256 .i32) (x6 : Vec F S28x256 .i32) (x7 : Vec F S28x256 .f32) (y : S3584x256.Idx) :
    ∃ p ∈ (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2, y ∈ p.1.set :=
  View.cover_of_tiledL (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2 S32x256.size (by sl_kernel_rfl) y

/-- These pieces cover the buffer. -/
theorem cov3a (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x8 : Vec F S3x1x8x3584 .i32) (x9 : Vec F S1x2x3584 .i32) (x10 : Vec F S1x2x3584 .f32) (y : S256x3584.Idx) :
    ∃ p ∈ (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1, y ∈ p.1.set :=
  View.cover_of_tiledL (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1 S32x3584.size (by sl_kernel_rfl) y

/-- These pieces cover the buffer. -/
theorem cov3b (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x8 : Vec F S3x1x8x3584 .i32) (x9 : Vec F S1x2x3584 .i32) (x10 : Vec F S1x2x3584 .f32) (y : S256x3584.Idx) :
    ∃ p ∈ (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2, y ∈ p.1.set :=
  View.cover_of_tiledL (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2 S32x3584.size (by sl_kernel_rfl) y

/-- The pieces of the fourth loop: the hidden activation and the two gradients. -/
def L4 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : List (View.Piece (Elt F) S1536x256 .bf16) × List (View.Piece (Elt F) S1536x256 .bf16) × List (View.Piece (Elt F) S1536x256 .bf16) :=
  pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg15.unread (View.canon (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1)) (harg16.unread (View.canon (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1)) (harg17.unread (View.canon (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1)) k0_t4_loop.trips

/-- These pieces cover the buffer. -/
theorem cov4a (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S1536x256.Idx) :
    ∃ p ∈ (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1, y ∈ p.1.set :=
  View.cover_of_tiledL (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 S512x256.size (by sl_kernel_rfl) y

/-- These pieces cover the buffer. -/
theorem cov4b (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S1536x256.Idx) :
    ∃ p ∈ (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, y ∈ p.1.set :=
  View.cover_of_tiledL (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 S512x256.size (by sl_kernel_rfl) y

/-- These pieces cover the buffer. -/
theorem cov4c (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S1536x256.Idx) :
    ∃ p ∈ (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2, y ∈ p.1.set :=
  View.cover_of_tiledL (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2 S512x256.size (by sl_kernel_rfl) y

/-- The pieces of the fifth loop: the scale gradients. -/
def L5 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : List (View.Piece (Elt F) S7x4x256 .f32) × List (View.Piece (Elt F) S7x4x256 .f32) × List (View.Piece (Elt F) S1x2x3584 .f32) :=
  pb_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg12.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)) (harg13.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)) (harg14.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2)) (harg21.unread (View.canon (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2)) (harg22.unread (View.canon (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2)) (harg23.unread (View.canon (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2)) k0_t5_loop.trips

/-- These pieces cover the buffer. -/
theorem cov5a (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S7x4x256.Idx) :
    ∃ p ∈ (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1, y ∈ p.1.set :=
  View.cover_of_tiledL (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 S1x1x256.size (by sl_kernel_rfl) y

/-- These pieces cover the buffer. -/
theorem cov5b (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S7x4x256.Idx) :
    ∃ p ∈ (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, y ∈ p.1.set :=
  View.cover_of_tiledL (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 S1x1x256.size (by sl_kernel_rfl) y

/-- These pieces cover the buffer. -/
theorem cov5c (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S1x2x3584.Idx) :
    ∃ p ∈ (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2, y ∈ p.1.set :=
  View.cover_of_tiledL (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2 S1x1x512.size (by sl_kernel_rfl) y

/-- The body is its five loops in order. -/
theorem skel_eq (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole) :
    cc0_main_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
      = (Scf.Loop.for k0_t1_loop k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32)) >>= fun _ => Scf.Loop.for k0_t2_loop k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32)) >>= fun _ => Scf.Loop.for k0_t3_loop k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32)) >>= fun _ => Scf.Loop.for k0_t4_loop k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) >>= fun _ => Scf.Loop.for k0_t5_loop k0_t5_ok () (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) >>= fun _ => Prog.ret PUnit.unit) :=
  rfl

end Cert.MainIdeal.Gen

end
-- ==== Proof.MainIdealRun.Run.lean ====
/- One grid point of the region of `MainIdeal`, run once for any staging buffers: which pieces each result's buffer
   ends with. -/
module

public import proofs.«01_k».proof.Proof.MainIdealRun.Lists

@[expose] public section

-- the long axes need deep recursion
set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- What the body's stores leave in each output's staging memref, as pieces, with the proof that on whole staging
    memrefs — the inputs' at their contents, the outputs' and the scratch buffers at anything — the body runs to the
    continuation holding the inputs' as they were, the scratch at some contents, each output's buffer with its pieces
    written. The five loops are taken in order, each by its invariant; after a loop a buffer it filled is restated at
    contents that do not mention what it held before. -/
noncomputable def kernelRun0_A (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) :
    Σ' (L11 : List (View.Piece (Elt F) S1536x256 .bf16)), Σ' (L12 : List (View.Piece (Elt F) S1536x256 .bf16)), Σ' (L13 : List (View.Piece (Elt F) S1536x256 .bf16)), Σ' (L14 : List (View.Piece (Elt F) S3584x256 .bf16)), Σ' (L15 : List (View.Piece (Elt F) S3584x256 .bf16)), Σ' (L16 : List (View.Piece (Elt F) S256x3584 .bf16)), Σ' (L17 : List (View.Piece (Elt F) S7x4x256 .f32)), Σ' (L18 : List (View.Piece (Elt F) S7x4x256 .f32)), { L19 : List (View.Piece (Elt F) S1x2x3584 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨(L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1, (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2, (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1, (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1, (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1, (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1, (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2, fun E K => ?run⟩
  case run =>
    simp only [cc0_main_eq_skeleton, skel_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    ihave H8 := (Entails.of_eq (viewQ_own c arg9 _)) $$ H8
    ihave H9 := (Entails.of_eq (viewZ_own c arg10 _)) $$ H9
    ihave H10 := (Entails.of_eq (viewS_own c arg11 _)) $$ H10
    iapply (loop_head c E k0_t1_loop k0_t1_ok _ (loopInv_k0_t1 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg3.unread x2) (harg4.unread x3) (harg5.unread x4) f14 fs0) (inv_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg3.unread x2) (harg4.unread x3) (harg5.unread x4) f14 fs0) rfl _ _)
    isplitl [H2 H3 H4 H14 HS0]
    · isplitl [H2]; · iexact H2
      isplitl [H3]; · iexact H3
      isplitl [H4]; · iexact H4
      isplitl [H14]
      · iexists _; isplitl [H14]; · iexact H14
        ipureintro; rfl
      iexists _; isplitl [HS0]; · iexact HS0
      ipureintro; rfl
    iintro ⟨H2, H3, H4, ⟨%eH14, H14, %hH14⟩, ⟨%eHS0, HS0, %hHS0⟩⟩
    obtain rfl := hH14.trans (writes_whole arg15 harg15 _ (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1 (fun y => cov1a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 y))
    obtain rfl := hHS0.trans (writes_whole arg21 harg21 _ (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2 (fun y => cov1b (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 y))
    iapply (loop_head c E k0_t2_loop k0_t2_ok _ (loopInv_k0_t2 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg6.unread x5) (harg7.unread x6) (harg8.unread x7) f15 fs1) (inv_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg6.unread x5) (harg7.unread x6) (harg8.unread x7) f15 fs1) rfl _ _)
    isplitl [H5 H6 H7 H15 HS1]
    · isplitl [H5]; · iexact H5
      isplitl [H6]; · iexact H6
      isplitl [H7]; · iexact H7
      isplitl [H15]
      · iexists _; isplitl [H15]; · iexact H15
        ipureintro; rfl
      iexists _; isplitl [HS1]; · iexact HS1
      ipureintro; rfl
    iintro ⟨H5, H6, H7, ⟨%eH15, H15, %hH15⟩, ⟨%eHS1, HS1, %hHS1⟩⟩
    obtain rfl := hH15.trans (writes_whole arg16 harg16 _ (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1 (fun y => cov2a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7 y))
    obtain rfl := hHS1.trans (writes_whole arg22 harg22 _ (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2 (fun y => cov2b (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7 y))
    iapply (loop_head c E k0_t3_loop k0_t3_ok _ (loopInv_k0_t3 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32) (viewQ arg9) rfl (viewZ arg10) rfl (viewS arg11) rfl (harg9.unread x8) (harg10.unread x9) (harg11.unread x10) f16 fs2) (inv_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32) (viewQ arg9) rfl (viewZ arg10) rfl (viewS arg11) rfl (harg9.unread x8) (harg10.unread x9) (harg11.unread x10) f16 fs2) rfl _ _)
    isplitl [H8 H9 H10 H16 HS2]
    · isplitl [H8]; · iexact H8
      isplitl [H9]; · iexact H9
      isplitl [H10]; · iexact H10
      isplitl [H16]
      · iexists _; isplitl [H16]; · iexact H16
        ipureintro; rfl
      iexists _; isplitl [HS2]; · iexact HS2
      ipureintro; rfl
    iintro ⟨H8, H9, H10, ⟨%eH16, H16, %hH16⟩, ⟨%eHS2, HS2, %hHS2⟩⟩
    obtain rfl := hH16.trans (writes_whole arg17 harg17 _ (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1 (fun y => cov3a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10 y))
    obtain rfl := hHS2.trans (writes_whole arg23 harg23 _ (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2 (fun y => cov3b (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10 y))
    iapply (loop_head c E k0_t4_loop k0_t4_ok _ (loopInv_k0_t4 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg15.unread (View.canon (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1)) (harg16.unread (View.canon (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1)) (harg17.unread (View.canon (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1)) f11 f12 f13) (inv_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg15.unread (View.canon (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1)) (harg16.unread (View.canon (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1)) (harg17.unread (View.canon (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1)) f11 f12 f13) rfl _ _)
    isplitl [H0 H1 H14 H15 H16 H11 H12 H13]
    · isplitl [H0]; · iexact H0
      isplitl [H1]; · iexact H1
      isplitl [H14]; · iexact H14
      isplitl [H15]; · iexact H15
      isplitl [H16]; · iexact H16
      isplitl [H11]
      · iexists _; isplitl [H11]; · iexact H11
        ipureintro; rfl
      isplitl [H12]
      · iexists _; isplitl [H12]; · iexact H12
        ipureintro; rfl
      iexists _; isplitl [H13]; · iexact H13
      ipureintro; rfl
    iintro ⟨H0, H1, H14, H15, H16, ⟨%eH11, H11, %hH11⟩, ⟨%eH12, H12, %hH12⟩, ⟨%eH13, H13, %hH13⟩⟩
    obtain rfl := hH11.trans (writes_whole arg12 harg12 _ (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 (fun y => cov4a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y))
    obtain rfl := hH12.trans (writes_whole arg13 harg13 _ (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 (fun y => cov4b (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y))
    obtain rfl := hH13.trans (writes_whole arg14 harg14 _ (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2 (fun y => cov4c (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y))
    iapply (loop_head c E k0_t5_loop k0_t5_ok _ (loopInv_k0_t5 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg12.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)) (harg13.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)) (harg14.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2)) (harg21.unread (View.canon (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2)) (harg22.unread (View.canon (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2)) (harg23.unread (View.canon (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2)) f17 f18 f19) (inv_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg12.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)) (harg13.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)) (harg14.unread (View.canon (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2)) (harg21.unread (View.canon (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2)) (harg22.unread (View.canon (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2)) (harg23.unread (View.canon (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2)) f17 f18 f19) rfl _ _)
    isplitl [H0 H1 H11 H12 H13 HS0 HS1 HS2 H17 H18 H19]
    · isplitl [H0]; · iexact H0
      isplitl [H1]; · iexact H1
      isplitl [H11]; · iexact H11
      isplitl [H12]; · iexact H12
      isplitl [H13]; · iexact H13
      isplitl [HS0]; · iexact HS0
      isplitl [HS1]; · iexact HS1
      isplitl [HS2]; · iexact HS2
      isplitl [H17]
      · iexists _; isplitl [H17]; · iexact H17
        ipureintro; rfl
      isplitl [H18]
      · iexists _; isplitl [H18]; · iexact H18
        ipureintro; rfl
      iexists _; isplitl [H19]; · iexact H19
      ipureintro; rfl
    iintro ⟨H0, H1, H11, H12, H13, HS0, HS1, HS2, ⟨%eH17, H17, %hH17⟩, ⟨%eH18, H18, %hH18⟩, ⟨%eH19, H19, %hH19⟩⟩
    obtain rfl := hH17.trans (writes_whole arg18 harg18 _ (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 (fun y => cov5a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y))
    obtain rfl := hH18.trans (writes_whole arg19 harg19 _ (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 (fun y => cov5b (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y))
    obtain rfl := hH19.trans (writes_whole arg20 harg20 _ (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2 (fun y => cov5c (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y))
    sl_step
    iapply Hk
    ihave H8 := (Entails.of_eq (viewQ_own c arg9 _).symm) $$ H8
    ihave H9 := (Entails.of_eq (viewZ_own c arg10 _).symm) $$ H9
    ihave H10 := (Entails.of_eq (viewS_own c arg11 _).symm) $$ H10
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    ihave H11 := (Entails.of_eq (congrArg (fun f => (arg12.view.loc (c : Thread nD τ) ↦[arg12.view.set]{fullShare} f : sProp 𝕄)) (writes_whole arg12 harg12 arg12.view.junk (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 (fun y => cov4a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)).symm)) $$ H11
    isplitl [H11]; · iexists _; iexact H11
    ihave H12 := (Entails.of_eq (congrArg (fun f => (arg13.view.loc (c : Thread nD τ) ↦[arg13.view.set]{fullShare} f : sProp 𝕄)) (writes_whole arg13 harg13 arg13.view.junk (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 (fun y => cov4b (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)).symm)) $$ H12
    isplitl [H12]; · iexists _; iexact H12
    ihave H13 := (Entails.of_eq (congrArg (fun f => (arg14.view.loc (c : Thread nD τ) ↦[arg14.view.set]{fullShare} f : sProp 𝕄)) (writes_whole arg14 harg14 arg14.view.junk (L4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2 (fun y => cov4c (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)).symm)) $$ H13
    isplitl [H13]; · iexists _; iexact H13
    ihave H14 := (Entails.of_eq (congrArg (fun f => (arg15.view.loc (c : Thread nD τ) ↦[arg15.view.set]{fullShare} f : sProp 𝕄)) (writes_whole arg15 harg15 arg15.view.junk (L1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1 (fun y => cov1a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 y)).symm)) $$ H14
    isplitl [H14]; · iexists _; iexact H14
    ihave H15 := (Entails.of_eq (congrArg (fun f => (arg16.view.loc (c : Thread nD τ) ↦[arg16.view.set]{fullShare} f : sProp 𝕄)) (writes_whole arg16 harg16 arg16.view.junk (L2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1 (fun y => cov2a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7 y)).symm)) $$ H15
    isplitl [H15]; · iexists _; iexact H15
    ihave H16 := (Entails.of_eq (congrArg (fun f => (arg17.view.loc (c : Thread nD τ) ↦[arg17.view.set]{fullShare} f : sProp 𝕄)) (writes_whole arg17 harg17 arg17.view.junk (L3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1 (fun y => cov3a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10 y)).symm)) $$ H16
    isplitl [H16]; · iexists _; iexact H16
    ihave H17 := (Entails.of_eq (congrArg (fun f => (arg18.view.loc (c : Thread nD τ) ↦[arg18.view.set]{fullShare} f : sProp 𝕄)) (writes_whole arg18 harg18 arg18.view.junk (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 (fun y => cov5a (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)).symm)) $$ H17
    isplitl [H17]; · iexists _; iexact H17
    ihave H18 := (Entails.of_eq (congrArg (fun f => (arg19.view.loc (c : Thread nD τ) ↦[arg19.view.set]{fullShare} f : sProp 𝕄)) (writes_whole arg19 harg19 arg19.view.junk (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 (fun y => cov5b (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)).symm)) $$ H18
    isplitl [H18]; · iexists _; iexact H18
    ihave H19 := (Entails.of_eq (congrArg (fun f => (arg20.view.loc (c : Thread nD τ) ↦[arg20.view.set]{fullShare} f : sProp 𝕄)) (writes_whole arg20 harg20 arg20.view.junk (L5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2 (fun y => cov5c (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)).symm)) $$ H19
    isplitl [H19]; · iexists _; iexact H19
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.MainIdeal.Gen

end
-- ==== Proof.MainIdealRun.Frame.lean ====
/- The region of `MainIdeal` point by point: the pieces cover each result's block, so each block's contents are a function
   of the input blocks; the region's run; and the frame claim. -/
module

public import proofs.«01_k».proof.Proof.MainIdealRun.Run
public import Idealize.ShloMosaic.Lib.Claim

@[expose] public section

-- the long axes need deep recursion
set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 11 tile its block (3 stores of `S512x256`), so they cover it. -/
theorem cover0_A_11 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 S512x256.size (by sl_kernel_rfl) y

/-- What the run leaves in output 11's staging buffer: its pieces read back, whatever was there before. -/
def out0_A_11 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S1536x256 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)

/-- The run's pieces for output 12 tile its block (3 stores of `S512x256`), so they cover it. -/
theorem cover0_A_12 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 S512x256.size (by sl_kernel_rfl) y

/-- What the run leaves in output 12's staging buffer: its pieces read back, whatever was there before. -/
def out0_A_12 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S1536x256 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)

/-- The run's pieces for output 13 tile its block (3 stores of `S512x256`), so they cover it. -/
theorem cover0_A_13 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1 S512x256.size (by sl_kernel_rfl) y

/-- What the run leaves in output 13's staging buffer: its pieces read back, whatever was there before. -/
def out0_A_13 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S1536x256 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1)

/-- The run's pieces for output 14 tile its block (112 stores of `S32x256`), so they cover it. -/
theorem cover0_A_14 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S3584x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.1 S32x256.size (by sl_kernel_rfl) y

/-- What the run leaves in output 14's staging buffer: its pieces read back, whatever was there before. -/
def out0_A_14 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S3584x256 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.1)

/-- The run's pieces for output 15 tile its block (112 stores of `S32x256`), so they cover it. -/
theorem cover0_A_15 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S3584x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.1 S32x256.size (by sl_kernel_rfl) y

/-- What the run leaves in output 15's staging buffer: its pieces read back, whatever was there before. -/
def out0_A_15 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S3584x256 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.1)

/-- The run's pieces for output 16 tile its block (8 stores of `S32x3584`), so they cover it. -/
theorem cover0_A_16 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S256x3584.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.1 S32x3584.size (by sl_kernel_rfl) y

/-- What the run leaves in output 16's staging buffer: its pieces read back, whatever was there before. -/
def out0_A_16 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S256x3584 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.1)

/-- The run's pieces for output 17 tile its block (28 stores of `S1x1x256`), so they cover it. -/
theorem cover0_A_17 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S7x4x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.1 S1x1x256.size (by sl_kernel_rfl) y

/-- What the run leaves in output 17's staging buffer: its pieces read back, whatever was there before. -/
def out0_A_17 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S7x4x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.1)

/-- The run's pieces for output 18 tile its block (28 stores of `S1x1x256`), so they cover it. -/
theorem cover0_A_18 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S7x4x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.1 S1x1x256.size (by sl_kernel_rfl) y

/-- What the run leaves in output 18's staging buffer: its pieces read back, whatever was there before. -/
def out0_A_18 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S7x4x256 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.1)

/-- The run's pieces for output 19 tile its block (14 stores of `S1x1x512`), so they cover it. -/
theorem cover0_A_19 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) (y : S1x2x3584.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.1 S1x1x512.size (by sl_kernel_rfl) y

/-- What the run leaves in output 19's staging buffer: its pieces read back, whatever was there before. -/
def out0_A_19 (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)
    (x0 : Vec F S1536x3584 .bf16) (x1 : Vec F S1536x3584 .bf16) (x2 : Vec F S3x112x256 .i32) (x3 : Vec F S28x256 .i32) (x4 : Vec F S28x256 .f32) (x5 : Vec F S3x112x256 .i32) (x6 : Vec F S28x256 .i32) (x7 : Vec F S28x256 .f32) (x8 : Vec F S3x1x8x3584 .i32) (x9 : Vec F S1x2x3584 .i32) (x10 : Vec F S1x2x3584 .f32) : Vec F S1x2x3584 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1536x256 .bf16 × Vec F S1536x256 .bf16 × Vec F S1536x256 .bf16 × Vec F S3584x256 .bf16 × Vec F S3584x256 .bf16 × Vec F S256x3584 .bf16 × Vec F S7x4x256 .f32 × Vec F S7x4x256 .f32 × Vec F S1x2x3584 .f32 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-! ## The pipeline's proof data -/

/-- The proof data of the one pipeline on core `c`: the arrays as the region finds them (`V`); after the body at
    point `t` each input's buffer at its block and the outputs' at `outsAt0`; the invariant holds the
    scratch buffers and the random number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2.1
    | ⟨14, _⟩ => (outsAt0 m c t).2.2.2.1
    | ⟨15, _⟩ => (outsAt0 m c t).2.2.2.2.1
    | ⟨16, _⟩ => (outsAt0 m c t).2.2.2.2.2.1
    | ⟨17, _⟩ => (outsAt0 m c t).2.2.2.2.2.2.1
    | ⟨18, _⟩ => (outsAt0 m c t).2.2.2.2.2.2.2.1
    | ⟨19, _⟩ => (outsAt0 m c t).2.2.2.2.2.2.2.2
    | ⟨_ + 20, h⟩ => absurd h (Nat.not_lt.2 (Nat.le_add_left _ _))
  Φ _ := Pipeline.ΦA spec0 c
  q _ := fullShare
  owed _ := 0

/-- The proof data's arrays are the contents that the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2.1 := by dsimp only [dats]
theorem after0_14 (c : Dev nD) (t : Fin cfg0.N) : (dats m 0 c).after 14 t = (outsAt0 m c t).2.2.2.1 := by dsimp only [dats]
theorem after0_15 (c : Dev nD) (t : Fin cfg0.N) : (dats m 0 c).after 15 t = (outsAt0 m c t).2.2.2.2.1 := by dsimp only [dats]
theorem after0_16 (c : Dev nD) (t : Fin cfg0.N) : (dats m 0 c).after 16 t = (outsAt0 m c t).2.2.2.2.2.1 := by dsimp only [dats]
theorem after0_17 (c : Dev nD) (t : Fin cfg0.N) : (dats m 0 c).after 17 t = (outsAt0 m c t).2.2.2.2.2.2.1 := by dsimp only [dats]
theorem after0_18 (c : Dev nD) (t : Fin cfg0.N) : (dats m 0 c).after 18 t = (outsAt0 m c t).2.2.2.2.2.2.2.1 := by dsimp only [dats]
theorem after0_19 (c : Dev nD) (t : Fin cfg0.N) : (dats m 0 c).after 19 t = (outsAt0 m c t).2.2.2.2.2.2.2.2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- And what it returns, the windows one by one. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
/-- The body at any point: the inputs' memrefs hold their blocks, so the run applies; the
    invariant hands the body its scratch buffers at some contents and takes them back at some contents; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.castSucc = Pipeline.ΦA spec0 c from rfl, PhiA0_eq]
  unfold outsAt0
  unfold out0_A_11 out0_A_12 out0_A_13 out0_A_14 out0_A_15 out0_A_16 out0_A_17 out0_A_18 out0_A_19; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _)

/-- The body that the pipeline calls at point `t` is `bodyAt0`. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- What `run_main` states, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame claim of `MainIdeal`, at any interpretation of the floats: it ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.MainIdeal.Gen

end
-- ==== Proof.Main.Spec.lean ====
/- The mathematics of the main call on plain functions: the 3-bit codes, the differences from the zero points, the
   weights, the products, the gated activation, its gradients and the scale gradients. -/
module

public import Idealize.ShloMosaic.Lib.Pointwise
public import Idealize.ShloMosaic.PureOps.Ideal

@[expose] public section

set_option maxRecDepth 16384

noncomputable section

namespace Cert.MainSpec

open Idealize.ShloMosaic

/-- The 3-bit code of a field: one bit from each of three words. -/
def code (w0 w1 w2 : BitVec 32) (f : ℕ) : BitVec 32 :=
  ((w0 >>> f) &&& 1#32) ||| (((w1 >>> f) &&& 1#32) <<< 1) ||| (((w2 >>> f) &&& 1#32) <<< 2)

/-- The code less the zero point, as a word. -/
def dword (w0 w1 w2 : BitVec 32) (f : ℕ) (z : BitVec 8) : BitVec 32 := code w0 w1 w2 f - z.setWidth 32

/-- The code less the zero point, as a number. -/
def dnum (w0 w1 w2 : BitVec 32) (f : ℕ) (z : BitVec 8) : EReal := (((dword w0 w1 w2 f z).toInt : ℝ) : EReal)

theorem bit_cases (x : BitVec 32) : x &&& 1#32 = 0#32 ∨ x &&& 1#32 = 1#32 := by
  have h : (x &&& 1#32).toNat ≤ 1 := by rw [BitVec.toNat_and]; exact Nat.and_le_right
  rcases Nat.le_one_iff_eq_zero_or_eq_one.mp h with h | h
  · exact Or.inl (BitVec.eq_of_toNat_eq h)
  · exact Or.inr (BitVec.eq_of_toNat_eq h)

/-- A code is one of the eight numbers below 8. -/
theorem code_cases (w0 w1 w2 : BitVec 32) (f : ℕ) : ∃ c : Fin 8, code w0 w1 w2 f = BitVec.ofNat 32 c.val := by
  unfold code
  rcases bit_cases (w0 >>> f) with h0 | h0 <;> rcases bit_cases (w1 >>> f) with h1 | h1 <;>
    rcases bit_cases (w2 >>> f) with h2 | h2 <;> rw [h0, h1, h2]
  exacts [⟨0, rfl⟩, ⟨4, rfl⟩, ⟨2, rfl⟩, ⟨6, rfl⟩, ⟨1, rfl⟩, ⟨5, rfl⟩, ⟨3, rfl⟩, ⟨7, rfl⟩]

theorem sub_toInt : ∀ (c : Fin 8) (z : Fin 256),
    (BitVec.ofNat 32 c.val - (BitVec.ofNat 8 z.val).setWidth 32).toInt
      = (BitVec.ofNat 32 c.val).toInt - ((BitVec.ofNat 8 z.val).setWidth 32).toInt := by decide +kernel

theorem trunc_toInt : ∀ (c : Fin 8) (z : Fin 129),
    ((BitVec.ofNat 32 c.val - (BitVec.ofNat 8 z.val).setWidth 32).setWidth 8).toInt
      = (BitVec.ofNat 32 c.val - (BitVec.ofNat 8 z.val).setWidth 32).toInt := by decide +kernel

/-- Subtracting as numbers is subtracting as words: no difference overflows. -/
theorem dnum_eq_sub (w0 w1 w2 : BitVec 32) (f : ℕ) (z : BitVec 8) :
    dnum w0 w1 w2 f z = ((((code w0 w1 w2 f).toInt : ℝ)) : EReal) - ((((z.setWidth 32).toInt : ℝ)) : EReal) := by
  obtain ⟨c, hc⟩ := code_cases w0 w1 w2 f
  have hz : z = BitVec.ofNat 8 (⟨z.toNat, z.isLt⟩ : Fin 256).val := (BitVec.ofNat_toNat 8 z).symm.trans rfl |>.symm ▸ by simp
  have h := sub_toInt c ⟨z.toNat, z.isLt⟩
  rw [← hz, ← hc] at h
  unfold dnum dword
  rw [h, Int.cast_sub, EReal.coe_sub]

/-- Where the zero point is at most 128 the low eight bits of the difference, read as a signed number, are the
    difference. -/
theorem dnum_eq_trunc (w0 w1 w2 : BitVec 32) (f : ℕ) (z : BitVec 8) (hz : z.toNat ≤ 128) :
    (((((dword w0 w1 w2 f z).setWidth 8).toInt : ℝ)) : EReal) = dnum w0 w1 w2 f z := by
  obtain ⟨c, hc⟩ := code_cases w0 w1 w2 f
  have hz' : z = BitVec.ofNat 8 (⟨z.toNat, Nat.lt_succ_of_le hz⟩ : Fin 129).val := by simp
  have h := trunc_toInt c ⟨z.toNat, Nat.lt_succ_of_le hz⟩
  rw [← hz', ← hc] at h
  unfold dnum
  exact congrArg (fun k : ℤ => (((k : ℝ)) : EReal)) h

theorem shr_field (υ : ArithUnit) (x : BitVec 32) (f : Fin 32) : IntOp.shrui υ x (BitVec.ofNat 32 f.val) = x >>> f.val := by
  have hf : (BitVec.ofNat 32 f.val).toNat = f.val := by
    rw [BitVec.toNat_ofNat]; exact Nat.mod_eq_of_lt (by have := f.isLt; omega)
  unfold IntOp.shrui; rw [if_pos (by rw [hf]; exact f.isLt)]
  show x >>> (BitVec.ofNat 32 f.val).toNat = _; rw [hf]

theorem shl_zero (υ : ArithUnit) (x : BitVec 32) : IntOp.shli υ x 0#32 = x := by
  unfold IntOp.shli; rw [if_pos (by decide)]
  show x <<< (0#32).toNat = x; simp

theorem shl_one (υ : ArithUnit) (x : BitVec 32) : IntOp.shli υ x 1#32 = x <<< 1 := by
  unfold IntOp.shli; rw [if_pos (by decide)]; rfl

theorem shl_two (υ : ArithUnit) (x : BitVec 32) : IntOp.shli υ x 2#32 = x <<< 2 := by
  unfold IntOp.shli; rw [if_pos (by decide)]; rfl

/-- The kernel's spelling of a code. -/
theorem code_vector (w0 w1 w2 : BitVec 32) (f : Fin 32) :
    IntOp.ori
      (IntOp.ori
        (IntOp.shli ArithUnit.vector (IntOp.andi (IntOp.shrui ArithUnit.vector w0 (BitVec.ofNat 32 f.val)) 1#32) 0#32)
        (IntOp.shli ArithUnit.vector (IntOp.andi (IntOp.shrui ArithUnit.vector w1 (BitVec.ofNat 32 f.val)) 1#32) 1#32))
      (IntOp.shli ArithUnit.vector (IntOp.andi (IntOp.shrui ArithUnit.vector w2 (BitVec.ofNat 32 f.val)) 1#32) 2#32)
    = code w0 w1 w2 f.val := by
  rw [shr_field, shr_field, shr_field, shl_zero, shl_one, shl_two]; rfl

/-- The reference's spelling of a code. -/
theorem code_host (w0 w1 w2 : BitVec 32) (f : Fin 32) :
    IntOp.ori
      (IntOp.ori
        (IntOp.andi (IntOp.shrui ArithUnit.host w0 (BitVec.ofNat 32 f.val)) 1#32)
        (IntOp.shli ArithUnit.host (IntOp.andi (IntOp.shrui ArithUnit.host w1 (BitVec.ofNat 32 f.val)) 1#32) 1#32))
      (IntOp.shli ArithUnit.host (IntOp.andi (IntOp.shrui ArithUnit.host w2 (BitVec.ofNat 32 f.val)) 1#32) 2#32)
    = code w0 w1 w2 f.val := by
  rw [shr_field, shr_field, shr_field, shl_one, shl_two]; rfl

/-- The gated activation. -/
def hid (g u : EReal) : EReal := g * Ideal.logistic g * u
/-- The gradient of the gate product. -/
def dgate (g u dh : EReal) : EReal := dh * u * Ideal.logistic g * (1 + g * (1 - Ideal.logistic g))
/-- The gradient of the up product. -/
def dup (g dh : EReal) : EReal := dh * g * Ideal.logistic g

/-- The arguments of the call, as plain functions. -/
structure Args where
  /-- the normalised input -/
  a : Fin 1536 → Fin 3584 → EReal
  /-- the gradient of the output -/
  dy : Fin 1536 → Fin 3584 → EReal
  /-- the gate words, zero points and scales -/
  qg : Fin 3 → Fin 18944 → Fin 112 → BitVec 32
  zg : Fin 18944 → Fin 28 → BitVec 8
  sg : Fin 18944 → Fin 28 → EReal
  /-- the up words, zero points and scales -/
  qu : Fin 3 → Fin 18944 → Fin 112 → BitVec 32
  zu : Fin 18944 → Fin 28 → BitVec 8
  su : Fin 18944 → Fin 28 → EReal
  /-- the down words, zero points and scales -/
  qd : Fin 3 → Fin 3584 → Fin 592 → BitVec 32
  zd : Fin 3584 → Fin 148 → BitVec 8
  sd : Fin 3584 → Fin 148 → EReal

/-- The differences of a gate or up matrix. -/
def wideD (q : Fin 3 → Fin 18944 → Fin 112 → BitVec 32) (z : Fin 18944 → Fin 28 → BitVec 8) (n : Fin 18944) (d : Fin 3584) : EReal :=
  dnum (q 0 n ⟨d.val / 32, by omega⟩) (q 1 n ⟨d.val / 32, by omega⟩) (q 2 n ⟨d.val / 32, by omega⟩) (d.val % 32) (z n ⟨d.val / 128, by omega⟩)

/-- The weights of a gate or up matrix. -/
def wideW (q : Fin 3 → Fin 18944 → Fin 112 → BitVec 32) (z : Fin 18944 → Fin 28 → BitVec 8) (s : Fin 18944 → Fin 28 → EReal)
    (n : Fin 18944) (d : Fin 3584) : EReal :=
  s n ⟨d.val / 128, by omega⟩ * wideD q z n d

/-- The differences of the down matrix. -/
def downD (q : Fin 3 → Fin 3584 → Fin 592 → BitVec 32) (z : Fin 3584 → Fin 148 → BitVec 8) (k : Fin 3584) (n : Fin 18944) : EReal :=
  dnum (q 0 k ⟨n.val / 32, by omega⟩) (q 1 k ⟨n.val / 32, by omega⟩) (q 2 k ⟨n.val / 32, by omega⟩) (n.val % 32) (z k ⟨n.val / 128, by omega⟩)

/-- The weights of the down matrix. -/
def downW (q : Fin 3 → Fin 3584 → Fin 592 → BitVec 32) (z : Fin 3584 → Fin 148 → BitVec 8) (s : Fin 3584 → Fin 148 → EReal)
    (k : Fin 3584) (n : Fin 18944) : EReal :=
  s k ⟨n.val / 128, by omega⟩ * downD q z k n

namespace Args

variable (A : Args)

/-- The gate product. -/
def g (t : Fin 1536) (n : Fin 18944) : EReal := ∑ d : Fin 3584, A.a t d * wideW A.qg A.zg A.sg n d
/-- The up product. -/
def u (t : Fin 1536) (n : Fin 18944) : EReal := ∑ d : Fin 3584, A.a t d * wideW A.qu A.zu A.su n d
/-- The gradient of the gated activation. -/
def dh (t : Fin 1536) (n : Fin 18944) : EReal := ∑ k : Fin 3584, A.dy t k * downW A.qd A.zd A.sd k n
/-- The gated activation. -/
def h (t : Fin 1536) (n : Fin 18944) : EReal := hid (A.g t n) (A.u t n)
/-- The gradient of the gate product. -/
def dg (t : Fin 1536) (n : Fin 18944) : EReal := dgate (A.g t n) (A.u t n) (A.dh t n)
/-- The gradient of the up product. -/
def du (t : Fin 1536) (n : Fin 18944) : EReal := dup (A.g t n) (A.dh t n)

end Args

/-- The gradient of the scale of group `p` of column `n` of a gate or up matrix, from the gradient of the products. -/
def wideDs (a : Fin 1536 → Fin 3584 → EReal) (grad : Fin 1536 → Fin 18944 → EReal) (D : Fin 18944 → Fin 3584 → EReal)
    (p : Fin 28) (n : Fin 18944) : EReal :=
  ∑ r : Fin 128, (∑ t : Fin 1536, a t ⟨p.val * 128 + r.val, by omega⟩ * grad t n) * D n ⟨p.val * 128 + r.val, by omega⟩

/-- The gradient of the scale of group `p` of row `k` of the down matrix. -/
def downDs (h : Fin 1536 → Fin 18944 → EReal) (dy : Fin 1536 → Fin 3584 → EReal) (D : Fin 3584 → Fin 18944 → EReal)
    (p : Fin 148) (k : Fin 3584) : EReal :=
  ∑ r : Fin 128, (∑ t : Fin 1536, h t ⟨p.val * 128 + r.val, by omega⟩ * dy t k) * D k ⟨p.val * 128 + r.val, by omega⟩

end Cert.MainSpec

end
-- ==== Proof.Main.Pay.lean ====
/- What the stores of the main call's loops write, value by value, in terms of what the trip loaded. -/
module

public import proofs.«01_k».proof.Proof.Gen.MainIdeal.Skeleton
public import proofs.«01_k».proof.Proof.Main.Spec

@[expose] public section
set_option maxRecDepth 16384
noncomputable section
namespace Cert.MainIdeal.Value
open Cert.MainIdeal Cert.MainIdeal.Gen Cert.MainSpec
open Idealize.ShloMosaic Idealize.ShloMosaic.TcCoe Idealize.SL.Sem

/-- A word read as a signed number. -/
abbrev num {w : ℕ} (x : BitVec w) : EReal := (((x.toInt : ℝ)) : EReal)

/-- The gate weights of a trip: a scale times the code less the zero point. -/
theorem pay2_apply (v28 v38 v49 : Vec Ideal S1x1x256 .i32) (v60 : Vec Ideal S1x256 .i32) (v68 : Vec Ideal S1x256 .f32) (r : Fin 32) (n : Fin 256) :
    k0_pay2 (F := Ideal) (k0_pay13 (F := Ideal) (iota .tc S32x256 32 [0] iota_S32x256_d0_w32) v28 v38) v49 v60 v68 (ix2 r n)
      = v68 (ix2 0 n) * num (code (v28 (ix3 0 0 n)) (v38 (ix3 0 0 n)) (v49 (ix3 0 0 n)) r.val - v60 (ix2 0 n)) := by
  rw [← code_vector]
  pointwise [k0_pay2, k0_pay1, k0_pay13]
  rfl

/-- The gate differences of a trip, their low eight bits. -/
theorem pay3_apply (v28 v38 v49 : Vec Ideal S1x1x256 .i32) (v60 : Vec Ideal S1x256 .i32) (r : Fin 32) (n : Fin 256) :
    k0_pay3 (F := Ideal) (k0_pay13 (F := Ideal) (iota .tc S32x256 32 [0] iota_S32x256_d0_w32) v28 v38) v49 v60 (ix2 r n)
      = (code (v28 (ix3 0 0 n)) (v38 (ix3 0 0 n)) (v49 (ix3 0 0 n)) r.val - v60 (ix2 0 n)).setWidth 8 := by
  rw [← code_vector]
  pointwise [k0_pay3, k0_pay1, k0_pay13]
  rfl

/-- The up weights of a trip. -/
theorem pay5_apply (v28 v38 v49 : Vec Ideal S1x1x256 .i32) (v60 : Vec Ideal S1x256 .i32) (v68 : Vec Ideal S1x256 .f32) (r : Fin 32) (n : Fin 256) :
    k0_pay5 (F := Ideal) (k0_pay14 (F := Ideal) (iota .tc S32x256 32 [0] iota_S32x256_d0_w32) v28 v38) v49 v60 v68 (ix2 r n)
      = v68 (ix2 0 n) * num (code (v28 (ix3 0 0 n)) (v38 (ix3 0 0 n)) (v49 (ix3 0 0 n)) r.val - v60 (ix2 0 n)) :=
  pay2_apply v28 v38 v49 v60 v68 r n

/-- The up differences of a trip. -/
theorem pay6_apply (v28 v38 v49 : Vec Ideal S1x1x256 .i32) (v60 : Vec Ideal S1x256 .i32) (r : Fin 32) (n : Fin 256) :
    k0_pay6 (F := Ideal) (k0_pay14 (F := Ideal) (iota .tc S32x256 32 [0] iota_S32x256_d0_w32) v28 v38) v49 v60 (ix2 r n)
      = (code (v28 (ix3 0 0 n)) (v38 (ix3 0 0 n)) (v49 (ix3 0 0 n)) r.val - v60 (ix2 0 n)).setWidth 8 :=
  pay3_apply v28 v38 v49 v60 r n

/-- The down weights of a trip. -/
theorem pay18_apply (v30 v42 v55 : Vec Ideal S1x1x3584 .i32) (v68 : Vec Ideal S1x3584 .i32) (v78 : Vec Ideal S1x3584 .f32) (r : Fin 32) (n : Fin 3584) :
    k0_pay18 (F := Ideal) (iota .tc S32x3584 32 [0] iota_S32x3584_d0_w32) (k0_pay15 (F := Ideal) (iota .tc S32x3584 32 [0] iota_S32x3584_d0_w32) v30) (k0_pay16 (F := Ideal) v42) v55 v68 v78 (ix2 r n)
      = v78 (ix2 0 n) * num (code (v30 (ix3 0 0 n)) (v42 (ix3 0 0 n)) (v55 (ix3 0 0 n)) r.val - v68 (ix2 0 n)) := by
  rw [← code_vector]
  pointwise [k0_pay18, k0_pay17, k0_pay15, k0_pay16]
  rfl

/-- The down differences of a trip. -/
theorem pay19_apply (v30 v42 v55 : Vec Ideal S1x1x3584 .i32) (v68 : Vec Ideal S1x3584 .i32) (r : Fin 32) (n : Fin 3584) :
    k0_pay7 (k0_pay19 (F := Ideal) (iota .tc S32x3584 32 [0] iota_S32x3584_d0_w32) (k0_pay15 (F := Ideal) (iota .tc S32x3584 32 [0] iota_S32x3584_d0_w32) v30) (k0_pay16 (F := Ideal) v42) v55 v68) (ix2 r n)
      = (code (v30 (ix3 0 0 n)) (v42 (ix3 0 0 n)) (v55 (ix3 0 0 n)) r.val - v68 (ix2 0 n)).setWidth 8 := by
  rw [← code_vector]
  pointwise [k0_pay7, k0_pay19, k0_pay17, k0_pay15, k0_pay16]
  rfl

section
variable (v13 : Vec Ideal S512x3584 .bf16) (v14 : Vec Ideal S3584x256 .bf16) (v18 : Vec Ideal S512x3584 .bf16) (v19 : Vec Ideal S3584x256 .bf16) (v23 : Vec Ideal S512x3584 .bf16) (v24 : Vec Ideal S256x3584 .bf16) (r : Fin 512) (n : Fin 256)

/-- The hidden activation of a trip. -/
theorem pay24_apply : k0_pay24 (F := Ideal) v13 v14 v18 v19 (ix2 r n)
    = hid (∑ x, v13 (ix2 r x) * v14 (ix2 x n)) (∑ x, v18 (ix2 r x) * v19 (ix2 x n)) := by
  pointwise [k0_pay24, k0_pay20, k0_pay21, k0_pay22, k0_pay23]
  rfl

/-- The gradient of the gate product of a trip. -/
theorem pay25_apply : k0_pay25 (F := Ideal) v13 v14 v18 v19 v23 v24 (ix2 r n)
    = dgate (∑ x, v13 (ix2 r x) * v14 (ix2 x n)) (∑ x, v18 (ix2 r x) * v19 (ix2 x n)) (∑ x, v23 (ix2 r x) * v24 (ix2 n x)) := by
  pointwise [k0_pay25, k0_pay20, k0_pay21, k0_pay22, k0_pay23]
  rfl

/-- The gradient of the up product of a trip. -/
theorem pay26_apply : k0_pay8 (F := Ideal) (k0_pay26 (F := Ideal) v13 v14 v23 v24) (ix2 r n)
    = dup (∑ x, v13 (ix2 r x) * v14 (ix2 x n)) (∑ x, v23 (ix2 r x) * v24 (ix2 n x)) := by
  pointwise [k0_pay8, k0_pay26, k0_pay20, k0_pay21, k0_pay22, k0_pay23]
  rfl
end
end Cert.MainIdeal.Value
end
-- ==== Proof.Main.Wide.lean ====
/- The first two loops of the main call: what the gate and up weights and their differences hold. -/
module

public import proofs.«01_k».proof.Proof.MainIdealRun.Lists
public import proofs.«01_k».proof.Proof.Main.Pay
public import Idealize.ShloMosaic.Lib.Pipeline.ValueKit
public import Idealize.ShloMosaic.Lib.WritesUnit

@[expose] public section
set_option maxRecDepth 16384
noncomputable section
namespace Cert.MainIdeal.Value
open Cert.MainIdeal Cert.MainIdeal.Gen Cert.MainSpec
open Idealize.ShloMosaic Idealize.ShloMosaic.TcCoe Idealize.SL.Sem

/-- A load through a rectangle of unit strides, at an index. -/
theorem ld_at {s : Shape} {α : EltTy → Type} {e : EltTy} (x : s.Idx → α e) {off off' size : Fin s.rank → ℕ} (ho : off = off') (h : ∀ a, off a + size a ≤ s.size a)
    (i : (Rect.unit off size h).shape.Idx) (j : s.Idx) (hj : ∀ a, off' a + (i a).val = (j a).val) :
    View.ld x (Rect.unit (s := s) off size h) i = x j :=
  by subst ho; exact congrArg x (funext fun a => Fin.ext (by show off a + 1 * (i a).val = _; rw [Nat.one_mul]; exact hj a))

/-- What the trips of a loop write: each piece is one of a trip's. -/
theorem mem_trips {α : Type} (pb : ℕ → List α) (N : ℕ) (tr : Fin N → List α) (h0 : pb 0 = []) (hs : ∀ k : Fin N, pb (k.val + 1) = tr k ++ pb k.val)
    {p : α} (hp : p ∈ pb N) : ∃ k, p ∈ tr k := by
  have key : ∀ n, n ≤ N → p ∈ pb n → ∃ k, p ∈ tr k := by
    intro n
    induction n with
    | zero => intro _ h; rw [h0] at h; exact absurd h List.not_mem_nil
    | succ n ih =>
      intro hn h
      rw [hs ⟨n, hn⟩, List.mem_append] at h
      rcases h with h | h
      · exact ⟨_, h⟩
      · exact ih (Nat.le_of_succ_le hn) h
  exact key N le_rfl hp

/-- The difference word of a gate or up block at row `d`, column `n`. -/
def wword (x : Vec Ideal S3x112x256 .i32) (z : Vec Ideal S28x256 .i32) (d : Fin 3584) (n : Fin 256) : BitVec 32 :=
  code (x (ix3 0 ⟨d.val / 32, by omega⟩ n)) (x (ix3 1 ⟨d.val / 32, by omega⟩ n)) (x (ix3 2 ⟨d.val / 32, by omega⟩ n)) (d.val % 32) - z (ix2 ⟨d.val / 128, by omega⟩ n)

/-- The weight of a gate or up block. -/
def wwt (x : Vec Ideal S3x112x256 .i32) (z : Vec Ideal S28x256 .i32) (s : Vec Ideal S28x256 .f32) (d : Fin 3584) (n : Fin 256) : EReal :=
  s (ix2 ⟨d.val / 128, by omega⟩ n) * num (wword x z d n)

/-- The weights of a gate or up block, as a vector. -/
def wwts (x : Vec Ideal S3x112x256 .i32) (z : Vec Ideal S28x256 .i32) (s : Vec Ideal S28x256 .f32) : Vec Ideal S3584x256 .bf16 :=
  fun y => wwt x z s (y 0) (y 1)

/-- The low eight bits of the difference words of a gate or up block, as a vector. -/
def wtrs (x : Vec Ideal S3x112x256 .i32) (z : Vec Ideal S28x256 .i32) : Vec Ideal S3584x256 .i8 :=
  fun y => (wword x z (y 0) (y 1)).setWidth 8

theorem off1_val : ∀ k : Fin k0_t1_loop.trips, k0_off1 k = ![0, k.val, 0] := by decide +kernel
theorem off2_val : ∀ k : Fin k0_t1_loop.trips, k0_off2 k = ![1, k.val, 0] := by decide +kernel
theorem off3_val : ∀ k : Fin k0_t1_loop.trips, k0_off3 k = ![2, k.val, 0] := by decide +kernel
theorem off4_val : ∀ k : Fin k0_t1_loop.trips, k0_off4 k = ![k.val / 4, 0] := by decide +kernel
theorem off5_val : ∀ k : Fin k0_t1_loop.trips, k0_off5 k = ![32 * k.val, 0] := by decide +kernel

section
variable (x2 : Vec Ideal S3x112x256 .i32) (x3 : Vec Ideal S28x256 .i32) (x4 : Vec Ideal S28x256 .f32)

theorem ldq1 (k : Fin k0_t1_loop.trips) (d : Fin 3584) (r : Fin 32) (n : Fin 256) (hd : d.val = 32 * k.val + r.val) :
    View.ld x2 (Rect.unit (s := S3x112x256) (k0_off1 k) S1x1x256.size (k0_off1_inb k)) (ix3 0 0 n) = x2 (ix3 0 ⟨d.val / 32, by omega⟩ n)
    ∧ View.ld x2 (Rect.unit (s := S3x112x256) (k0_off2 k) S1x1x256.size (k0_off2_inb k)) (ix3 0 0 n) = x2 (ix3 1 ⟨d.val / 32, by omega⟩ n)
    ∧ View.ld x2 (Rect.unit (s := S3x112x256) (k0_off3 k) S1x1x256.size (k0_off3_inb k)) (ix3 0 0 n) = x2 (ix3 2 ⟨d.val / 32, by omega⟩ n) := by
  have e : k.val = d.val / 32 := by have := r.isLt; omega
  refine ⟨ld_at _ (off1_val k) _ _ _ ?_, ld_at _ (off2_val k) _ _ _ ?_, ld_at _ (off3_val k) _ _ _ ?_⟩
  · intro a
    match a with
    | ⟨0, _⟩ => rfl
    | ⟨1, _⟩ => exact e
    | ⟨2, _⟩ => exact Nat.zero_add _
  · intro a
    match a with
    | ⟨0, _⟩ => rfl
    | ⟨1, _⟩ => exact e
    | ⟨2, _⟩ => exact Nat.zero_add _
  · intro a
    match a with
    | ⟨0, _⟩ => rfl
    | ⟨1, _⟩ => exact e
    | ⟨2, _⟩ => exact Nat.zero_add _

theorem ldz1 {e : EltTy} (y : S28x256.Idx → Elt Ideal e) (k : Fin k0_t1_loop.trips) (d : Fin 3584) (r : Fin 32) (n : Fin 256) (hd : d.val = 32 * k.val + r.val) :
    View.ld y (Rect.unit (s := S28x256) (k0_off4 k) S1x256.size (k0_off4_inb k)) (ix2 0 n) = y (ix2 ⟨d.val / 128, by omega⟩ n) := by
  have e : k.val / 4 = d.val / 128 := by have := r.isLt; omega
  refine ld_at _ (off4_val k) _ _ _ ?_
  intro a
  match a with
  | ⟨0, _⟩ => exact e
  | ⟨1, _⟩ => exact Nat.zero_add _

/-- The gate weights of a trip, as a vector of what it loads. -/
abbrev wtrip1 (k : Fin k0_t1_loop.trips) : Vec Ideal S32x256 .bf16 :=
  k0_pay2 (F := Ideal) (k0_pay13 (F := Ideal) (iota .tc S32x256 32 [0] iota_S32x256_d0_w32)
      (View.ld x2 (Rect.unit (s := S3x112x256) (k0_off1 k) S1x1x256.size (k0_off1_inb k)))
      (View.ld x2 (Rect.unit (s := S3x112x256) (k0_off2 k) S1x1x256.size (k0_off2_inb k))))
    (View.ld x2 (Rect.unit (s := S3x112x256) (k0_off3 k) S1x1x256.size (k0_off3_inb k)))
    (View.ld x3 (Rect.unit (s := S28x256) (k0_off4 k) S1x256.size (k0_off4_inb k)))
    (View.ld x4 (Rect.unit (s := S28x256) (k0_off4 k) S1x256.size (k0_off4_inb k)))

/-- The gate differences of a trip. -/
abbrev itrip1 (k : Fin k0_t1_loop.trips) : Vec Ideal S32x256 .i8 :=
  k0_pay3 (F := Ideal) (k0_pay13 (F := Ideal) (iota .tc S32x256 32 [0] iota_S32x256_d0_w32)
      (View.ld x2 (Rect.unit (s := S3x112x256) (k0_off1 k) S1x1x256.size (k0_off1_inb k)))
      (View.ld x2 (Rect.unit (s := S3x112x256) (k0_off2 k) S1x1x256.size (k0_off2_inb k))))
    (View.ld x2 (Rect.unit (s := S3x112x256) (k0_off3 k) S1x1x256.size (k0_off3_inb k)))
    (View.ld x3 (Rect.unit (s := S28x256) (k0_off4 k) S1x256.size (k0_off4_inb k)))

theorem wtrip1_at (k : Fin k0_t1_loop.trips) (r : Fin 32) (n : Fin 256) (d : Fin 3584) (hd : d.val = 32 * k.val + r.val) :
    wtrip1 x2 x3 x4 k (ix2 r n) = wwt x2 x3 x4 d n := by
  obtain ⟨e0, e1, e2⟩ := ldq1 x2 k d r n hd
  have er : r.val = d.val % 32 := by have := r.isLt; omega
  refine (pay2_apply _ _ _ _ _ r n).trans ?_
  rw [e0, e1, e2, ldz1 x3 k d r n hd, ldz1 x4 k d r n hd, er]; rfl

theorem itrip1_at (k : Fin k0_t1_loop.trips) (r : Fin 32) (n : Fin 256) (d : Fin 3584) (hd : d.val = 32 * k.val + r.val) :
    itrip1 x2 x3 k (ix2 r n) = (wword x2 x3 d n).setWidth 8 := by
  obtain ⟨e0, e1, e2⟩ := ldq1 x2 k d r n hd
  have er : r.val = d.val % 32 := by have := r.isLt; omega
  refine (pay3_apply _ _ _ _ r n).trans ?_
  rw [e0, e1, e2, ldz1 x3 k d r n hd, er]; rfl

variable (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)

/-- The pieces of one trip. -/
theorem trip1_eq (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg3.unread x2) (harg4.unread x3) (harg5.unread x4) k
      = ([⟨Rect.unit (s := S3584x256) (k0_off5 k) S32x256.size (k0_off5_inb k), wtrip1 x2 x3 x4 k⟩],
         [⟨Rect.unit (s := S3584x256) (k0_off5 k) S32x256.size (k0_off5_inb k), itrip1 x2 x3 k⟩]) := by
  unfold tripL_k0_t1 trip_k0_t1
  dsimp only
  frame_out
  rfl

theorem row1 (k : Fin k0_t1_loop.trips) (x : S32x256.Idx) :
    (((Rect.unit (s := S3584x256) (k0_off5 k) S32x256.size (k0_off5_inb k)).emb x) 0).val = 32 * k.val + (x 0).val
    ∧ ((Rect.unit (s := S3584x256) (k0_off5 k) S32x256.size (k0_off5_inb k)).emb x) 1 = x 1 := by
  refine ⟨?_, Fin.ext ?_⟩
  · show k0_off5 k 0 + 1 * (x 0).val = _; rw [off5_val, Nat.one_mul]; rfl
  · show k0_off5 k 1 + 1 * (x 1).val = _; rw [off5_val, Nat.one_mul]; exact Nat.zero_add _

theorem wpiece1 (k : Fin k0_t1_loop.trips) (x : S32x256.Idx) : wtrip1 x2 x3 x4 k x
    = wwts x2 x3 x4 ((Rect.unit (s := S3584x256) (k0_off5 k) S32x256.size (k0_off5_inb k)).emb x) := by
  obtain ⟨h0, h1⟩ := row1 k x
  exact (congrArg (wtrip1 x2 x3 x4 k) (eq_ix2 x)).trans ((wtrip1_at x2 x3 x4 k (x 0) (x 1) _ h0).trans (congrArg (wwt x2 x3 x4 _) h1.symm))

theorem ipiece1 (k : Fin k0_t1_loop.trips) (x : S32x256.Idx) : itrip1 x2 x3 k x
    = wtrs x2 x3 ((Rect.unit (s := S3584x256) (k0_off5 k) S32x256.size (k0_off5_inb k)).emb x) := by
  obtain ⟨h0, h1⟩ := row1 k x
  exact (congrArg (itrip1 x2 x3 k) (eq_ix2 x)).trans ((itrip1_at x2 x3 k (x 0) (x 1) _ h0).trans (congrArg (fun n => (wword x2 x3 _ n).setWidth 8) h1.symm))

/-- What the gate weights' block holds after the loop. -/
theorem canon1a : View.canon (L1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1 = wwts x2 x3 x4 := by
  funext y
  refine View.canon_apply_of_pieces (wwts x2 x3 x4) _ ?_ y (cov1a (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 y)
  intro p hp x
  obtain ⟨k, hk⟩ := mem_trips (fun n => (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg3.unread x2) (harg4.unread x3) (harg5.unread x4) n).1) k0_t1_loop.trips _ rfl
    (fun k => congrArg Prod.fst (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ k)) hp
  rw [trip1_eq] at hk
  obtain rfl := List.mem_singleton.mp hk
  exact wpiece1 x2 x3 x4 k x

/-- What the gate differences' buffer holds after the loop. -/
theorem canon1b : View.canon (L1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2 = wtrs x2 x3 := by
  funext y
  refine View.canon_apply_of_pieces (wtrs x2 x3) _ ?_ y (cov1b (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4 y)
  intro p hp x
  obtain ⟨k, hk⟩ := mem_trips (fun n => (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg3.unread x2) (harg4.unread x3) (harg5.unread x4) n).2) k0_t1_loop.trips _ rfl
    (fun k => congrArg Prod.snd (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ k)) hp
  rw [trip1_eq] at hk
  obtain rfl := List.mem_singleton.mp hk
  exact ipiece1 x2 x3 k x
end

theorem off6_val : ∀ k : Fin k0_t2_loop.trips, k0_off6 k = ![0, k.val, 0] := by decide +kernel
theorem off7_val : ∀ k : Fin k0_t2_loop.trips, k0_off7 k = ![1, k.val, 0] := by decide +kernel
theorem off8_val : ∀ k : Fin k0_t2_loop.trips, k0_off8 k = ![2, k.val, 0] := by decide +kernel
theorem off9_val : ∀ k : Fin k0_t2_loop.trips, k0_off9 k = ![k.val / 4, 0] := by decide +kernel
theorem off10_val : ∀ k : Fin k0_t2_loop.trips, k0_off10 k = ![32 * k.val, 0] := by decide +kernel

section
variable (x5 : Vec Ideal S3x112x256 .i32) (x6 : Vec Ideal S28x256 .i32) (x7 : Vec Ideal S28x256 .f32)

theorem ldq2 (k : Fin k0_t2_loop.trips) (d : Fin 3584) (r : Fin 32) (n : Fin 256) (hd : d.val = 32 * k.val + r.val) :
    View.ld x5 (Rect.unit (s := S3x112x256) (k0_off6 k) S1x1x256.size (k0_off6_inb k)) (ix3 0 0 n) = x5 (ix3 0 ⟨d.val / 32, by omega⟩ n)
    ∧ View.ld x5 (Rect.unit (s := S3x112x256) (k0_off7 k) S1x1x256.size (k0_off7_inb k)) (ix3 0 0 n) = x5 (ix3 1 ⟨d.val / 32, by omega⟩ n)
    ∧ View.ld x5 (Rect.unit (s := S3x112x256) (k0_off8 k) S1x1x256.size (k0_off8_inb k)) (ix3 0 0 n) = x5 (ix3 2 ⟨d.val / 32, by omega⟩ n) := by
  have e : k.val = d.val / 32 := by have := r.isLt; omega
  refine ⟨ld_at _ (off6_val k) _ _ _ ?_, ld_at _ (off7_val k) _ _ _ ?_, ld_at _ (off8_val k) _ _ _ ?_⟩
  · intro a
    match a with
    | ⟨0, _⟩ => rfl
    | ⟨1, _⟩ => exact e
    | ⟨2, _⟩ => exact Nat.zero_add _
  · intro a
    match a with
    | ⟨0, _⟩ => rfl
    | ⟨1, _⟩ => exact e
    | ⟨2, _⟩ => exact Nat.zero_add _
  · intro a
    match a with
    | ⟨0, _⟩ => rfl
    | ⟨1, _⟩ => exact e
    | ⟨2, _⟩ => exact Nat.zero_add _

theorem ldz2 {e : EltTy} (y : S28x256.Idx → Elt Ideal e) (k : Fin k0_t2_loop.trips) (d : Fin 3584) (r : Fin 32) (n : Fin 256) (hd : d.val = 32 * k.val + r.val) :
    View.ld y (Rect.unit (s := S28x256) (k0_off9 k) S1x256.size (k0_off9_inb k)) (ix2 0 n) = y (ix2 ⟨d.val / 128, by omega⟩ n) := by
  have e : k.val / 4 = d.val / 128 := by have := r.isLt; omega
  refine ld_at _ (off9_val k) _ _ _ ?_
  intro a
  match a with
  | ⟨0, _⟩ => exact e
  | ⟨1, _⟩ => exact Nat.zero_add _

/-- The up weights of a trip, as a vector of what it loads. -/
abbrev wtrip2 (k : Fin k0_t2_loop.trips) : Vec Ideal S32x256 .bf16 :=
  k0_pay5 (F := Ideal) (k0_pay14 (F := Ideal) (iota .tc S32x256 32 [0] iota_S32x256_d0_w32)
      (View.ld x5 (Rect.unit (s := S3x112x256) (k0_off6 k) S1x1x256.size (k0_off6_inb k)))
      (View.ld x5 (Rect.unit (s := S3x112x256) (k0_off7 k) S1x1x256.size (k0_off7_inb k))))
    (View.ld x5 (Rect.unit (s := S3x112x256) (k0_off8 k) S1x1x256.size (k0_off8_inb k)))
    (View.ld x6 (Rect.unit (s := S28x256) (k0_off9 k) S1x256.size (k0_off9_inb k)))
    (View.ld x7 (Rect.unit (s := S28x256) (k0_off9 k) S1x256.size (k0_off9_inb k)))

/-- The up differences of a trip. -/
abbrev itrip2 (k : Fin k0_t2_loop.trips) : Vec Ideal S32x256 .i8 :=
  k0_pay6 (F := Ideal) (k0_pay14 (F := Ideal) (iota .tc S32x256 32 [0] iota_S32x256_d0_w32)
      (View.ld x5 (Rect.unit (s := S3x112x256) (k0_off6 k) S1x1x256.size (k0_off6_inb k)))
      (View.ld x5 (Rect.unit (s := S3x112x256) (k0_off7 k) S1x1x256.size (k0_off7_inb k))))
    (View.ld x5 (Rect.unit (s := S3x112x256) (k0_off8 k) S1x1x256.size (k0_off8_inb k)))
    (View.ld x6 (Rect.unit (s := S28x256) (k0_off9 k) S1x256.size (k0_off9_inb k)))

theorem wtrip2_at (k : Fin k0_t2_loop.trips) (r : Fin 32) (n : Fin 256) (d : Fin 3584) (hd : d.val = 32 * k.val + r.val) :
    wtrip2 x5 x6 x7 k (ix2 r n) = wwt x5 x6 x7 d n := by
  obtain ⟨e0, e1, e2⟩ := ldq2 x5 k d r n hd
  have er : r.val = d.val % 32 := by have := r.isLt; omega
  refine (pay5_apply _ _ _ _ _ r n).trans ?_
  rw [e0, e1, e2, ldz2 x6 k d r n hd, ldz2 x7 k d r n hd, er]; rfl

theorem itrip2_at (k : Fin k0_t2_loop.trips) (r : Fin 32) (n : Fin 256) (d : Fin 3584) (hd : d.val = 32 * k.val + r.val) :
    itrip2 x5 x6 k (ix2 r n) = (wword x5 x6 d n).setWidth 8 := by
  obtain ⟨e0, e1, e2⟩ := ldq2 x5 k d r n hd
  have er : r.val = d.val % 32 := by have := r.isLt; omega
  refine (pay6_apply _ _ _ _ r n).trans ?_
  rw [e0, e1, e2, ldz2 x6 k d r n hd, er]; rfl

variable (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)

/-- The pieces of one trip. -/
theorem trip2_eq (k : Fin k0_t2_loop.trips) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg6.unread x5) (harg7.unread x6) (harg8.unread x7) k
      = ([⟨Rect.unit (s := S3584x256) (k0_off10 k) S32x256.size (k0_off10_inb k), wtrip2 x5 x6 x7 k⟩],
         [⟨Rect.unit (s := S3584x256) (k0_off10 k) S32x256.size (k0_off10_inb k), itrip2 x5 x6 k⟩]) := by
  unfold tripL_k0_t2 trip_k0_t2
  dsimp only
  frame_out
  rfl

theorem row2 (k : Fin k0_t2_loop.trips) (x : S32x256.Idx) :
    (((Rect.unit (s := S3584x256) (k0_off10 k) S32x256.size (k0_off10_inb k)).emb x) 0).val = 32 * k.val + (x 0).val
    ∧ ((Rect.unit (s := S3584x256) (k0_off10 k) S32x256.size (k0_off10_inb k)).emb x) 1 = x 1 := by
  refine ⟨?_, Fin.ext ?_⟩
  · show k0_off10 k 0 + 1 * (x 0).val = _; rw [off10_val, Nat.one_mul]; rfl
  · show k0_off10 k 1 + 1 * (x 1).val = _; rw [off10_val, Nat.one_mul]; exact Nat.zero_add _

theorem wpiece2 (k : Fin k0_t2_loop.trips) (x : S32x256.Idx) : wtrip2 x5 x6 x7 k x
    = wwts x5 x6 x7 ((Rect.unit (s := S3584x256) (k0_off10 k) S32x256.size (k0_off10_inb k)).emb x) := by
  obtain ⟨h0, h1⟩ := row2 k x
  exact (congrArg (wtrip2 x5 x6 x7 k) (eq_ix2 x)).trans ((wtrip2_at x5 x6 x7 k (x 0) (x 1) _ h0).trans (congrArg (wwt x5 x6 x7 _) h1.symm))

theorem ipiece2 (k : Fin k0_t2_loop.trips) (x : S32x256.Idx) : itrip2 x5 x6 k x
    = wtrs x5 x6 ((Rect.unit (s := S3584x256) (k0_off10 k) S32x256.size (k0_off10_inb k)).emb x) := by
  obtain ⟨h0, h1⟩ := row2 k x
  exact (congrArg (itrip2 x5 x6 k) (eq_ix2 x)).trans ((itrip2_at x5 x6 k (x 0) (x 1) _ h0).trans (congrArg (fun n => (wword x5 x6 _ n).setWidth 8) h1.symm))

/-- What the up weights' block holds after the loop. -/
theorem canon2a : View.canon (L2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1 = wwts x5 x6 x7 := by
  funext y
  refine View.canon_apply_of_pieces (wwts x5 x6 x7) _ ?_ y (cov2a (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7 y)
  intro p hp x
  obtain ⟨k, hk⟩ := mem_trips (fun n => (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg6.unread x5) (harg7.unread x6) (harg8.unread x7) n).1) k0_t2_loop.trips _ rfl
    (fun k => congrArg Prod.fst (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ k)) hp
  rw [trip2_eq] at hk
  obtain rfl := List.mem_singleton.mp hk
  exact wpiece2 x5 x6 x7 k x

/-- What the up differences' buffer holds after the loop. -/
theorem canon2b : View.canon (L2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2 = wtrs x5 x6 := by
  funext y
  refine View.canon_apply_of_pieces (wtrs x5 x6) _ ?_ y (cov2b (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7 y)
  intro p hp x
  obtain ⟨k, hk⟩ := mem_trips (fun n => (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x256 32 [0] iota_S32x256_d0_w32) (harg6.unread x5) (harg7.unread x6) (harg8.unread x7) n).2) k0_t2_loop.trips _ rfl
    (fun k => congrArg Prod.snd (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ k)) hp
  rw [trip2_eq] at hk
  obtain rfl := List.mem_singleton.mp hk
  exact ipiece2 x5 x6 k x
end

end Cert.MainIdeal.Value
end
-- ==== Proof.Main.Tall.lean ====
/- The third loop of the main call: what the down weights and their differences hold. -/
module

public import proofs.«01_k».proof.Proof.MainIdealRun.Lists
public import proofs.«01_k».proof.Proof.Main.Pay
public import Idealize.ShloMosaic.Lib.Pipeline.ValueKit
public import Idealize.ShloMosaic.Lib.WritesUnit
public import proofs.«01_k».proof.Proof.Main.Wide
public import Idealize.ShloMosaic.Lib.VecWindow
@[expose] public section
set_option maxRecDepth 16384
noncomputable section
namespace Cert.MainIdeal.Value
open Cert.MainIdeal Cert.MainIdeal.Gen Cert.MainSpec
open Idealize.ShloMosaic Idealize.ShloMosaic.TcCoe Idealize.SL.Sem

/-- The three words of the down block without its unit axis. -/
def qv (x : Vec Ideal S3x1x8x3584 .i32) : Vec Ideal S3x8x3584 .i32 := fun y => x (ix4 (y 0) 0 (y 1) (y 2))
/-- The zero points or the scales of the down block without their unit axis. -/
def zv {e : EltTy} (x : Vec Ideal S1x2x3584 e) : Vec Ideal S2x3584 e := fun y => x (ix3 0 (y 0) (y 1))

theorem read_viewQ (a : Memref sig .tc .vmem S3x1x8x3584 .i32) (h : a.IsWhole) (x : Vec Ideal S3x1x8x3584 .i32) :
    (viewQ a).view.read (Elt Ideal) (h.unread x) = qv x := by
  refine (Memref.read_squeeze_full a _ _ _).trans ?_
  rw [Memref.IsWhole.read_unread]
  funext y
  refine congrArg x ?_
  rw [eq_ix3 y]
  refine Shape.reshapeEquiv_eq_of_rowMajor _ ?_
  rw [Shape.rowMajor_val_four, Shape.rowMajor_val_three]
  show (((y 0).val * 1 + 0) * 8 + (y 1).val) * 3584 + (y 2).val = ((y 0).val * 8 + (y 1).val) * 3584 + (y 2).val
  simp only [Nat.mul_one, Nat.add_zero]

theorem read_viewZ (a : Memref sig .tc .vmem S1x2x3584 .i32) (h : a.IsWhole) (x : Vec Ideal S1x2x3584 .i32) :
    (viewZ a).view.read (Elt Ideal) (h.unread x) = zv x := by
  refine (Memref.read_squeeze_full a _ _ _).trans ?_
  rw [Memref.IsWhole.read_unread]
  funext y
  refine congrArg x ?_
  rw [eq_ix2 y]
  refine Shape.reshapeEquiv_eq_of_rowMajor _ ?_
  rw [Shape.rowMajor_val_three, Shape.rowMajor_val_two]
  show (0 * 2 + (y 0).val) * 3584 + (y 1).val = (y 0).val * 3584 + (y 1).val
  simp only [Nat.zero_mul, Nat.zero_add]

theorem read_viewS (a : Memref sig .tc .vmem S1x2x3584 .f32) (h : a.IsWhole) (x : Vec Ideal S1x2x3584 .f32) :
    (viewS a).view.read (Elt Ideal) (h.unread x) = zv x := by
  refine (Memref.read_squeeze_full a _ _ _).trans ?_
  rw [Memref.IsWhole.read_unread]
  funext y
  refine congrArg x ?_
  rw [eq_ix2 y]
  refine Shape.reshapeEquiv_eq_of_rowMajor _ ?_
  rw [Shape.rowMajor_val_three, Shape.rowMajor_val_two]
  show (0 * 2 + (y 0).val) * 3584 + (y 1).val = (y 0).val * 3584 + (y 1).val
  simp only [Nat.zero_mul, Nat.zero_add]

/-- The difference word of a down block at row `d`, column `n`. -/
def tword (x : Vec Ideal S3x1x8x3584 .i32) (z : Vec Ideal S1x2x3584 .i32) (d : Fin 256) (n : Fin 3584) : BitVec 32 :=
  code (x (ix4 0 0 ⟨d.val / 32, by omega⟩ n)) (x (ix4 1 0 ⟨d.val / 32, by omega⟩ n)) (x (ix4 2 0 ⟨d.val / 32, by omega⟩ n)) (d.val % 32) - z (ix3 0 ⟨d.val / 128, by omega⟩ n)

/-- The weight of a down block. -/
def twt (x : Vec Ideal S3x1x8x3584 .i32) (z : Vec Ideal S1x2x3584 .i32) (s : Vec Ideal S1x2x3584 .f32) (d : Fin 256) (n : Fin 3584) : EReal :=
  s (ix3 0 ⟨d.val / 128, by omega⟩ n) * num (tword x z d n)

/-- The weights of a down block, as a vector. -/
def twts (x : Vec Ideal S3x1x8x3584 .i32) (z : Vec Ideal S1x2x3584 .i32) (s : Vec Ideal S1x2x3584 .f32) : Vec Ideal S256x3584 .bf16 :=
  fun y => twt x z s (y 0) (y 1)

/-- The low eight bits of the difference words of a down block, as a vector. -/
def ttrs (x : Vec Ideal S3x1x8x3584 .i32) (z : Vec Ideal S1x2x3584 .i32) : Vec Ideal S256x3584 .i8 :=
  fun y => (tword x z (y 0) (y 1)).setWidth 8

theorem off11_val : ∀ k : Fin k0_t3_loop.trips, k0_off11 k = ![0, k.val, 0] := by decide +kernel
theorem off12_val : ∀ k : Fin k0_t3_loop.trips, k0_off12 k = ![1, k.val, 0] := by decide +kernel
theorem off13_val : ∀ k : Fin k0_t3_loop.trips, k0_off13 k = ![2, k.val, 0] := by decide +kernel
theorem off14_val : ∀ k : Fin k0_t3_loop.trips, k0_off14 k = ![k.val / 4, 0] := by decide +kernel
theorem off15_val : ∀ k : Fin k0_t3_loop.trips, k0_off15 k = ![32 * k.val, 0] := by decide +kernel

section
variable (x8 : Vec Ideal S3x1x8x3584 .i32) (x9 : Vec Ideal S1x2x3584 .i32) (x10 : Vec Ideal S1x2x3584 .f32)

theorem ldq3 (k : Fin k0_t3_loop.trips) (d : Fin 256) (r : Fin 32) (n : Fin 3584) (hd : d.val = 32 * k.val + r.val) :
    (View.ld (qv x8) (Rect.unit (s := S3x8x3584) (k0_off11 k) S1x1x3584.size (k0_off11_inb k))) (ix3 0 0 n) = x8 (ix4 0 0 ⟨d.val / 32, by omega⟩ n)
    ∧ (View.ld (qv x8) (Rect.unit (s := S3x8x3584) (k0_off12 k) S1x1x3584.size (k0_off12_inb k))) (ix3 0 0 n) = x8 (ix4 1 0 ⟨d.val / 32, by omega⟩ n)
    ∧ (View.ld (qv x8) (Rect.unit (s := S3x8x3584) (k0_off13 k) S1x1x3584.size (k0_off13_inb k))) (ix3 0 0 n) = x8 (ix4 2 0 ⟨d.val / 32, by omega⟩ n) := by
  have e : k.val = d.val / 32 := by have := r.isLt; omega
  have hk : d.val / 32 < 8 := by omega
  refine ⟨ld_at _ (off11_val k) _ _ (ix3 0 ⟨d.val / 32, hk⟩ n) ?_, ld_at _ (off12_val k) _ _ (ix3 1 ⟨d.val / 32, hk⟩ n) ?_, ld_at _ (off13_val k) _ _ (ix3 2 ⟨d.val / 32, hk⟩ n) ?_⟩
  · intro a
    match a with
    | ⟨0, _⟩ => rfl
    | ⟨1, _⟩ => exact e
    | ⟨2, _⟩ => exact Nat.zero_add _
  · intro a
    match a with
    | ⟨0, _⟩ => rfl
    | ⟨1, _⟩ => exact e
    | ⟨2, _⟩ => exact Nat.zero_add _
  · intro a
    match a with
    | ⟨0, _⟩ => rfl
    | ⟨1, _⟩ => exact e
    | ⟨2, _⟩ => exact Nat.zero_add _

theorem ldz3 {e : EltTy} (y : Vec Ideal S1x2x3584 e) (k : Fin k0_t3_loop.trips) (d : Fin 256) (r : Fin 32) (n : Fin 3584) (hd : d.val = 32 * k.val + r.val) :
    (View.ld (zv y) (Rect.unit (s := S2x3584) (k0_off14 k) S1x3584.size (k0_off14_inb k))) (ix2 0 n) = y (ix3 0 ⟨d.val / 128, by omega⟩ n) := by
  have e : k.val / 4 = d.val / 128 := by have := r.isLt; omega
  have hk : d.val / 128 < 2 := by omega
  refine ld_at _ (off14_val k) _ _ (ix2 ⟨d.val / 128, hk⟩ n) ?_
  intro a
  match a with
  | ⟨0, _⟩ => exact e
  | ⟨1, _⟩ => exact Nat.zero_add _

/-- The down weights of a trip, as a vector of what it loads. -/
abbrev wtrip3 (k : Fin k0_t3_loop.trips) : Vec Ideal S32x3584 .bf16 :=
  k0_pay18 (F := Ideal) (iota .tc S32x3584 32 [0] iota_S32x3584_d0_w32) (k0_pay15 (F := Ideal) (iota .tc S32x3584 32 [0] iota_S32x3584_d0_w32) (View.ld (qv x8) (Rect.unit (s := S3x8x3584) (k0_off11 k) S1x1x3584.size (k0_off11_inb k)))) (k0_pay16 (F := Ideal) (View.ld (qv x8) (Rect.unit (s := S3x8x3584) (k0_off12 k) S1x1x3584.size (k0_off12_inb k)))) (View.ld (qv x8) (Rect.unit (s := S3x8x3584) (k0_off13 k) S1x1x3584.size (k0_off13_inb k))) (View.ld (zv x9) (Rect.unit (s := S2x3584) (k0_off14 k) S1x3584.size (k0_off14_inb k))) (View.ld (zv x10) (Rect.unit (s := S2x3584) (k0_off14 k) S1x3584.size (k0_off14_inb k)))

/-- The down differences of a trip. -/
abbrev itrip3 (k : Fin k0_t3_loop.trips) : Vec Ideal S32x3584 .i8 :=
  k0_pay7 (k0_pay19 (F := Ideal) (iota .tc S32x3584 32 [0] iota_S32x3584_d0_w32) (k0_pay15 (F := Ideal) (iota .tc S32x3584 32 [0] iota_S32x3584_d0_w32) (View.ld (qv x8) (Rect.unit (s := S3x8x3584) (k0_off11 k) S1x1x3584.size (k0_off11_inb k)))) (k0_pay16 (F := Ideal) (View.ld (qv x8) (Rect.unit (s := S3x8x3584) (k0_off12 k) S1x1x3584.size (k0_off12_inb k)))) (View.ld (qv x8) (Rect.unit (s := S3x8x3584) (k0_off13 k) S1x1x3584.size (k0_off13_inb k))) (View.ld (zv x9) (Rect.unit (s := S2x3584) (k0_off14 k) S1x3584.size (k0_off14_inb k))))

theorem wtrip3_at (k : Fin k0_t3_loop.trips) (r : Fin 32) (n : Fin 3584) (d : Fin 256) (hd : d.val = 32 * k.val + r.val) :
    wtrip3 x8 x9 x10 k (ix2 r n) = twt x8 x9 x10 d n := by
  obtain ⟨e0, e1, e2⟩ := ldq3 x8 k d r n hd
  have er : r.val = d.val % 32 := by have := r.isLt; omega
  refine (pay18_apply _ _ _ _ _ r n).trans ?_
  rw [e0, e1, e2, ldz3 x9 k d r n hd, ldz3 x10 k d r n hd, er]; rfl

theorem itrip3_at (k : Fin k0_t3_loop.trips) (r : Fin 32) (n : Fin 3584) (d : Fin 256) (hd : d.val = 32 * k.val + r.val) :
    itrip3 x8 x9 k (ix2 r n) = (tword x8 x9 d n).setWidth 8 := by
  obtain ⟨e0, e1, e2⟩ := ldq3 x8 k d r n hd
  have er : r.val = d.val % 32 := by have := r.isLt; omega
  refine (pay19_apply _ _ _ _ r n).trans ?_
  rw [e0, e1, e2, ldz3 x9 k d r n hd, er]; rfl

theorem row3 (k : Fin k0_t3_loop.trips) (x : S32x3584.Idx) :
    (((Rect.unit (s := S256x3584) (k0_off15 k) S32x3584.size (k0_off15_inb k)).emb x) 0).val = 32 * k.val + (x 0).val ∧ ((Rect.unit (s := S256x3584) (k0_off15 k) S32x3584.size (k0_off15_inb k)).emb x) 1 = x 1 := by
  refine ⟨?_, Fin.ext ?_⟩
  · show k0_off15 k 0 + 1 * (x 0).val = _; rw [off15_val, Nat.one_mul]; rfl
  · show k0_off15 k 1 + 1 * (x 1).val = _; rw [off15_val, Nat.one_mul]; exact Nat.zero_add _

theorem wpiece3 (k : Fin k0_t3_loop.trips) (x : S32x3584.Idx) : wtrip3 x8 x9 x10 k x = twts x8 x9 x10 ((Rect.unit (s := S256x3584) (k0_off15 k) S32x3584.size (k0_off15_inb k)).emb x) := by
  obtain ⟨h0, h1⟩ := row3 k x
  exact (congrArg (wtrip3 x8 x9 x10 k) (eq_ix2 x)).trans ((wtrip3_at x8 x9 x10 k (x 0) (x 1) _ h0).trans (congrArg (twt x8 x9 x10 _) h1.symm))

theorem ipiece3 (k : Fin k0_t3_loop.trips) (x : S32x3584.Idx) : itrip3 x8 x9 k x = ttrs x8 x9 ((Rect.unit (s := S256x3584) (k0_off15 k) S32x3584.size (k0_off15_inb k)).emb x) := by
  obtain ⟨h0, h1⟩ := row3 k x
  exact (congrArg (itrip3 x8 x9 k) (eq_ix2 x)).trans ((itrip3_at x8 x9 k (x 0) (x 1) _ h0).trans (congrArg (fun n => (tword x8 x9 _ n).setWidth 8) h1.symm))

variable (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)

/-- The pieces of one trip. -/
theorem trip3_eq (k : Fin k0_t3_loop.trips) :
    tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32) (viewQ arg9) rfl (viewZ arg10) rfl (viewS arg11) rfl (harg9.unread x8) (harg10.unread x9) (harg11.unread x10) k
      = ([⟨(Rect.unit (s := S256x3584) (k0_off15 k) S32x3584.size (k0_off15_inb k)), wtrip3 x8 x9 x10 k⟩], [⟨(Rect.unit (s := S256x3584) (k0_off15 k) S32x3584.size (k0_off15_inb k)), itrip3 x8 x9 k⟩]) := by
  have e1 := read_viewQ arg9 harg9 x8
  have e2 := read_viewZ arg10 harg10 x9
  have e3 := read_viewS arg11 harg11 x10
  unfold tripL_k0_t3 trip_k0_t3
  dsimp only [wtrip3, itrip3]
  rw [← e1, ← e2, ← e3]
  rfl

/-- What the down weights' block holds after the loop. -/
theorem canon3a : View.canon (L3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1 = twts x8 x9 x10 := by
  funext y
  refine View.canon_apply_of_pieces (twts x8 x9 x10) _ ?_ y (cov3a (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10 y)
  intro p hp x
  obtain ⟨k, hk⟩ := mem_trips (fun n => (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32) (viewQ arg9) rfl (viewZ arg10) rfl (viewS arg11) rfl (harg9.unread x8) (harg10.unread x9) (harg11.unread x10) n).1) k0_t3_loop.trips _ rfl
    (fun k => congrArg Prod.fst (pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ k)) hp
  rw [trip3_eq] at hk
  obtain rfl := List.mem_singleton.mp hk
  exact wpiece3 x8 x9 x10 k x

/-- What the down differences' buffer holds after the loop. -/
theorem canon3b : View.canon (L3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2 = ttrs x8 x9 := by
  funext y
  refine View.canon_apply_of_pieces (ttrs x8 x9) _ ?_ y (cov3b (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10 y)
  intro p hp x
  obtain ⟨k, hk⟩ := mem_trips (fun n => (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (iota .tc S32x3584 32 [0] iota_S32x3584_d0_w32) (viewQ arg9) rfl (viewZ arg10) rfl (viewS arg11) rfl (harg9.unread x8) (harg10.unread x9) (harg11.unread x10) n).2) k0_t3_loop.trips _ rfl
    (fun k => congrArg Prod.snd (pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ k)) hp
  rw [trip3_eq] at hk
  obtain rfl := List.mem_singleton.mp hk
  exact ipiece3 x8 x9 k x
end

end Cert.MainIdeal.Value
end
-- ==== Proof.Main.Hidden.lean ====
/- The fourth loop of the main call: what the hidden activation and the two gradients hold. -/
module

public import proofs.«01_k».proof.Proof.MainIdealRun.Lists
public import proofs.«01_k».proof.Proof.Main.Pay
public import Idealize.ShloMosaic.Lib.Pipeline.ValueKit
public import Idealize.ShloMosaic.Lib.WritesUnit
public import proofs.«01_k».proof.Proof.Main.Tall
@[expose] public section
set_option maxRecDepth 16384
noncomputable section
namespace Cert.MainIdeal.Value
open Cert.MainIdeal Cert.MainIdeal.Gen Cert.MainSpec
open Idealize.ShloMosaic Idealize.ShloMosaic.TcCoe Idealize.SL.Sem

theorem off16_val : ∀ k : Fin k0_t4_loop.trips, k0_off16 k = ![512 * k.val, 0] := by decide +kernel
theorem off17_val : ∀ k : Fin k0_t4_loop.trips, k0_off17 k = ![512 * k.val, 0] := by decide +kernel

/-- A row of a block times a column of a block of weights. -/
def prodW (x : Vec Ideal S1536x3584 .bf16) (w : Vec Ideal S3584x256 .bf16) (t : Fin 1536) (n : Fin 256) : EReal :=
  ∑ d : Fin 3584, x (ix2 t d) * w (ix2 d n)
/-- A row of a block times a row of a block of weights. -/
def prodT (x : Vec Ideal S1536x3584 .bf16) (w : Vec Ideal S256x3584 .bf16) (t : Fin 1536) (n : Fin 256) : EReal :=
  ∑ d : Fin 3584, x (ix2 t d) * w (ix2 n d)

/-- The hidden activation of a block. -/
def hids (x0 : Vec Ideal S1536x3584 .bf16) (w15 w16 : Vec Ideal S3584x256 .bf16) : Vec Ideal S1536x256 .bf16 :=
  fun y => hid (prodW x0 w15 (y 0) (y 1)) (prodW x0 w16 (y 0) (y 1))
/-- The gradient of the gate product of a block. -/
def dgs (x0 x1 : Vec Ideal S1536x3584 .bf16) (w15 w16 : Vec Ideal S3584x256 .bf16) (w17 : Vec Ideal S256x3584 .bf16) : Vec Ideal S1536x256 .bf16 :=
  fun y => dgate (prodW x0 w15 (y 0) (y 1)) (prodW x0 w16 (y 0) (y 1)) (prodT x1 w17 (y 0) (y 1))
/-- The gradient of the up product of a block. -/
def dus (x0 x1 : Vec Ideal S1536x3584 .bf16) (w15 : Vec Ideal S3584x256 .bf16) (w17 : Vec Ideal S256x3584 .bf16) : Vec Ideal S1536x256 .bf16 :=
  fun y => dup (prodW x0 w15 (y 0) (y 1)) (prodT x1 w17 (y 0) (y 1))

section
variable (x0 x1 : Vec Ideal S1536x3584 .bf16) (w15 w16 : Vec Ideal S3584x256 .bf16) (w17 : Vec Ideal S256x3584 .bf16)

theorem row4 (k : Fin k0_t4_loop.trips) (x : S512x256.Idx) :
    (((Rect.unit (s := S1536x256) (k0_off17 k) S512x256.size (k0_off17_inb k)).emb x) 0).val = 512 * k.val + (x 0).val ∧ ((Rect.unit (s := S1536x256) (k0_off17 k) S512x256.size (k0_off17_inb k)).emb x) 1 = x 1 := by
  refine ⟨?_, Fin.ext ?_⟩
  · show k0_off17 k 0 + 1 * (x 0).val = _; rw [off17_val, Nat.one_mul]; rfl
  · show k0_off17 k 1 + 1 * (x 1).val = _; rw [off17_val, Nat.one_mul]; exact Nat.zero_add _

theorem ldrow (x : Vec Ideal S1536x3584 .bf16) (k : Fin k0_t4_loop.trips) (r : Fin 512) (t : Fin 1536) (ht : t.val = 512 * k.val + r.val) (d : Fin 3584) :
    View.ld x (Rect.unit (s := S1536x3584) (k0_off16 k) S512x3584.size (k0_off16_inb k)) (ix2 r d) = x (ix2 t d) := by
  refine ld_at _ (off16_val k) _ _ _ ?_
  intro a
  match a with
  | ⟨0, _⟩ => exact ht.symm
  | ⟨1, _⟩ => exact Nat.zero_add _

theorem prodW_at (x : Vec Ideal S1536x3584 .bf16) (w : Vec Ideal S3584x256 .bf16) (k : Fin k0_t4_loop.trips) (r : Fin 512) (t : Fin 1536) (ht : t.val = 512 * k.val + r.val) (n : Fin 256) :
    (∑ d : Fin 3584, View.ld x (Rect.unit (s := S1536x3584) (k0_off16 k) S512x3584.size (k0_off16_inb k)) (ix2 r d) * w (ix2 d n) : EReal) = prodW x w t n :=
  Finset.sum_congr rfl fun d _ => congrArg (fun p : EReal => p * w (ix2 d n)) (ldrow x k r t ht d)

theorem prodT_at (x : Vec Ideal S1536x3584 .bf16) (w : Vec Ideal S256x3584 .bf16) (k : Fin k0_t4_loop.trips) (r : Fin 512) (t : Fin 1536) (ht : t.val = 512 * k.val + r.val) (n : Fin 256) :
    (∑ d : Fin 3584, View.ld x (Rect.unit (s := S1536x3584) (k0_off16 k) S512x3584.size (k0_off16_inb k)) (ix2 r d) * w (ix2 n d) : EReal) = prodT x w t n :=
  Finset.sum_congr rfl fun d _ => congrArg (fun p : EReal => p * w (ix2 n d)) (ldrow x k r t ht d)

theorem hpiece (k : Fin k0_t4_loop.trips) (x : S512x256.Idx) :
    k0_pay24 (F := Ideal) (View.ld x0 (Rect.unit (s := S1536x3584) (k0_off16 k) S512x3584.size (k0_off16_inb k))) w15 (View.ld x0 (Rect.unit (s := S1536x3584) (k0_off16 k) S512x3584.size (k0_off16_inb k))) w16 x = hids x0 w15 w16 ((Rect.unit (s := S1536x256) (k0_off17 k) S512x256.size (k0_off17_inb k)).emb x) := by
  obtain ⟨h0, h1⟩ := row4 k x
  refine (congrArg (k0_pay24 (F := Ideal) (View.ld x0 (Rect.unit (s := S1536x3584) (k0_off16 k) S512x3584.size (k0_off16_inb k))) w15 (View.ld x0 (Rect.unit (s := S1536x3584) (k0_off16 k) S512x3584.size (k0_off16_inb k))) w16) (eq_ix2 x)).trans ((pay24_apply _ _ _ _ (x 0) (x 1)).trans ?_)
  refine (congrArg₂ hid (prodW_at x0 w15 k (x 0) _ h0 (x 1)) (prodW_at x0 w16 k (x 0) _ h0 (x 1))).trans ?_
  unfold hids; rw [h1]

theorem dgpiece (k : Fin k0_t4_loop.trips) (x : S512x256.Idx) :
    k0_pay25 (F := Ideal) (View.ld x0 (Rect.unit (s := S1536x3584) (k0_off16 k) S512x3584.size (k0_off16_inb k))) w15 (View.ld x0 (Rect.unit (s := S1536x3584) (k0_off16 k) S512x3584.size (k0_off16_inb k))) w16 (View.ld x1 (Rect.unit (s := S1536x3584) (k0_off16 k) S512x3584.size (k0_off16_inb k))) w17 x = dgs x0 x1 w15 w16 w17 ((Rect.unit (s := S1536x256) (k0_off17 k) S512x256.size (k0_off17_inb k)).emb x) := by
  obtain ⟨h0, h1⟩ := row4 k x
  refine (congrArg (k0_pay25 (F := Ideal) (View.ld x0 (Rect.unit (s := S1536x3584) (k0_off16 k) S512x3584.size (k0_off16_inb k))) w15 (View.ld x0 (Rect.unit (s := S1536x3584) (k0_off16 k) S512x3584.size (k0_off16_inb k))) w16 (View.ld x1 (Rect.unit (s := S1536x3584) (k0_off16 k) S512x3584.size (k0_off16_inb k))) w17) (eq_ix2 x)).trans ((pay25_apply _ _ _ _ _ _ (x 0) (x 1)).trans ?_)
  refine (congr (congrArg₂ dgate (prodW_at x0 w15 k (x 0) _ h0 (x 1)) (prodW_at x0 w16 k (x 0) _ h0 (x 1))) (prodT_at x1 w17 k (x 0) _ h0 (x 1))).trans ?_
  unfold dgs; rw [h1]

theorem dupiece (k : Fin k0_t4_loop.trips) (x : S512x256.Idx) :
    k0_pay8 (F := Ideal) (k0_pay26 (F := Ideal) (View.ld x0 (Rect.unit (s := S1536x3584) (k0_off16 k) S512x3584.size (k0_off16_inb k))) w15 (View.ld x1 (Rect.unit (s := S1536x3584) (k0_off16 k) S512x3584.size (k0_off16_inb k))) w17) x = dus x0 x1 w15 w17 ((Rect.unit (s := S1536x256) (k0_off17 k) S512x256.size (k0_off17_inb k)).emb x) := by
  obtain ⟨h0, h1⟩ := row4 k x
  refine (congrArg (k0_pay8 (F := Ideal) (k0_pay26 (F := Ideal) (View.ld x0 (Rect.unit (s := S1536x3584) (k0_off16 k) S512x3584.size (k0_off16_inb k))) w15 (View.ld x1 (Rect.unit (s := S1536x3584) (k0_off16 k) S512x3584.size (k0_off16_inb k))) w17)) (eq_ix2 x)).trans ((pay26_apply _ _ _ _ (x 0) (x 1)).trans ?_)
  refine (congrArg₂ dup (prodW_at x0 w15 k (x 0) _ h0 (x 1)) (prodT_at x1 w17 k (x 0) _ h0 (x 1))).trans ?_
  unfold dus; rw [h1]

variable (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)

/-- The pieces of one trip. -/
theorem trip4_eq (k : Fin k0_t4_loop.trips) :
    tripL_k0_t4 (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg15.unread w15) (harg16.unread w16) (harg17.unread w17) k
      = ([⟨(Rect.unit (s := S1536x256) (k0_off17 k) S512x256.size (k0_off17_inb k)), k0_pay24 (F := Ideal) (View.ld x0 (Rect.unit (s := S1536x3584) (k0_off16 k) S512x3584.size (k0_off16_inb k))) w15 (View.ld x0 (Rect.unit (s := S1536x3584) (k0_off16 k) S512x3584.size (k0_off16_inb k))) w16⟩],
         [⟨(Rect.unit (s := S1536x256) (k0_off17 k) S512x256.size (k0_off17_inb k)), k0_pay25 (F := Ideal) (View.ld x0 (Rect.unit (s := S1536x3584) (k0_off16 k) S512x3584.size (k0_off16_inb k))) w15 (View.ld x0 (Rect.unit (s := S1536x3584) (k0_off16 k) S512x3584.size (k0_off16_inb k))) w16 (View.ld x1 (Rect.unit (s := S1536x3584) (k0_off16 k) S512x3584.size (k0_off16_inb k))) w17⟩],
         [⟨(Rect.unit (s := S1536x256) (k0_off17 k) S512x256.size (k0_off17_inb k)), k0_pay8 (F := Ideal) (k0_pay26 (F := Ideal) (View.ld x0 (Rect.unit (s := S1536x3584) (k0_off16 k) S512x3584.size (k0_off16_inb k))) w15 (View.ld x1 (Rect.unit (s := S1536x3584) (k0_off16 k) S512x3584.size (k0_off16_inb k))) w17)⟩]) := by
  unfold tripL_k0_t4 trip_k0_t4
  dsimp only
  frame_out
end

section
variable (x0 x1 : Vec Ideal S1536x3584 .bf16) (x2 : Vec Ideal S3x112x256 .i32) (x3 : Vec Ideal S28x256 .i32) (x4 : Vec Ideal S28x256 .f32)
  (x5 : Vec Ideal S3x112x256 .i32) (x6 : Vec Ideal S28x256 .i32) (x7 : Vec Ideal S28x256 .f32)
  (x8 : Vec Ideal S3x1x8x3584 .i32) (x9 : Vec Ideal S1x2x3584 .i32) (x10 : Vec Ideal S1x2x3584 .f32)
  (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)

/-- What the block of the hidden activation holds after the loop. -/
theorem canon4a : View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 = hids x0 (wwts x2 x3 x4) (wwts x5 x6 x7) := by
  have e1 := canon1a x2 x3 x4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e2 := canon2a x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e3 := canon3a x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  funext y
  refine View.canon_apply_of_pieces (hids x0 (wwts x2 x3 x4) (wwts x5 x6 x7)) _ ?_ y (cov4a (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)
  rw [← e1, ← e2]
  intro p hp x
  obtain ⟨k, hk⟩ := mem_trips (fun n => (pb_k0_t4 (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg15.unread (View.canon (L1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1)) (harg16.unread (View.canon (L2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1)) (harg17.unread (View.canon (L3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1)) n).1) k0_t4_loop.trips _ rfl
    (fun k => congrArg (fun q => q.1) (pb_k0_t4_succ (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ k)) hp
  rw [trip4_eq] at hk
  obtain rfl := List.mem_singleton.mp hk
  exact hpiece x0 _ _ k x

/-- What the block of the gradient of the gate product holds after the loop. -/
theorem canon4b : View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 = dgs x0 x1 (wwts x2 x3 x4) (wwts x5 x6 x7) (twts x8 x9 x10) := by
  have e1 := canon1a x2 x3 x4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e2 := canon2a x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e3 := canon3a x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  funext y
  refine View.canon_apply_of_pieces (dgs x0 x1 (wwts x2 x3 x4) (wwts x5 x6 x7) (twts x8 x9 x10)) _ ?_ y (cov4b (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)
  rw [← e1, ← e2, ← e3]
  intro p hp x
  obtain ⟨k, hk⟩ := mem_trips (fun n => (pb_k0_t4 (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg15.unread (View.canon (L1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1)) (harg16.unread (View.canon (L2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1)) (harg17.unread (View.canon (L3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1)) n).2.1) k0_t4_loop.trips _ rfl
    (fun k => congrArg (fun q => q.2.1) (pb_k0_t4_succ (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ k)) hp
  rw [trip4_eq] at hk
  obtain rfl := List.mem_singleton.mp hk
  exact dgpiece x0 x1 _ _ _ k x

/-- What the block of the gradient of the up product holds after the loop. -/
theorem canon4c : View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2 = dus x0 x1 (wwts x2 x3 x4) (twts x8 x9 x10) := by
  have e1 := canon1a x2 x3 x4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e2 := canon2a x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e3 := canon3a x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  funext y
  refine View.canon_apply_of_pieces (dus x0 x1 (wwts x2 x3 x4) (twts x8 x9 x10)) _ ?_ y (cov4c (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)
  rw [← e1, ← e3]
  intro p hp x
  obtain ⟨k, hk⟩ := mem_trips (fun n => (pb_k0_t4 (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg15.unread (View.canon (L1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).1)) (harg16.unread (View.canon (L2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).1)) (harg17.unread (View.canon (L3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).1)) n).2.2) k0_t4_loop.trips _ rfl
    (fun k => congrArg (fun q => q.2.2) (pb_k0_t4_succ (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ k)) hp
  rw [trip4_eq] at hk
  obtain rfl := List.mem_singleton.mp hk
  exact dupiece x0 x1 _ _ k x
end

end Cert.MainIdeal.Value
end
-- ==== Proof.Main.PaySum.lean ====
/- What the stores of the last loop of the main call write: the scale gradients, value by value. -/
module

public import proofs.«01_k».proof.Proof.Main.Pay

@[expose] public section
set_option maxRecDepth 16384
noncomputable section
namespace Cert.MainIdeal.Value
open Cert.MainIdeal Cert.MainIdeal.Gen Cert.MainSpec
open Idealize.ShloMosaic Idealize.ShloMosaic.TcCoe Idealize.SL.Sem

section
variable (a : Vec Ideal S1536x512 .bf16) (d : Vec Ideal S1536x256 .bf16) (z : Vec Ideal S512x256 .i8) (n : Fin 256)

/-- The scale gradient of the 128 rows from row `o` of a strip. -/
def seg (o : ℕ) (ho : o + 128 ≤ 512) : EReal :=
  ∑ x : Fin 128, (∑ t : Fin 1536, a (ix2 t ⟨o + x.val, by omega⟩) * d (ix2 t n)) * num (z (ix2 ⟨o + x.val, by omega⟩ n))

theorem pay28_apply : k0_pay28 (F := Ideal) a d z (ix3 0 0 n) = seg a d z n 0 (by decide) := by
  pointwise [k0_pay28, k0_pay27]
  unfold seg
  exact Finset.sum_congr rfl fun x _ => by simp only [Nat.zero_add]; rfl

theorem pay29_apply : k0_pay29 (F := Ideal) a d z (ix3 0 0 n) = seg a d z n 128 (by decide) := by
  pointwise [k0_pay29, k0_pay27]
  unfold seg
  rfl

theorem pay30_apply : k0_pay30 (F := Ideal) a d z (ix3 0 0 n) = seg a d z n 256 (by decide) := by
  pointwise [k0_pay30, k0_pay27]
  unfold seg
  rfl

theorem pay32_apply : k0_pay32 (F := Ideal) (k0_pay31 (F := Ideal) a d z) (ix3 0 0 n) = seg a d z n 384 (by decide) := by
  pointwise [k0_pay32, k0_pay31, k0_pay27]
  unfold seg
  rfl

theorem pay34_apply : k0_pay34 (F := Ideal) a d z (ix3 0 0 n) = seg a d z n 0 (by decide) := by
  pointwise [k0_pay34, k0_pay33]
  unfold seg
  exact Finset.sum_congr rfl fun x _ => by simp only [Nat.zero_add]; rfl

theorem pay35_apply : k0_pay35 (F := Ideal) a d z (ix3 0 0 n) = seg a d z n 128 (by decide) := by
  pointwise [k0_pay35, k0_pay33]
  unfold seg
  rfl

theorem pay36_apply : k0_pay36 (F := Ideal) a d z (ix3 0 0 n) = seg a d z n 256 (by decide) := by
  pointwise [k0_pay36, k0_pay33]
  unfold seg
  rfl

theorem pay9_apply : k0_pay9 (F := Ideal) (k0_pay37 (F := Ideal) a d z) (ix3 0 0 n) = seg a d z n 384 (by decide) := by
  pointwise [k0_pay9, k0_pay37, k0_pay33]
  unfold seg
  rfl
end

section
variable (a : Vec Ideal S1536x256 .bf16) (d : Vec Ideal S1536x512 .bf16) (z : Vec Ideal S256x512 .i8) (n : Fin 512)

/-- The scale gradient of the 128 columns from column `o` of a block. -/
def segT (o : ℕ) (ho : o + 128 ≤ 256) : EReal :=
  ∑ x : Fin 128, (∑ t : Fin 1536, a (ix2 t ⟨o + x.val, by omega⟩) * d (ix2 t n)) * num (z (ix2 ⟨o + x.val, by omega⟩ n))

theorem pay11_apply : k0_pay11 (F := Ideal) a d z (ix3 0 0 n) = segT a d z n 0 (by decide) := by
  pointwise [k0_pay11, k0_pay10]
  unfold segT
  exact Finset.sum_congr rfl fun x _ => by simp only [Nat.zero_add]; rfl

theorem pay12_apply : k0_pay12 (F := Ideal) a d z (ix3 0 0 n) = segT a d z n 128 (by decide) := by
  pointwise [k0_pay12, k0_pay10]
  unfold segT
  rfl
end

end Cert.MainIdeal.Value
end
-- ==== Proof.Main.Scales.lean ====
/- The last loop of the main call: what the scale gradients hold. -/
module

public import proofs.«01_k».proof.Proof.MainIdealRun.Lists
public import proofs.«01_k».proof.Proof.Main.Pay
public import Idealize.ShloMosaic.Lib.Pipeline.ValueKit
public import Idealize.ShloMosaic.Lib.WritesUnit
public import proofs.«01_k».proof.Proof.Main.Hidden
public import proofs.«01_k».proof.Proof.Main.PaySum
@[expose] public section
set_option maxRecDepth 16384
noncomputable section
namespace Cert.MainIdeal.Value
open Cert.MainIdeal Cert.MainIdeal.Gen Cert.MainSpec
open Idealize.ShloMosaic Idealize.ShloMosaic.TcCoe Idealize.SL.Sem

theorem off20_val : ∀ k : Fin k0_t5_loop.trips, k0_off20 k = ![k.val, 0, 0] := by decide +kernel
theorem off21_val : ∀ k : Fin k0_t5_loop.trips, k0_off21 k = ![k.val, 1, 0] := by decide +kernel
theorem off22_val : ∀ k : Fin k0_t5_loop.trips, k0_off22 k = ![k.val, 2, 0] := by decide +kernel
theorem off23_val : ∀ k : Fin k0_t5_loop.trips, k0_off23 k = ![k.val, 3, 0] := by decide +kernel
theorem off25_val : ∀ k : Fin k0_t5_loop.trips, k0_off25 k = ![0, 0, 512 * k.val] := by decide +kernel
theorem off26_val : ∀ k : Fin k0_t5_loop.trips, k0_off26 k = ![0, 1, 512 * k.val] := by decide +kernel
theorem off18_val : ∀ k : Fin k0_t5_loop.trips, k0_off18 k = ![0, 512 * k.val] := by decide +kernel
theorem off19_val : ∀ k : Fin k0_t5_loop.trips, k0_off19 k = ![512 * k.val, 0] := by decide +kernel
theorem off24_val : ∀ k : Fin k0_t5_loop.trips, k0_off24 k = ![0, 512 * k.val] := by decide +kernel

/-- The scale gradients of a gate or up block. -/
def wds (a : Vec Ideal S1536x3584 .bf16) (g : Vec Ideal S1536x256 .bf16) (tr : Vec Ideal S3584x256 .i8) (i : Fin 7) (j : Fin 4) (n : Fin 256) : EReal :=
  ∑ x : Fin 128, (∑ t : Fin 1536, a (ix2 t ⟨(i.val * 4 + j.val) * 128 + x.val, by omega⟩) * g (ix2 t n))
    * num (tr (ix2 ⟨(i.val * 4 + j.val) * 128 + x.val, by omega⟩ n))
/-- The scale gradients of a gate or up block, as a vector. -/
def wdss (a : Vec Ideal S1536x3584 .bf16) (g : Vec Ideal S1536x256 .bf16) (tr : Vec Ideal S3584x256 .i8) : Vec Ideal S7x4x256 .f32 :=
  fun y => wds a g tr (y 0) (y 1) (y 2)

/-- The scale gradients of a down block. -/
def tds (h : Vec Ideal S1536x256 .bf16) (a : Vec Ideal S1536x3584 .bf16) (tr : Vec Ideal S256x3584 .i8) (j : Fin 2) (n : Fin 3584) : EReal :=
  ∑ x : Fin 128, (∑ t : Fin 1536, h (ix2 t ⟨j.val * 128 + x.val, by omega⟩) * a (ix2 t n)) * num (tr (ix2 ⟨j.val * 128 + x.val, by omega⟩ n))
/-- The scale gradients of a down block, as a vector. -/
def tdss (h : Vec Ideal S1536x256 .bf16) (a : Vec Ideal S1536x3584 .bf16) (tr : Vec Ideal S256x3584 .i8) : Vec Ideal S1x2x3584 .f32 :=
  fun y => tds h a tr (y 1) (y 2)

theorem eq_lane (x : S1x1x256.Idx) : x = ix3 0 0 (x 2) := by
  funext a
  match a with
  | ⟨0, _⟩ => exact Subsingleton.elim (α := Fin 1) _ _
  | ⟨1, _⟩ => exact Subsingleton.elim (α := Fin 1) _ _
  | ⟨2, _⟩ => rfl

theorem eq_laneT (x : S1x1x512.Idx) : x = ix3 0 0 (x 2) := by
  funext a
  match a with
  | ⟨0, _⟩ => exact Subsingleton.elim (α := Fin 1) _ _
  | ⟨1, _⟩ => exact Subsingleton.elim (α := Fin 1) _ _
  | ⟨2, _⟩ => rfl

section
variable (x0 x1 : Vec Ideal S1536x3584 .bf16) (w12 w13 w14 : Vec Ideal S1536x256 .bf16) (w21 w22 : Vec Ideal S3584x256 .i8) (w23 : Vec Ideal S256x3584 .i8)

theorem ld18 (x : Vec Ideal S1536x3584 .bf16) (k : Fin k0_t5_loop.trips) (t : Fin 1536) (l : Fin 512) (d : Fin 3584) (hd : d.val = 512 * k.val + l.val) :
    View.ld x (Rect.unit (s := S1536x3584) (k0_off18 k) S1536x512.size (k0_off18_inb k)) (ix2 t l) = x (ix2 t d) := by
  refine ld_at _ (off18_val k) _ _ _ ?_
  intro a
  match a with
  | ⟨0, _⟩ => exact Nat.zero_add _
  | ⟨1, _⟩ => exact hd.symm

theorem ld19 (x : Vec Ideal S3584x256 .i8) (k : Fin k0_t5_loop.trips) (l : Fin 512) (n : Fin 256) (d : Fin 3584) (hd : d.val = 512 * k.val + l.val) :
    View.ld x (Rect.unit (s := S3584x256) (k0_off19 k) S512x256.size (k0_off19_inb k)) (ix2 l n) = x (ix2 d n) := by
  refine ld_at _ (off19_val k) _ _ _ ?_
  intro a
  match a with
  | ⟨0, _⟩ => exact hd.symm
  | ⟨1, _⟩ => exact Nat.zero_add _

theorem ld24 (x : Vec Ideal S256x3584 .i8) (k : Fin k0_t5_loop.trips) (r : Fin 256) (l : Fin 512) (d : Fin 3584) (hd : d.val = 512 * k.val + l.val) :
    View.ld x (Rect.unit (s := S256x3584) (k0_off24 k) S256x512.size (k0_off24_inb k)) (ix2 r l) = x (ix2 r d) := by
  refine ld_at _ (off24_val k) _ _ _ ?_
  intro a
  match a with
  | ⟨0, _⟩ => exact Nat.zero_add _
  | ⟨1, _⟩ => exact hd.symm

/-- A strip's scale gradient is the block's. -/
theorem seg_at (g : Vec Ideal S1536x256 .bf16) (tr : Vec Ideal S3584x256 .i8) (k : Fin k0_t5_loop.trips) (o : ℕ) (ho : o + 128 ≤ 512) (n : Fin 256)
    (i : Fin 7) (hi : i.val = k.val) (j : Fin 4) (hj : o = j.val * 128) :
    seg (View.ld x0 (Rect.unit (s := S1536x3584) (k0_off18 k) S1536x512.size (k0_off18_inb k))) g (View.ld tr (Rect.unit (s := S3584x256) (k0_off19 k) S512x256.size (k0_off19_inb k))) n o ho = wds x0 g tr i j n := by
  subst hj
  unfold seg wds
  refine Finset.sum_congr rfl fun x _ => ?_
  have hd : (i.val * 4 + j.val) * 128 + x.val = 512 * k.val + (j.val * 128 + x.val) := by omega
  exact congrArg₂ (fun p q : EReal => p * q)
    (Finset.sum_congr rfl fun t _ => congrArg (fun p : EReal => p * g (ix2 t n)) (ld18 x0 k t ⟨j.val * 128 + x.val, by omega⟩ ⟨_, by omega⟩ hd))
    (congrArg num (ld19 tr k ⟨j.val * 128 + x.val, by omega⟩ n ⟨_, by omega⟩ hd))

theorem segT_at (h : Vec Ideal S1536x256 .bf16) (tr : Vec Ideal S256x3584 .i8) (k : Fin k0_t5_loop.trips) (o : ℕ) (ho : o + 128 ≤ 256) (l : Fin 512)
    (n : Fin 3584) (hn : n.val = 512 * k.val + l.val) (j : Fin 2) (hj : o = j.val * 128) :
    segT h (View.ld x1 (Rect.unit (s := S1536x3584) (k0_off18 k) S1536x512.size (k0_off18_inb k))) (View.ld tr (Rect.unit (s := S256x3584) (k0_off24 k) S256x512.size (k0_off24_inb k))) l o ho = tds h x1 tr j n := by
  subst hj
  unfold segT tds
  refine Finset.sum_congr rfl fun x _ => ?_
  exact congrArg₂ (fun p q : EReal => p * q)
    (Finset.sum_congr rfl fun t _ => congrArg (fun p : EReal => h (ix2 t _) * p) (ld18 x1 k t l n hn))
    (congrArg num (ld24 tr k ⟨j.val * 128 + x.val, by omega⟩ l n hn))

theorem pg0 (k : Fin k0_t5_loop.trips) (x : S1x1x256.Idx) : k0_pay28 (F := Ideal) (View.ld x0 (Rect.unit (s := S1536x3584) (k0_off18 k) S1536x512.size (k0_off18_inb k))) w13 (View.ld w21 (Rect.unit (s := S3584x256) (k0_off19 k) S512x256.size (k0_off19_inb k))) x = wdss x0 w13 w21 ((Rect.unit (s := S7x4x256) (k0_off20 k) S1x1x256.size (k0_off20_inb k)).emb x) := by
  refine (congrArg (k0_pay28 (F := Ideal) (View.ld x0 (Rect.unit (s := S1536x3584) (k0_off18 k) S1536x512.size (k0_off18_inb k))) w13 (View.ld w21 (Rect.unit (s := S3584x256) (k0_off19 k) S512x256.size (k0_off19_inb k)))) (eq_lane x)).trans ((pay28_apply _ _ _ (x 2)).trans ((seg_at x0 w13 w21 k 0 _ (x 2) (((Rect.unit (s := S7x4x256) (k0_off20 k) S1x1x256.size (k0_off20_inb k)).emb x) 0) ?_ 0 rfl).trans ?_))
  · have h0 : (x 0).val = 0 := Nat.lt_one_iff.mp (x 0).isLt
    show k0_off20 k 0 + 1 * (x 0).val = _; rw [off20_val, h0]; rfl
  · have h1 : (x 1).val = 0 := Nat.lt_one_iff.mp (x 1).isLt
    have e1 : ((Rect.unit (s := S7x4x256) (k0_off20 k) S1x1x256.size (k0_off20_inb k)).emb x) 1 = (0 : Fin 4) := Fin.ext (by
      show k0_off20 k 1 + 1 * (x 1).val = _; rw [off20_val, h1]; rfl)
    have e2 : ((Rect.unit (s := S7x4x256) (k0_off20 k) S1x1x256.size (k0_off20_inb k)).emb x) 2 = x 2 := Fin.ext (by
      show k0_off20 k 2 + 1 * (x 2).val = _; rw [off20_val, Nat.one_mul]; exact Nat.zero_add _)
    unfold wdss; rw [e1, e2]

theorem pg1 (k : Fin k0_t5_loop.trips) (x : S1x1x256.Idx) : k0_pay29 (F := Ideal) (View.ld x0 (Rect.unit (s := S1536x3584) (k0_off18 k) S1536x512.size (k0_off18_inb k))) w13 (View.ld w21 (Rect.unit (s := S3584x256) (k0_off19 k) S512x256.size (k0_off19_inb k))) x = wdss x0 w13 w21 ((Rect.unit (s := S7x4x256) (k0_off21 k) S1x1x256.size (k0_off21_inb k)).emb x) := by
  refine (congrArg (k0_pay29 (F := Ideal) (View.ld x0 (Rect.unit (s := S1536x3584) (k0_off18 k) S1536x512.size (k0_off18_inb k))) w13 (View.ld w21 (Rect.unit (s := S3584x256) (k0_off19 k) S512x256.size (k0_off19_inb k)))) (eq_lane x)).trans ((pay29_apply _ _ _ (x 2)).trans ((seg_at x0 w13 w21 k 128 _ (x 2) (((Rect.unit (s := S7x4x256) (k0_off21 k) S1x1x256.size (k0_off21_inb k)).emb x) 0) ?_ 1 rfl).trans ?_))
  · have h0 : (x 0).val = 0 := Nat.lt_one_iff.mp (x 0).isLt
    show k0_off21 k 0 + 1 * (x 0).val = _; rw [off21_val, h0]; rfl
  · have h1 : (x 1).val = 0 := Nat.lt_one_iff.mp (x 1).isLt
    have e1 : ((Rect.unit (s := S7x4x256) (k0_off21 k) S1x1x256.size (k0_off21_inb k)).emb x) 1 = (1 : Fin 4) := Fin.ext (by
      show k0_off21 k 1 + 1 * (x 1).val = _; rw [off21_val, h1]; rfl)
    have e2 : ((Rect.unit (s := S7x4x256) (k0_off21 k) S1x1x256.size (k0_off21_inb k)).emb x) 2 = x 2 := Fin.ext (by
      show k0_off21 k 2 + 1 * (x 2).val = _; rw [off21_val, Nat.one_mul]; exact Nat.zero_add _)
    unfold wdss; rw [e1, e2]

theorem pg2 (k : Fin k0_t5_loop.trips) (x : S1x1x256.Idx) : k0_pay30 (F := Ideal) (View.ld x0 (Rect.unit (s := S1536x3584) (k0_off18 k) S1536x512.size (k0_off18_inb k))) w13 (View.ld w21 (Rect.unit (s := S3584x256) (k0_off19 k) S512x256.size (k0_off19_inb k))) x = wdss x0 w13 w21 ((Rect.unit (s := S7x4x256) (k0_off22 k) S1x1x256.size (k0_off22_inb k)).emb x) := by
  refine (congrArg (k0_pay30 (F := Ideal) (View.ld x0 (Rect.unit (s := S1536x3584) (k0_off18 k) S1536x512.size (k0_off18_inb k))) w13 (View.ld w21 (Rect.unit (s := S3584x256) (k0_off19 k) S512x256.size (k0_off19_inb k)))) (eq_lane x)).trans ((pay30_apply _ _ _ (x 2)).trans ((seg_at x0 w13 w21 k 256 _ (x 2) (((Rect.unit (s := S7x4x256) (k0_off22 k) S1x1x256.size (k0_off22_inb k)).emb x) 0) ?_ 2 rfl).trans ?_))
  · have h0 : (x 0).val = 0 := Nat.lt_one_iff.mp (x 0).isLt
    show k0_off22 k 0 + 1 * (x 0).val = _; rw [off22_val, h0]; rfl
  · have h1 : (x 1).val = 0 := Nat.lt_one_iff.mp (x 1).isLt
    have e1 : ((Rect.unit (s := S7x4x256) (k0_off22 k) S1x1x256.size (k0_off22_inb k)).emb x) 1 = (2 : Fin 4) := Fin.ext (by
      show k0_off22 k 1 + 1 * (x 1).val = _; rw [off22_val, h1]; rfl)
    have e2 : ((Rect.unit (s := S7x4x256) (k0_off22 k) S1x1x256.size (k0_off22_inb k)).emb x) 2 = x 2 := Fin.ext (by
      show k0_off22 k 2 + 1 * (x 2).val = _; rw [off22_val, Nat.one_mul]; exact Nat.zero_add _)
    unfold wdss; rw [e1, e2]

theorem pg3 (k : Fin k0_t5_loop.trips) (x : S1x1x256.Idx) : k0_pay32 (F := Ideal) (k0_pay31 (F := Ideal) (View.ld x0 (Rect.unit (s := S1536x3584) (k0_off18 k) S1536x512.size (k0_off18_inb k))) w13 (View.ld w21 (Rect.unit (s := S3584x256) (k0_off19 k) S512x256.size (k0_off19_inb k)))) x = wdss x0 w13 w21 ((Rect.unit (s := S7x4x256) (k0_off23 k) S1x1x256.size (k0_off23_inb k)).emb x) := by
  refine (congrArg (k0_pay32 (F := Ideal) (k0_pay31 (F := Ideal) (View.ld x0 (Rect.unit (s := S1536x3584) (k0_off18 k) S1536x512.size (k0_off18_inb k))) w13 (View.ld w21 (Rect.unit (s := S3584x256) (k0_off19 k) S512x256.size (k0_off19_inb k))))) (eq_lane x)).trans ((pay32_apply _ _ _ (x 2)).trans ((seg_at x0 w13 w21 k 384 _ (x 2) (((Rect.unit (s := S7x4x256) (k0_off23 k) S1x1x256.size (k0_off23_inb k)).emb x) 0) ?_ 3 rfl).trans ?_))
  · have h0 : (x 0).val = 0 := Nat.lt_one_iff.mp (x 0).isLt
    show k0_off23 k 0 + 1 * (x 0).val = _; rw [off23_val, h0]; rfl
  · have h1 : (x 1).val = 0 := Nat.lt_one_iff.mp (x 1).isLt
    have e1 : ((Rect.unit (s := S7x4x256) (k0_off23 k) S1x1x256.size (k0_off23_inb k)).emb x) 1 = (3 : Fin 4) := Fin.ext (by
      show k0_off23 k 1 + 1 * (x 1).val = _; rw [off23_val, h1]; rfl)
    have e2 : ((Rect.unit (s := S7x4x256) (k0_off23 k) S1x1x256.size (k0_off23_inb k)).emb x) 2 = x 2 := Fin.ext (by
      show k0_off23 k 2 + 1 * (x 2).val = _; rw [off23_val, Nat.one_mul]; exact Nat.zero_add _)
    unfold wdss; rw [e1, e2]

theorem pu0 (k : Fin k0_t5_loop.trips) (x : S1x1x256.Idx) : k0_pay34 (F := Ideal) (View.ld x0 (Rect.unit (s := S1536x3584) (k0_off18 k) S1536x512.size (k0_off18_inb k))) w14 (View.ld w22 (Rect.unit (s := S3584x256) (k0_off19 k) S512x256.size (k0_off19_inb k))) x = wdss x0 w14 w22 ((Rect.unit (s := S7x4x256) (k0_off20 k) S1x1x256.size (k0_off20_inb k)).emb x) := by
  refine (congrArg (k0_pay34 (F := Ideal) (View.ld x0 (Rect.unit (s := S1536x3584) (k0_off18 k) S1536x512.size (k0_off18_inb k))) w14 (View.ld w22 (Rect.unit (s := S3584x256) (k0_off19 k) S512x256.size (k0_off19_inb k)))) (eq_lane x)).trans ((pay34_apply _ _ _ (x 2)).trans ((seg_at x0 w14 w22 k 0 _ (x 2) (((Rect.unit (s := S7x4x256) (k0_off20 k) S1x1x256.size (k0_off20_inb k)).emb x) 0) ?_ 0 rfl).trans ?_))
  · have h0 : (x 0).val = 0 := Nat.lt_one_iff.mp (x 0).isLt
    show k0_off20 k 0 + 1 * (x 0).val = _; rw [off20_val, h0]; rfl
  · have h1 : (x 1).val = 0 := Nat.lt_one_iff.mp (x 1).isLt
    have e1 : ((Rect.unit (s := S7x4x256) (k0_off20 k) S1x1x256.size (k0_off20_inb k)).emb x) 1 = (0 : Fin 4) := Fin.ext (by
      show k0_off20 k 1 + 1 * (x 1).val = _; rw [off20_val, h1]; rfl)
    have e2 : ((Rect.unit (s := S7x4x256) (k0_off20 k) S1x1x256.size (k0_off20_inb k)).emb x) 2 = x 2 := Fin.ext (by
      show k0_off20 k 2 + 1 * (x 2).val = _; rw [off20_val, Nat.one_mul]; exact Nat.zero_add _)
    unfold wdss; rw [e1, e2]

theorem pu1 (k : Fin k0_t5_loop.trips) (x : S1x1x256.Idx) : k0_pay35 (F := Ideal) (View.ld x0 (Rect.unit (s := S1536x3584) (k0_off18 k) S1536x512.size (k0_off18_inb k))) w14 (View.ld w22 (Rect.unit (s := S3584x256) (k0_off19 k) S512x256.size (k0_off19_inb k))) x = wdss x0 w14 w22 ((Rect.unit (s := S7x4x256) (k0_off21 k) S1x1x256.size (k0_off21_inb k)).emb x) := by
  refine (congrArg (k0_pay35 (F := Ideal) (View.ld x0 (Rect.unit (s := S1536x3584) (k0_off18 k) S1536x512.size (k0_off18_inb k))) w14 (View.ld w22 (Rect.unit (s := S3584x256) (k0_off19 k) S512x256.size (k0_off19_inb k)))) (eq_lane x)).trans ((pay35_apply _ _ _ (x 2)).trans ((seg_at x0 w14 w22 k 128 _ (x 2) (((Rect.unit (s := S7x4x256) (k0_off21 k) S1x1x256.size (k0_off21_inb k)).emb x) 0) ?_ 1 rfl).trans ?_))
  · have h0 : (x 0).val = 0 := Nat.lt_one_iff.mp (x 0).isLt
    show k0_off21 k 0 + 1 * (x 0).val = _; rw [off21_val, h0]; rfl
  · have h1 : (x 1).val = 0 := Nat.lt_one_iff.mp (x 1).isLt
    have e1 : ((Rect.unit (s := S7x4x256) (k0_off21 k) S1x1x256.size (k0_off21_inb k)).emb x) 1 = (1 : Fin 4) := Fin.ext (by
      show k0_off21 k 1 + 1 * (x 1).val = _; rw [off21_val, h1]; rfl)
    have e2 : ((Rect.unit (s := S7x4x256) (k0_off21 k) S1x1x256.size (k0_off21_inb k)).emb x) 2 = x 2 := Fin.ext (by
      show k0_off21 k 2 + 1 * (x 2).val = _; rw [off21_val, Nat.one_mul]; exact Nat.zero_add _)
    unfold wdss; rw [e1, e2]

theorem pu2 (k : Fin k0_t5_loop.trips) (x : S1x1x256.Idx) : k0_pay36 (F := Ideal) (View.ld x0 (Rect.unit (s := S1536x3584) (k0_off18 k) S1536x512.size (k0_off18_inb k))) w14 (View.ld w22 (Rect.unit (s := S3584x256) (k0_off19 k) S512x256.size (k0_off19_inb k))) x = wdss x0 w14 w22 ((Rect.unit (s := S7x4x256) (k0_off22 k) S1x1x256.size (k0_off22_inb k)).emb x) := by
  refine (congrArg (k0_pay36 (F := Ideal) (View.ld x0 (Rect.unit (s := S1536x3584) (k0_off18 k) S1536x512.size (k0_off18_inb k))) w14 (View.ld w22 (Rect.unit (s := S3584x256) (k0_off19 k) S512x256.size (k0_off19_inb k)))) (eq_lane x)).trans ((pay36_apply _ _ _ (x 2)).trans ((seg_at x0 w14 w22 k 256 _ (x 2) (((Rect.unit (s := S7x4x256) (k0_off22 k) S1x1x256.size (k0_off22_inb k)).emb x) 0) ?_ 2 rfl).trans ?_))
  · have h0 : (x 0).val = 0 := Nat.lt_one_iff.mp (x 0).isLt
    show k0_off22 k 0 + 1 * (x 0).val = _; rw [off22_val, h0]; rfl
  · have h1 : (x 1).val = 0 := Nat.lt_one_iff.mp (x 1).isLt
    have e1 : ((Rect.unit (s := S7x4x256) (k0_off22 k) S1x1x256.size (k0_off22_inb k)).emb x) 1 = (2 : Fin 4) := Fin.ext (by
      show k0_off22 k 1 + 1 * (x 1).val = _; rw [off22_val, h1]; rfl)
    have e2 : ((Rect.unit (s := S7x4x256) (k0_off22 k) S1x1x256.size (k0_off22_inb k)).emb x) 2 = x 2 := Fin.ext (by
      show k0_off22 k 2 + 1 * (x 2).val = _; rw [off22_val, Nat.one_mul]; exact Nat.zero_add _)
    unfold wdss; rw [e1, e2]

theorem pu3 (k : Fin k0_t5_loop.trips) (x : S1x1x256.Idx) : k0_pay9 (F := Ideal) (k0_pay37 (F := Ideal) (View.ld x0 (Rect.unit (s := S1536x3584) (k0_off18 k) S1536x512.size (k0_off18_inb k))) w14 (View.ld w22 (Rect.unit (s := S3584x256) (k0_off19 k) S512x256.size (k0_off19_inb k)))) x = wdss x0 w14 w22 ((Rect.unit (s := S7x4x256) (k0_off23 k) S1x1x256.size (k0_off23_inb k)).emb x) := by
  refine (congrArg (k0_pay9 (F := Ideal) (k0_pay37 (F := Ideal) (View.ld x0 (Rect.unit (s := S1536x3584) (k0_off18 k) S1536x512.size (k0_off18_inb k))) w14 (View.ld w22 (Rect.unit (s := S3584x256) (k0_off19 k) S512x256.size (k0_off19_inb k))))) (eq_lane x)).trans ((pay9_apply _ _ _ (x 2)).trans ((seg_at x0 w14 w22 k 384 _ (x 2) (((Rect.unit (s := S7x4x256) (k0_off23 k) S1x1x256.size (k0_off23_inb k)).emb x) 0) ?_ 3 rfl).trans ?_))
  · have h0 : (x 0).val = 0 := Nat.lt_one_iff.mp (x 0).isLt
    show k0_off23 k 0 + 1 * (x 0).val = _; rw [off23_val, h0]; rfl
  · have h1 : (x 1).val = 0 := Nat.lt_one_iff.mp (x 1).isLt
    have e1 : ((Rect.unit (s := S7x4x256) (k0_off23 k) S1x1x256.size (k0_off23_inb k)).emb x) 1 = (3 : Fin 4) := Fin.ext (by
      show k0_off23 k 1 + 1 * (x 1).val = _; rw [off23_val, h1]; rfl)
    have e2 : ((Rect.unit (s := S7x4x256) (k0_off23 k) S1x1x256.size (k0_off23_inb k)).emb x) 2 = x 2 := Fin.ext (by
      show k0_off23 k 2 + 1 * (x 2).val = _; rw [off23_val, Nat.one_mul]; exact Nat.zero_add _)
    unfold wdss; rw [e1, e2]

theorem pd0 (k : Fin k0_t5_loop.trips) (x : S1x1x512.Idx) : k0_pay11 (F := Ideal) w12 (View.ld x1 (Rect.unit (s := S1536x3584) (k0_off18 k) S1536x512.size (k0_off18_inb k))) (View.ld w23 (Rect.unit (s := S256x3584) (k0_off24 k) S256x512.size (k0_off24_inb k))) x = tdss w12 x1 w23 ((Rect.unit (s := S1x2x3584) (k0_off25 k) S1x1x512.size (k0_off25_inb k)).emb x) := by
  refine (congrArg (k0_pay11 (F := Ideal) w12 (View.ld x1 (Rect.unit (s := S1536x3584) (k0_off18 k) S1536x512.size (k0_off18_inb k))) (View.ld w23 (Rect.unit (s := S256x3584) (k0_off24 k) S256x512.size (k0_off24_inb k)))) (eq_laneT x)).trans ((pay11_apply _ _ _ (x 2)).trans ((segT_at x1 w12 w23 k 0 _ (x 2) (((Rect.unit (s := S1x2x3584) (k0_off25 k) S1x1x512.size (k0_off25_inb k)).emb x) 2) ?_ 0 rfl).trans ?_))
  · show k0_off25 k 2 + 1 * (x 2).val = _; rw [off25_val, Nat.one_mul]; rfl
  · have h1 : (x 1).val = 0 := Nat.lt_one_iff.mp (x 1).isLt
    have e1 : ((Rect.unit (s := S1x2x3584) (k0_off25 k) S1x1x512.size (k0_off25_inb k)).emb x) 1 = (0 : Fin 2) := Fin.ext (by
      show k0_off25 k 1 + 1 * (x 1).val = _; rw [off25_val, h1]; rfl)
    unfold tdss; rw [e1]

theorem pd1 (k : Fin k0_t5_loop.trips) (x : S1x1x512.Idx) : k0_pay12 (F := Ideal) w12 (View.ld x1 (Rect.unit (s := S1536x3584) (k0_off18 k) S1536x512.size (k0_off18_inb k))) (View.ld w23 (Rect.unit (s := S256x3584) (k0_off24 k) S256x512.size (k0_off24_inb k))) x = tdss w12 x1 w23 ((Rect.unit (s := S1x2x3584) (k0_off26 k) S1x1x512.size (k0_off26_inb k)).emb x) := by
  refine (congrArg (k0_pay12 (F := Ideal) w12 (View.ld x1 (Rect.unit (s := S1536x3584) (k0_off18 k) S1536x512.size (k0_off18_inb k))) (View.ld w23 (Rect.unit (s := S256x3584) (k0_off24 k) S256x512.size (k0_off24_inb k)))) (eq_laneT x)).trans ((pay12_apply _ _ _ (x 2)).trans ((segT_at x1 w12 w23 k 128 _ (x 2) (((Rect.unit (s := S1x2x3584) (k0_off26 k) S1x1x512.size (k0_off26_inb k)).emb x) 2) ?_ 1 rfl).trans ?_))
  · show k0_off26 k 2 + 1 * (x 2).val = _; rw [off26_val, Nat.one_mul]; rfl
  · have h1 : (x 1).val = 0 := Nat.lt_one_iff.mp (x 1).isLt
    have e1 : ((Rect.unit (s := S1x2x3584) (k0_off26 k) S1x1x512.size (k0_off26_inb k)).emb x) 1 = (1 : Fin 2) := Fin.ext (by
      show k0_off26 k 1 + 1 * (x 1).val = _; rw [off26_val, h1]; rfl)
    unfold tdss; rw [e1]

variable (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)

/-- The pieces of one trip. -/
theorem trip5_eq (k : Fin k0_t5_loop.trips) :
    tripL_k0_t5 (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg12.unread w12) (harg13.unread w13) (harg14.unread w14) (harg21.unread w21) (harg22.unread w22) (harg23.unread w23) k
      = ([⟨(Rect.unit (s := S7x4x256) (k0_off23 k) S1x1x256.size (k0_off23_inb k)), k0_pay32 (F := Ideal) (k0_pay31 (F := Ideal) (View.ld x0 (Rect.unit (s := S1536x3584) (k0_off18 k) S1536x512.size (k0_off18_inb k))) w13 (View.ld w21 (Rect.unit (s := S3584x256) (k0_off19 k) S512x256.size (k0_off19_inb k))))⟩, ⟨(Rect.unit (s := S7x4x256) (k0_off22 k) S1x1x256.size (k0_off22_inb k)), k0_pay30 (F := Ideal) (View.ld x0 (Rect.unit (s := S1536x3584) (k0_off18 k) S1536x512.size (k0_off18_inb k))) w13 (View.ld w21 (Rect.unit (s := S3584x256) (k0_off19 k) S512x256.size (k0_off19_inb k)))⟩, ⟨(Rect.unit (s := S7x4x256) (k0_off21 k) S1x1x256.size (k0_off21_inb k)), k0_pay29 (F := Ideal) (View.ld x0 (Rect.unit (s := S1536x3584) (k0_off18 k) S1536x512.size (k0_off18_inb k))) w13 (View.ld w21 (Rect.unit (s := S3584x256) (k0_off19 k) S512x256.size (k0_off19_inb k)))⟩, ⟨(Rect.unit (s := S7x4x256) (k0_off20 k) S1x1x256.size (k0_off20_inb k)), k0_pay28 (F := Ideal) (View.ld x0 (Rect.unit (s := S1536x3584) (k0_off18 k) S1536x512.size (k0_off18_inb k))) w13 (View.ld w21 (Rect.unit (s := S3584x256) (k0_off19 k) S512x256.size (k0_off19_inb k)))⟩],
         [⟨(Rect.unit (s := S7x4x256) (k0_off23 k) S1x1x256.size (k0_off23_inb k)), k0_pay9 (F := Ideal) (k0_pay37 (F := Ideal) (View.ld x0 (Rect.unit (s := S1536x3584) (k0_off18 k) S1536x512.size (k0_off18_inb k))) w14 (View.ld w22 (Rect.unit (s := S3584x256) (k0_off19 k) S512x256.size (k0_off19_inb k))))⟩, ⟨(Rect.unit (s := S7x4x256) (k0_off22 k) S1x1x256.size (k0_off22_inb k)), k0_pay36 (F := Ideal) (View.ld x0 (Rect.unit (s := S1536x3584) (k0_off18 k) S1536x512.size (k0_off18_inb k))) w14 (View.ld w22 (Rect.unit (s := S3584x256) (k0_off19 k) S512x256.size (k0_off19_inb k)))⟩, ⟨(Rect.unit (s := S7x4x256) (k0_off21 k) S1x1x256.size (k0_off21_inb k)), k0_pay35 (F := Ideal) (View.ld x0 (Rect.unit (s := S1536x3584) (k0_off18 k) S1536x512.size (k0_off18_inb k))) w14 (View.ld w22 (Rect.unit (s := S3584x256) (k0_off19 k) S512x256.size (k0_off19_inb k)))⟩, ⟨(Rect.unit (s := S7x4x256) (k0_off20 k) S1x1x256.size (k0_off20_inb k)), k0_pay34 (F := Ideal) (View.ld x0 (Rect.unit (s := S1536x3584) (k0_off18 k) S1536x512.size (k0_off18_inb k))) w14 (View.ld w22 (Rect.unit (s := S3584x256) (k0_off19 k) S512x256.size (k0_off19_inb k)))⟩],
         [⟨(Rect.unit (s := S1x2x3584) (k0_off26 k) S1x1x512.size (k0_off26_inb k)), k0_pay12 (F := Ideal) w12 (View.ld x1 (Rect.unit (s := S1536x3584) (k0_off18 k) S1536x512.size (k0_off18_inb k))) (View.ld w23 (Rect.unit (s := S256x3584) (k0_off24 k) S256x512.size (k0_off24_inb k)))⟩, ⟨(Rect.unit (s := S1x2x3584) (k0_off25 k) S1x1x512.size (k0_off25_inb k)), k0_pay11 (F := Ideal) w12 (View.ld x1 (Rect.unit (s := S1536x3584) (k0_off18 k) S1536x512.size (k0_off18_inb k))) (View.ld w23 (Rect.unit (s := S256x3584) (k0_off24 k) S256x512.size (k0_off24_inb k)))⟩]) := by
  unfold tripL_k0_t5 trip_k0_t5
  dsimp only
  frame_out
end

section
variable (x0 x1 : Vec Ideal S1536x3584 .bf16) (x2 : Vec Ideal S3x112x256 .i32) (x3 : Vec Ideal S28x256 .i32) (x4 : Vec Ideal S28x256 .f32)
  (x5 : Vec Ideal S3x112x256 .i32) (x6 : Vec Ideal S28x256 .i32) (x7 : Vec Ideal S28x256 .f32)
  (x8 : Vec Ideal S3x1x8x3584 .i32) (x9 : Vec Ideal S1x2x3584 .i32) (x10 : Vec Ideal S1x2x3584 .f32)
  (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)

/-- What the block of the gate scale gradients holds after the loop. -/
theorem canon5a : View.canon (L5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 = wdss x0 (dgs x0 x1 (wwts x2 x3 x4) (wwts x5 x6 x7) (twts x8 x9 x10)) (wtrs x2 x3) := by
  have e1 := canon4b x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e2 := canon1b x2 x3 x4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  funext y
  refine View.canon_apply_of_pieces (wdss x0 (dgs x0 x1 (wwts x2 x3 x4) (wwts x5 x6 x7) (twts x8 x9 x10)) (wtrs x2 x3)) _ ?_ y (cov5a (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)
  rw [← e1, ← e2]
  intro p hp x
  obtain ⟨k, hk⟩ := mem_trips (fun n => (pb_k0_t5 (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg12.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)) (harg13.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)) (harg14.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2)) (harg21.unread (View.canon (L1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2)) (harg22.unread (View.canon (L2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2)) (harg23.unread (View.canon (L3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2)) n).1) k0_t5_loop.trips _ rfl
    (fun k => congrArg (fun q => q.1) (pb_k0_t5_succ (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ k)) hp
  rw [trip5_eq] at hk
  rcases List.mem_cons.mp hk with rfl | hk
  · exact pg3 x0 _ _ k x
  rcases List.mem_cons.mp hk with rfl | hk
  · exact pg2 x0 _ _ k x
  rcases List.mem_cons.mp hk with rfl | hk
  · exact pg1 x0 _ _ k x
  obtain rfl := List.mem_singleton.mp hk
  exact pg0 x0 _ _ k x

/-- What the block of the up scale gradients holds after the loop. -/
theorem canon5b : View.canon (L5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 = wdss x0 (dus x0 x1 (wwts x2 x3 x4) (twts x8 x9 x10)) (wtrs x5 x6) := by
  have e1 := canon4c x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e2 := canon2b x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  funext y
  refine View.canon_apply_of_pieces (wdss x0 (dus x0 x1 (wwts x2 x3 x4) (twts x8 x9 x10)) (wtrs x5 x6)) _ ?_ y (cov5b (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)
  rw [← e1, ← e2]
  intro p hp x
  obtain ⟨k, hk⟩ := mem_trips (fun n => (pb_k0_t5 (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg12.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)) (harg13.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)) (harg14.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2)) (harg21.unread (View.canon (L1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2)) (harg22.unread (View.canon (L2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2)) (harg23.unread (View.canon (L3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2)) n).2.1) k0_t5_loop.trips _ rfl
    (fun k => congrArg (fun q => q.2.1) (pb_k0_t5_succ (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ k)) hp
  rw [trip5_eq] at hk
  rcases List.mem_cons.mp hk with rfl | hk
  · exact pu3 x0 _ _ k x
  rcases List.mem_cons.mp hk with rfl | hk
  · exact pu2 x0 _ _ k x
  rcases List.mem_cons.mp hk with rfl | hk
  · exact pu1 x0 _ _ k x
  obtain rfl := List.mem_singleton.mp hk
  exact pu0 x0 _ _ k x

/-- What the block of the down scale gradients holds after the loop. -/
theorem canon5c : View.canon (L5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2 = tdss (hids x0 (wwts x2 x3 x4) (wwts x5 x6 x7)) x1 (ttrs x8 x9) := by
  have e1 := canon4a x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  have e2 := canon3b x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  funext y
  refine View.canon_apply_of_pieces (tdss (hids x0 (wwts x2 x3 x4) (wwts x5 x6 x7)) x1 (ttrs x8 x9)) _ ?_ y (cov5c (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 y)
  rw [← e1, ← e2]
  intro p hp x
  obtain ⟨k, hk⟩ := mem_trips (fun n => (pb_k0_t5 (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg1.unread x0) (harg2.unread x1) (harg12.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)) (harg13.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)) (harg14.unread (View.canon (L4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2)) (harg21.unread (View.canon (L1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x2 x3 x4).2)) (harg22.unread (View.canon (L2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x5 x6 x7).2)) (harg23.unread (View.canon (L3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x8 x9 x10).2)) n).2.2) k0_t5_loop.trips _ rfl
    (fun k => congrArg (fun q => q.2.2) (pb_k0_t5_succ (F := Ideal) (Variants.none) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ k)) hp
  rw [trip5_eq] at hk
  rcases List.mem_cons.mp hk with rfl | hk
  · exact pd1 x1 _ _ k x
  obtain rfl := List.mem_singleton.mp hk
  exact pd0 x1 _ _ k x
end

end Cert.MainIdeal.Value
end
-- ==== Proof.Main.Outs.lean ====
/- What each point of the main call leaves in the results' blocks, as vectors of the point's input blocks. -/
module

public import proofs.«01_k».proof.Proof.MainIdealRun.Lists
public import proofs.«01_k».proof.Proof.Main.Pay
public import Idealize.ShloMosaic.Lib.Pipeline.ValueKit
public import Idealize.ShloMosaic.Lib.WritesUnit
public import proofs.«01_k».proof.Proof.Main.Scales
public import proofs.«01_k».proof.Proof.MainIdealRun.Frame
@[expose] public section
set_option maxRecDepth 16384
noncomputable section
namespace Cert.MainIdeal.Value
open Cert.MainIdeal Cert.MainIdeal.Gen Cert.MainSpec
open Idealize.ShloMosaic Idealize.ShloMosaic.TcCoe Idealize.SL.Sem

section
variable (x0 x1 : Vec Ideal S1536x3584 .bf16) (x2 : Vec Ideal S3x112x256 .i32) (x3 : Vec Ideal S28x256 .i32) (x4 : Vec Ideal S28x256 .f32)
  (x5 : Vec Ideal S3x112x256 .i32) (x6 : Vec Ideal S28x256 .i32) (x7 : Vec Ideal S28x256 .f32)
  (x8 : Vec Ideal S3x1x8x3584 .i32) (x9 : Vec Ideal S1x2x3584 .i32) (x10 : Vec Ideal S1x2x3584 .f32)
  (c : Dev nD) (i : grid0.Coords) (arg1 : Memref sig .tc .vmem S1536x3584 .bf16) (harg1 : arg1.IsWhole) (arg2 : Memref sig .tc .vmem S1536x3584 .bf16) (harg2 : arg2.IsWhole) (arg3 : Memref sig .tc .vmem S3x112x256 .i32) (harg3 : arg3.IsWhole) (arg4 : Memref sig .tc .vmem S28x256 .i32) (harg4 : arg4.IsWhole) (arg5 : Memref sig .tc .vmem S28x256 .f32) (harg5 : arg5.IsWhole) (arg6 : Memref sig .tc .vmem S3x112x256 .i32) (harg6 : arg6.IsWhole) (arg7 : Memref sig .tc .vmem S28x256 .i32) (harg7 : arg7.IsWhole) (arg8 : Memref sig .tc .vmem S28x256 .f32) (harg8 : arg8.IsWhole) (arg9 : Memref sig .tc .vmem S3x1x8x3584 .i32) (harg9 : arg9.IsWhole) (arg10 : Memref sig .tc .vmem S1x2x3584 .i32) (harg10 : arg10.IsWhole) (arg11 : Memref sig .tc .vmem S1x2x3584 .f32) (harg11 : arg11.IsWhole) (arg12 : Memref sig .tc .vmem S1536x256 .bf16) (harg12 : arg12.IsWhole) (arg13 : Memref sig .tc .vmem S1536x256 .bf16) (harg13 : arg13.IsWhole) (arg14 : Memref sig .tc .vmem S1536x256 .bf16) (harg14 : arg14.IsWhole) (arg15 : Memref sig .tc .vmem S3584x256 .bf16) (harg15 : arg15.IsWhole) (arg16 : Memref sig .tc .vmem S3584x256 .bf16) (harg16 : arg16.IsWhole) (arg17 : Memref sig .tc .vmem S256x3584 .bf16) (harg17 : arg17.IsWhole) (arg18 : Memref sig .tc .vmem S7x4x256 .f32) (harg18 : arg18.IsWhole) (arg19 : Memref sig .tc .vmem S7x4x256 .f32) (harg19 : arg19.IsWhole) (arg20 : Memref sig .tc .vmem S1x2x3584 .f32) (harg20 : arg20.IsWhole) (arg21 : Memref sig .tc .vmem S3584x256 .i8) (harg21 : arg21.IsWhole) (arg22 : Memref sig .tc .vmem S3584x256 .i8) (harg22 : arg22.IsWhole) (arg23 : Memref sig .tc .vmem S256x3584 .i8) (harg23 : arg23.IsWhole)

theorem out11_val : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = hids x0 (wwts x2 x3 x4) (wwts x5 x6 x7) :=
  (View.read_writes_junk_eq_canon _ _).trans (canon4a x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)

theorem out12_val : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = dgs x0 x1 (wwts x2 x3 x4) (wwts x5 x6 x7) (twts x8 x9 x10) :=
  (View.read_writes_junk_eq_canon _ _).trans (canon4b x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)

theorem out13_val : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = dus x0 x1 (wwts x2 x3 x4) (twts x8 x9 x10) :=
  (View.read_writes_junk_eq_canon _ _).trans (canon4c x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)

theorem out14_val : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = wwts x2 x3 x4 :=
  (View.read_writes_junk_eq_canon _ _).trans (canon1a x2 x3 x4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)

theorem out15_val : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = wwts x5 x6 x7 :=
  (View.read_writes_junk_eq_canon _ _).trans (canon2a x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)

theorem out16_val : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = twts x8 x9 x10 :=
  (View.read_writes_junk_eq_canon _ _).trans (canon3a x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)

theorem out17_val : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = wdss x0 (dgs x0 x1 (wwts x2 x3 x4) (wwts x5 x6 x7) (twts x8 x9 x10)) (wtrs x2 x3) :=
  (View.read_writes_junk_eq_canon _ _).trans (canon5a x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)

theorem out18_val : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = wdss x0 (dus x0 x1 (wwts x2 x3 x4) (twts x8 x9 x10)) (wtrs x5 x6) :=
  (View.read_writes_junk_eq_canon _ _).trans (canon5b x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)

theorem out19_val : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 = tdss (hids x0 (wwts x2 x3 x4) (wwts x5 x6 x7)) x1 (ttrs x8 x9) :=
  (View.read_writes_junk_eq_canon _ _).trans (canon5c x0 x1 x2 x3 x4 x5 x6 x7 x8 x9 x10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
end

variable (m : (ℓ : Loc nD τ sig) → Buf (Elt Ideal) ℓ) (c : Dev nD) (t : Fin cfg0.N)

theorem outs11 : (outsAt0 (F := Ideal) m c t).1 = hids (iblk m c 0 t) (wwts (iblk m c 2 t) (iblk m c 3 t) (iblk m c 4 t)) (wwts (iblk m c 5 t) (iblk m c 6 t) (iblk m c 7 t)) := by
  unfold outsAt0; dsimp only
  exact out11_val _ _ _ _ _ _ _ _ _ _ _ _ _ _ _ _ _ _ _ _ _ _ _ _ _ _ _ _ _ _ _ _ _ _ _ _ _ _ _ _ _ _ _ _ _ _ _ _ _ _ _ _ _ _ _ _ _ _ _

theorem outs12 : (outsAt0 (F := Ideal) m c t).2.1 = dgs (iblk m c 0 t) (iblk m c 1 t) (wwts (iblk m c 2 t) (iblk m c 3 t) (iblk m c 4 t)) (wwts (iblk m c 5 t) (iblk m c 6 t) (iblk m c 7 t)) (twts (iblk m c 8 t) (iblk m c 9 t) (iblk m c 10 t)) := by
  unfold outsAt0; dsimp only
  exact out12_val _ _ _ _ _ _ _ _ _ _ _ _ _ _ _ _ _ _ _ _ _ _ _ _ _ _ _ _ _ _ _ _ _ _ _ _ _ _ _ _ _ _ _ _ _ _ _ _ _ _ _ _ _ _ _ _ _ _ _

theorem outs13 : (outsAt0 (F := Ideal) m c t).2.2.1 = dus (iblk m c 0 t) (iblk m c 1 t) (wwts (iblk m c 2 t) (iblk m c 3 t) (iblk m c 4 t)) (twts (iblk m c 8 t) (iblk m c 9 t) (iblk m c 10 t)) := by
  unfold outsAt0; dsimp only
  exact out13_val _ _ _ _ _ _ _ _ _ _ _ _ _ _ _ _ _ _ _ _ _ _ _ _ _ _ _ _ _ _ _ _ _ _ _ _ _ _ _ _ _ _ _ _ _ _ _ _ _ _ _ _ _ _ _ _ _ _ _

theorem outs14 : (outsAt0 (F := Ideal) m c t).2.2.2.1 = wwts (iblk m c 2 t) (iblk m c 3 t) (iblk m c 4 t) := by
  unfold outsAt0; dsimp only
  exact out14_val _ _ _ _ _ _ _ _ _ _ _ _ _ _ _ _ _ _ _ _ _ _ _ _ _ _ _ _ _ _ _ _ _ _ _ _ _ _ _ _ _ _ _ _ _ _ _ _ _ _ _ _ _ _ _ _ _ _ _

theorem outs15 : (outsAt0 (F := Ideal) m c t).2.2.2.2.1 = wwts (iblk m c 5 t) (iblk m c 6 t) (iblk m c 7 t) := by
  unfold outsAt0; dsimp only
  exact out15_val _ _ _ _ _ _ _ _ _ _ _ _ _ _ _ _ _ _ _ _ _ _ _ _ _ _ _ _ _ _ _ _ _ _ _ _ _ _ _ _ _ _ _ _ _ _ _ _ _ _ _ _ _ _ _ _ _ _ _

theorem outs16 : (outsAt0 (F := Ideal) m c t).2.2.2.2.2.1 = twts (iblk m c 8 t) (iblk m c 9 t) (iblk m c 10 t) := by
  unfold outsAt0; dsimp only
  exact out16_val _ _ _ _ _ _ _ _ _ _ _ _ _ _ _ _ _ _ _ _ _ _ _ _ _ _ _ _ _ _ _ _ _ _ _ _ _ _ _ _ _ _ _ _ _ _ _ _ _ _ _ _ _ _ _ _ _ _ _

theorem outs17 : (outsAt0 (F := Ideal) m c t).2.2.2.2.2.2.1 = wdss (iblk m c 0 t) (dgs (iblk m c 0 t) (iblk m c 1 t) (wwts (iblk m c 2 t) (iblk m c 3 t) (iblk m c 4 t)) (wwts (iblk m c 5 t) (iblk m c 6 t) (iblk m c 7 t)) (twts (iblk m c 8 t) (iblk m c 9 t) (iblk m c 10 t))) (wtrs (iblk m c 2 t) (iblk m c 3 t)) := by
  unfold outsAt0; dsimp only
  exact out17_val _ _ _ _ _ _ _ _ _ _ _ _ _ _ _ _ _ _ _ _ _ _ _ _ _ _ _ _ _ _ _ _ _ _ _ _ _ _ _ _ _ _ _ _ _ _ _ _ _ _ _ _ _ _ _ _ _ _ _

theorem outs18 : (outsAt0 (F := Ideal) m c t).2.2.2.2.2.2.2.1 = wdss (iblk m c 0 t) (dus (iblk m c 0 t) (iblk m c 1 t) (wwts (iblk m c 2 t) (iblk m c 3 t) (iblk m c 4 t)) (twts (iblk m c 8 t) (iblk m c 9 t) (iblk m c 10 t))) (wtrs (iblk m c 5 t) (iblk m c 6 t)) := by
  unfold outsAt0; dsimp only
  exact out18_val _ _ _ _ _ _ _ _ _ _ _ _ _ _ _ _ _ _ _ _ _ _ _ _ _ _ _ _ _ _ _ _ _ _ _ _ _ _ _ _ _ _ _ _ _ _ _ _ _ _ _ _ _ _ _ _ _ _ _

theorem outs19 : (outsAt0 (F := Ideal) m c t).2.2.2.2.2.2.2.2 = tdss (hids (iblk m c 0 t) (wwts (iblk m c 2 t) (iblk m c 3 t) (iblk m c 4 t)) (wwts (iblk m c 5 t) (iblk m c 6 t) (iblk m c 7 t))) (iblk m c 1 t) (ttrs (iblk m c 8 t) (iblk m c 9 t)) := by
  unfold outsAt0; dsimp only
  exact out19_val _ _ _ _ _ _ _ _ _ _ _ _ _ _ _ _ _ _ _ _ _ _ _ _ _ _ _ _ _ _ _ _ _ _ _ _ _ _ _ _ _ _ _ _ _ _ _ _ _ _ _ _ _ _ _ _ _ _ _

end Cert.MainIdeal.Value
end
-- ==== Proof.Main.Point.lean ====
/- One block of the main call: from the entries of its input blocks, its results are those of the whole arrays. -/
module

public import proofs.«01_k».proof.Proof.MainIdealRun.Lists
public import proofs.«01_k».proof.Proof.Main.Pay
public import Idealize.ShloMosaic.Lib.Pipeline.ValueKit
public import Idealize.ShloMosaic.Lib.WritesUnit
public import proofs.«01_k».proof.Proof.Main.Scales
@[expose] public section
set_option maxRecDepth 16384
noncomputable section
namespace Cert.MainIdeal.Value
open Cert.MainIdeal Cert.MainIdeal.Gen Cert.MainSpec
open Idealize.ShloMosaic Idealize.ShloMosaic.TcCoe Idealize.SL.Sem

/-- Column `l` of block `J` of a gate or up matrix (row `l` of block `J` of the down matrix). -/
abbrev col (J : Fin 74) (l : Fin 256) : Fin 18944 := ⟨256 * J.val + l.val, by omega⟩

/-- The input blocks of point `J` hold the arguments' entries of block `J`. -/
structure Reads (A : Args) (J : Fin 74) (x0 x1 : Vec Ideal S1536x3584 .bf16) (x2 : Vec Ideal S3x112x256 .i32) (x3 : Vec Ideal S28x256 .i32) (x4 : Vec Ideal S28x256 .f32)
  (x5 : Vec Ideal S3x112x256 .i32) (x6 : Vec Ideal S28x256 .i32) (x7 : Vec Ideal S28x256 .f32)
  (x8 : Vec Ideal S3x1x8x3584 .i32) (x9 : Vec Ideal S1x2x3584 .i32) (x10 : Vec Ideal S1x2x3584 .f32) : Prop where
  h0 : ∀ t d, x0 (ix2 t d) = A.a t d
  h1 : ∀ t d, x1 (ix2 t d) = A.dy t d
  h2 : ∀ b w l, x2 (ix3 b w l) = A.qg b (col J l) w
  h3 : ∀ p l, x3 (ix2 p l) = (A.zg (col J l) p).setWidth 32
  h4 : ∀ p l, x4 (ix2 p l) = A.sg (col J l) p
  h5 : ∀ b w l, x5 (ix3 b w l) = A.qu b (col J l) w
  h6 : ∀ p l, x6 (ix2 p l) = (A.zu (col J l) p).setWidth 32
  h7 : ∀ p l, x7 (ix2 p l) = A.su (col J l) p
  h8 : ∀ b w k, x8 (ix4 b 0 w k) = A.qd b k ⟨8 * J.val + w.val, by omega⟩
  h9 : ∀ p k, x9 (ix3 0 p k) = (A.zd k ⟨2 * J.val + p.val, by omega⟩).setWidth 32
  h10 : ∀ p k, x10 (ix3 0 p k) = A.sd k ⟨2 * J.val + p.val, by omega⟩

section
variable (A : Args) (J : Fin 74) (x0 x1 : Vec Ideal S1536x3584 .bf16) (x2 : Vec Ideal S3x112x256 .i32) (x3 : Vec Ideal S28x256 .i32) (x4 : Vec Ideal S28x256 .f32)
  (x5 : Vec Ideal S3x112x256 .i32) (x6 : Vec Ideal S28x256 .i32) (x7 : Vec Ideal S28x256 .f32)
  (x8 : Vec Ideal S3x1x8x3584 .i32) (x9 : Vec Ideal S1x2x3584 .i32) (x10 : Vec Ideal S1x2x3584 .f32) (H : Reads A J x0 x1 x2 x3 x4 x5 x6 x7 x8 x9 x10)
include H

theorem wordG (d : Fin 3584) (l : Fin 256) : wword x2 x3 d l
    = dword (A.qg 0 (col J l) ⟨d.val / 32, by omega⟩) (A.qg 1 (col J l) ⟨d.val / 32, by omega⟩) (A.qg 2 (col J l) ⟨d.val / 32, by omega⟩) (d.val % 32) (A.zg (col J l) ⟨d.val / 128, by omega⟩) := by
  unfold wword dword
  rw [H.h2, H.h2, H.h2, H.h3]

theorem wtG (d : Fin 3584) (l : Fin 256) : wwts x2 x3 x4 (ix2 d l) = wideW A.qg A.zg A.sg (col J l) d := by
  show wwt x2 x3 x4 d l = _
  unfold wwt wideW wideD dnum
  rw [wordG A J x0 x1 x2 x3 x4 x5 x6 x7 x8 x9 x10 H, H.h4]

theorem trG (hz : ∀ n p, (A.zg n p).toNat ≤ 128) (d : Fin 3584) (l : Fin 256) : num (wtrs x2 x3 (ix2 d l)) = wideD A.qg A.zg (col J l) d := by
  show num ((wword x2 x3 d l).setWidth 8) = _
  rw [wordG A J x0 x1 x2 x3 x4 x5 x6 x7 x8 x9 x10 H]
  exact dnum_eq_trunc _ _ _ _ _ (hz _ _)

theorem wordU (d : Fin 3584) (l : Fin 256) : wword x5 x6 d l
    = dword (A.qu 0 (col J l) ⟨d.val / 32, by omega⟩) (A.qu 1 (col J l) ⟨d.val / 32, by omega⟩) (A.qu 2 (col J l) ⟨d.val / 32, by omega⟩) (d.val % 32) (A.zu (col J l) ⟨d.val / 128, by omega⟩) := by
  unfold wword dword
  rw [H.h5, H.h5, H.h5, H.h6]

theorem wtU (d : Fin 3584) (l : Fin 256) : wwts x5 x6 x7 (ix2 d l) = wideW A.qu A.zu A.su (col J l) d := by
  show wwt x5 x6 x7 d l = _
  unfold wwt wideW wideD dnum
  rw [wordU A J x0 x1 x2 x3 x4 x5 x6 x7 x8 x9 x10 H, H.h7]

theorem trU (hz : ∀ n p, (A.zu n p).toNat ≤ 128) (d : Fin 3584) (l : Fin 256) : num (wtrs x5 x6 (ix2 d l)) = wideD A.qu A.zu (col J l) d := by
  show num ((wword x5 x6 d l).setWidth 8) = _
  rw [wordU A J x0 x1 x2 x3 x4 x5 x6 x7 x8 x9 x10 H]
  exact dnum_eq_trunc _ _ _ _ _ (hz _ _)

theorem wordD (l : Fin 256) (k : Fin 3584) : tword x8 x9 l k
    = dword (A.qd 0 k ⟨(col J l).val / 32, by omega⟩) (A.qd 1 k ⟨(col J l).val / 32, by omega⟩) (A.qd 2 k ⟨(col J l).val / 32, by omega⟩) ((col J l).val % 32) (A.zd k ⟨(col J l).val / 128, by omega⟩) := by
  have e1 : (⟨8 * J.val + l.val / 32, by omega⟩ : Fin 592) = ⟨(256 * J.val + l.val) / 32, by omega⟩ := Fin.ext (by show 8 * J.val + l.val / 32 = (256 * J.val + l.val) / 32; omega)
  have e2 : (⟨2 * J.val + l.val / 128, by omega⟩ : Fin 148) = ⟨(256 * J.val + l.val) / 128, by omega⟩ := Fin.ext (by show 2 * J.val + l.val / 128 = (256 * J.val + l.val) / 128; omega)
  have e3 : l.val % 32 = (256 * J.val + l.val) % 32 := by omega
  unfold tword dword
  rw [H.h8, H.h8, H.h8, H.h9, e1, e2, e3]

theorem wtD (l : Fin 256) (k : Fin 3584) : twts x8 x9 x10 (ix2 l k) = downW A.qd A.zd A.sd k (col J l) := by
  have e2 : (⟨2 * J.val + l.val / 128, by omega⟩ : Fin 148) = ⟨(256 * J.val + l.val) / 128, by omega⟩ := Fin.ext (by show 2 * J.val + l.val / 128 = (256 * J.val + l.val) / 128; omega)
  show twt x8 x9 x10 l k = _
  unfold twt downW downD dnum
  rw [wordD A J x0 x1 x2 x3 x4 x5 x6 x7 x8 x9 x10 H, H.h10, e2]

theorem trD (hz : ∀ n p, (A.zd n p).toNat ≤ 128) (l : Fin 256) (k : Fin 3584) : num (ttrs x8 x9 (ix2 l k)) = downD A.qd A.zd k (col J l) := by
  show num ((tword x8 x9 l k).setWidth 8) = _
  rw [wordD A J x0 x1 x2 x3 x4 x5 x6 x7 x8 x9 x10 H]
  exact dnum_eq_trunc _ _ _ _ _ (hz _ _)

theorem prodG (t : Fin 1536) (l : Fin 256) : prodW x0 (wwts x2 x3 x4) t l = A.g t (col J l) :=
  Finset.sum_congr rfl fun d _ => congrArg₂ (fun p q : EReal => p * q) (H.h0 t d) (wtG A J x0 x1 x2 x3 x4 x5 x6 x7 x8 x9 x10 H d l)
theorem prodU (t : Fin 1536) (l : Fin 256) : prodW x0 (wwts x5 x6 x7) t l = A.u t (col J l) :=
  Finset.sum_congr rfl fun d _ => congrArg₂ (fun p q : EReal => p * q) (H.h0 t d) (wtU A J x0 x1 x2 x3 x4 x5 x6 x7 x8 x9 x10 H d l)
theorem prodD (t : Fin 1536) (l : Fin 256) : prodT x1 (twts x8 x9 x10) t l = A.dh t (col J l) :=
  Finset.sum_congr rfl fun d _ => congrArg₂ (fun p q : EReal => p * q) (H.h1 t d) (wtD A J x0 x1 x2 x3 x4 x5 x6 x7 x8 x9 x10 H l d)

/-- The hidden activation of the block. -/
theorem hids_at (t : Fin 1536) (l : Fin 256) : hids x0 (wwts x2 x3 x4) (wwts x5 x6 x7) (ix2 t l) = A.h t (col J l) :=
  congrArg₂ hid (prodG A J x0 x1 x2 x3 x4 x5 x6 x7 x8 x9 x10 H t l) (prodU A J x0 x1 x2 x3 x4 x5 x6 x7 x8 x9 x10 H t l)
/-- The gradient of the gate product of the block. -/
theorem dgs_at (t : Fin 1536) (l : Fin 256) : dgs x0 x1 (wwts x2 x3 x4) (wwts x5 x6 x7) (twts x8 x9 x10) (ix2 t l) = A.dg t (col J l) := by
  show dgate (prodW x0 (wwts x2 x3 x4) t l) (prodW x0 (wwts x5 x6 x7) t l) (prodT x1 (twts x8 x9 x10) t l) = _
  rw [prodG A J x0 x1 x2 x3 x4 x5 x6 x7 x8 x9 x10 H t l, prodU A J x0 x1 x2 x3 x4 x5 x6 x7 x8 x9 x10 H t l, prodD A J x0 x1 x2 x3 x4 x5 x6 x7 x8 x9 x10 H t l]; rfl
/-- The gradient of the up product of the block. -/
theorem dus_at (t : Fin 1536) (l : Fin 256) : dus x0 x1 (wwts x2 x3 x4) (twts x8 x9 x10) (ix2 t l) = A.du t (col J l) :=
  congrArg₂ dup (prodG A J x0 x1 x2 x3 x4 x5 x6 x7 x8 x9 x10 H t l) (prodD A J x0 x1 x2 x3 x4 x5 x6 x7 x8 x9 x10 H t l)

/-- The gate scale gradients of the block. -/
theorem wdsG_at (hz : ∀ n p, (A.zg n p).toNat ≤ 128) (i : Fin 7) (j : Fin 4) (l : Fin 256) :
    wdss x0 (dgs x0 x1 (wwts x2 x3 x4) (wwts x5 x6 x7) (twts x8 x9 x10)) (wtrs x2 x3) (ix3 i j l) = wideDs A.a A.dg (wideD A.qg A.zg) ⟨i.val * 4 + j.val, by omega⟩ (col J l) := by
  show wds _ _ _ i j l = _
  unfold wds wideDs
  exact Finset.sum_congr rfl fun x _ => congrArg₂ (fun p q : EReal => p * q)
    (Finset.sum_congr rfl fun t _ => congrArg₂ (fun p q : EReal => p * q) (H.h0 t _) (dgs_at A J x0 x1 x2 x3 x4 x5 x6 x7 x8 x9 x10 H t l))
    (trG A J x0 x1 x2 x3 x4 x5 x6 x7 x8 x9 x10 H hz _ l)
/-- The up scale gradients of the block. -/
theorem wdsU_at (hz : ∀ n p, (A.zu n p).toNat ≤ 128) (i : Fin 7) (j : Fin 4) (l : Fin 256) :
    wdss x0 (dus x0 x1 (wwts x2 x3 x4) (twts x8 x9 x10)) (wtrs x5 x6) (ix3 i j l) = wideDs A.a A.du (wideD A.qu A.zu) ⟨i.val * 4 + j.val, by omega⟩ (col J l) := by
  show wds _ _ _ i j l = _
  unfold wds wideDs
  exact Finset.sum_congr rfl fun x _ => congrArg₂ (fun p q : EReal => p * q)
    (Finset.sum_congr rfl fun t _ => congrArg₂ (fun p q : EReal => p * q) (H.h0 t _) (dus_at A J x0 x1 x2 x3 x4 x5 x6 x7 x8 x9 x10 H t l))
    (trU A J x0 x1 x2 x3 x4 x5 x6 x7 x8 x9 x10 H hz _ l)
/-- The down scale gradients of the block. -/
theorem tds_at (hz : ∀ n p, (A.zd n p).toNat ≤ 128) (j : Fin 2) (k : Fin 3584) :
    tdss (hids x0 (wwts x2 x3 x4) (wwts x5 x6 x7)) x1 (ttrs x8 x9) (ix3 0 j k) = downDs A.h A.dy (downD A.qd A.zd) ⟨J.val * 2 + j.val, by omega⟩ k := by
  show tds _ _ _ j k = _
  unfold tds downDs
  refine Finset.sum_congr rfl fun x _ => ?_
  have e : col J ⟨j.val * 128 + x.val, by omega⟩ = ⟨(J.val * 2 + j.val) * 128 + x.val, by omega⟩ := Fin.ext (by
    show 256 * J.val + (j.val * 128 + x.val) = (J.val * 2 + j.val) * 128 + x.val; omega)
  exact congrArg₂ (fun p q : EReal => p * q)
    (Finset.sum_congr rfl fun t _ => congrArg₂ (fun p q : EReal => p * q) ((hids_at A J x0 x1 x2 x3 x4 x5 x6 x7 x8 x9 x10 H t _).trans (congrArg (A.h t) e)) (H.h1 t k))
    ((trD A J x0 x1 x2 x3 x4 x5 x6 x7 x8 x9 x10 H hz _ k).trans (congrArg (downD A.qd A.zd k) e))
end

end Cert.MainIdeal.Value
end
-- ==== Proof.Main.RefTerms.lean ====
/- What the reference program of the main call computes, as one term of its arguments for each intermediate and result. -/
module

public import proofs.«01_k».proof.Proof.Gen.MainRefIdeal
public import Idealize.ShloMosaic.Lib.StableHlo.Run
public import Idealize.ShloMosaic.PureOps.Ideal

@[expose] public section

set_option maxRecDepth 16384

noncomputable section

namespace Cert.MainRefIdeal.Value

open Cert.MainRefIdeal Cert.MainRefIdeal.Gen
open Idealize.ShloMosaic Idealize.ShloMosaic.TcCoe Idealize.SL.Sem

/-- The gate words. -/
def r0 (a2 : IVec S3x18944x112 32) : IVec S3x18944x112 32 :=
  id (a2)

/-- The field numbers. -/
def r2  : IVec S32x1x1 32 :=
  broadcastInDim S32x1x1 ![0] bcast_S32_S32x1x1_0 (iotaInDim S32 32 0)

/-- The gate differences. -/
def r41 (a2 : IVec S3x18944x112 32) (a3 : IVec S18944x28 8) : FVec Ideal S32x18944x112 .f32 :=
  subf (sitofp .f32 (id (ori (ori (andi (Host.shrui (broadcastInDim S32x18944x112 ![0, 1, 2] bcast_S1x18944x112_S32x18944x112_0_1_2 (broadcastInDim S1x18944x112 ![1, 2] bcast_S18944x112_S1x18944x112_1_2 (shapeCast _ (extractStridedSlice S1x18944x112 ![0, 0, 0] (r0 a2) slices_S3x18944x112_S1x18944x112_0_0_0) shapeCasts_S1x18944x112_S18944x112))) (broadcastInDim S32x18944x112 ![0, 1, 2] bcast_S32x1x1_S32x18944x112_0_1_2 (r2))) (broadcastInDim S32x18944x112 ![] bcast_S_S32x18944x112 (constantI S_ 32 1#32))) (Host.shli (andi (Host.shrui (broadcastInDim S32x18944x112 ![0, 1, 2] bcast_S1x18944x112_S32x18944x112_0_1_2 (broadcastInDim S1x18944x112 ![1, 2] bcast_S18944x112_S1x18944x112_1_2 (shapeCast _ (extractStridedSlice S1x18944x112 ![1, 0, 0] (r0 a2) slices_S3x18944x112_S1x18944x112_1_0_0) shapeCasts_S1x18944x112_S18944x112))) (broadcastInDim S32x18944x112 ![0, 1, 2] bcast_S32x1x1_S32x18944x112_0_1_2 (r2))) (broadcastInDim S32x18944x112 ![] bcast_S_S32x18944x112 (constantI S_ 32 1#32))) (broadcastInDim S32x18944x112 ![] bcast_S_S32x18944x112 (constantI S_ 32 1#32)))) (Host.shli (andi (Host.shrui (broadcastInDim S32x18944x112 ![0, 1, 2] bcast_S1x18944x112_S32x18944x112_0_1_2 (broadcastInDim S1x18944x112 ![1, 2] bcast_S18944x112_S1x18944x112_1_2 (shapeCast _ (extractStridedSlice S1x18944x112 ![2, 0, 0] (r0 a2) slices_S3x18944x112_S1x18944x112_2_0_0) shapeCasts_S1x18944x112_S18944x112))) (broadcastInDim S32x18944x112 ![0, 1, 2] bcast_S32x1x1_S32x18944x112_0_1_2 (r2))) (broadcastInDim S32x18944x112 ![] bcast_S_S32x18944x112 (constantI S_ 32 1#32))) (broadcastInDim S32x18944x112 ![] bcast_S_S32x18944x112 (constantI S_ 32 2#32)))))) (broadcastInDim S32x18944x112 ![0, 1, 2] bcast_S1x18944x112_S32x18944x112_0_1_2 (broadcastInDim S1x18944x112 ![1, 2] bcast_S18944x112_S1x18944x112_1_2 (sitofp .f32 (extui 32 (shapeCast _ (broadcastInDim S18944x28x4 ![0, 1] bcast_S18944x28_S18944x28x4_0_1 (a3)) shapeCasts_S18944x28x4_S18944x112) natLt_8_32))))

/-- The up words. -/
def r42 (a5 : IVec S3x18944x112 32) : IVec S3x18944x112 32 :=
  id (a5)

/-- The field numbers. -/
def r44  : IVec S32x1x1 32 :=
  broadcastInDim S32x1x1 ![0] bcast_S32_S32x1x1_0 (iotaInDim S32 32 0)

/-- The up differences. -/
def r83 (a5 : IVec S3x18944x112 32) (a6 : IVec S18944x28 8) : FVec Ideal S32x18944x112 .f32 :=
  subf (sitofp .f32 (id (ori (ori (andi (Host.shrui (broadcastInDim S32x18944x112 ![0, 1, 2] bcast_S1x18944x112_S32x18944x112_0_1_2 (broadcastInDim S1x18944x112 ![1, 2] bcast_S18944x112_S1x18944x112_1_2 (shapeCast _ (extractStridedSlice S1x18944x112 ![0, 0, 0] (r42 a5) slices_S3x18944x112_S1x18944x112_0_0_0) shapeCasts_S1x18944x112_S18944x112))) (broadcastInDim S32x18944x112 ![0, 1, 2] bcast_S32x1x1_S32x18944x112_0_1_2 (r44))) (broadcastInDim S32x18944x112 ![] bcast_S_S32x18944x112 (constantI S_ 32 1#32))) (Host.shli (andi (Host.shrui (broadcastInDim S32x18944x112 ![0, 1, 2] bcast_S1x18944x112_S32x18944x112_0_1_2 (broadcastInDim S1x18944x112 ![1, 2] bcast_S18944x112_S1x18944x112_1_2 (shapeCast _ (extractStridedSlice S1x18944x112 ![1, 0, 0] (r42 a5) slices_S3x18944x112_S1x18944x112_1_0_0) shapeCasts_S1x18944x112_S18944x112))) (broadcastInDim S32x18944x112 ![0, 1, 2] bcast_S32x1x1_S32x18944x112_0_1_2 (r44))) (broadcastInDim S32x18944x112 ![] bcast_S_S32x18944x112 (constantI S_ 32 1#32))) (broadcastInDim S32x18944x112 ![] bcast_S_S32x18944x112 (constantI S_ 32 1#32)))) (Host.shli (andi (Host.shrui (broadcastInDim S32x18944x112 ![0, 1, 2] bcast_S1x18944x112_S32x18944x112_0_1_2 (broadcastInDim S1x18944x112 ![1, 2] bcast_S18944x112_S1x18944x112_1_2 (shapeCast _ (extractStridedSlice S1x18944x112 ![2, 0, 0] (r42 a5) slices_S3x18944x112_S1x18944x112_2_0_0) shapeCasts_S1x18944x112_S18944x112))) (broadcastInDim S32x18944x112 ![0, 1, 2] bcast_S32x1x1_S32x18944x112_0_1_2 (r44))) (broadcastInDim S32x18944x112 ![] bcast_S_S32x18944x112 (constantI S_ 32 1#32))) (broadcastInDim S32x18944x112 ![] bcast_S_S32x18944x112 (constantI S_ 32 2#32)))))) (broadcastInDim S32x18944x112 ![0, 1, 2] bcast_S1x18944x112_S32x18944x112_0_1_2 (broadcastInDim S1x18944x112 ![1, 2] bcast_S18944x112_S1x18944x112_1_2 (sitofp .f32 (extui 32 (shapeCast _ (broadcastInDim S18944x28x4 ![0, 1] bcast_S18944x28_S18944x28x4_0_1 (a6)) shapeCasts_S18944x28x4_S18944x112) natLt_8_32))))

/-- The down words. -/
def r84 (a8 : IVec S3x3584x592 32) : IVec S3x3584x592 32 :=
  id (a8)

/-- The field numbers. -/
def r86  : IVec S32x1x1 32 :=
  broadcastInDim S32x1x1 ![0] bcast_S32_S32x1x1_0 (iotaInDim S32 32 0)

/-- The down differences. -/
def r125 (a8 : IVec S3x3584x592 32) (a9 : IVec S3584x148 8) : FVec Ideal S32x3584x592 .f32 :=
  subf (sitofp .f32 (id (ori (ori (andi (Host.shrui (broadcastInDim S32x3584x592 ![0, 1, 2] bcast_S1x3584x592_S32x3584x592_0_1_2 (broadcastInDim S1x3584x592 ![1, 2] bcast_S3584x592_S1x3584x592_1_2 (shapeCast _ (extractStridedSlice S1x3584x592 ![0, 0, 0] (r84 a8) slices_S3x3584x592_S1x3584x592_0_0_0) shapeCasts_S1x3584x592_S3584x592))) (broadcastInDim S32x3584x592 ![0, 1, 2] bcast_S32x1x1_S32x3584x592_0_1_2 (r86))) (broadcastInDim S32x3584x592 ![] bcast_S_S32x3584x592 (constantI S_ 32 1#32))) (Host.shli (andi (Host.shrui (broadcastInDim S32x3584x592 ![0, 1, 2] bcast_S1x3584x592_S32x3584x592_0_1_2 (broadcastInDim S1x3584x592 ![1, 2] bcast_S3584x592_S1x3584x592_1_2 (shapeCast _ (extractStridedSlice S1x3584x592 ![1, 0, 0] (r84 a8) slices_S3x3584x592_S1x3584x592_1_0_0) shapeCasts_S1x3584x592_S3584x592))) (broadcastInDim S32x3584x592 ![0, 1, 2] bcast_S32x1x1_S32x3584x592_0_1_2 (r86))) (broadcastInDim S32x3584x592 ![] bcast_S_S32x3584x592 (constantI S_ 32 1#32))) (broadcastInDim S32x3584x592 ![] bcast_S_S32x3584x592 (constantI S_ 32 1#32)))) (Host.shli (andi (Host.shrui (broadcastInDim S32x3584x592 ![0, 1, 2] bcast_S1x3584x592_S32x3584x592_0_1_2 (broadcastInDim S1x3584x592 ![1, 2] bcast_S3584x592_S1x3584x592_1_2 (shapeCast _ (extractStridedSlice S1x3584x592 ![2, 0, 0] (r84 a8) slices_S3x3584x592_S1x3584x592_2_0_0) shapeCasts_S1x3584x592_S3584x592))) (broadcastInDim S32x3584x592 ![0, 1, 2] bcast_S32x1x1_S32x3584x592_0_1_2 (r86))) (broadcastInDim S32x3584x592 ![] bcast_S_S32x3584x592 (constantI S_ 32 1#32))) (broadcastInDim S32x3584x592 ![] bcast_S_S32x3584x592 (constantI S_ 32 2#32)))))) (broadcastInDim S32x3584x592 ![0, 1, 2] bcast_S1x3584x592_S32x3584x592_0_1_2 (broadcastInDim S1x3584x592 ![1, 2] bcast_S3584x592_S1x3584x592_1_2 (sitofp .f32 (extui 32 (shapeCast _ (broadcastInDim S3584x148x4 ![0, 1] bcast_S3584x148_S3584x148x4_0_1 (a9)) shapeCasts_S3584x148x4_S3584x592) natLt_8_32))))

/-- The gate weights. -/
def r131 (a2 : IVec S3x18944x112 32) (a3 : IVec S18944x28 8) (a4 : FVec Ideal S18944x28 .f32) : FVec Ideal S32x18944x112 .bf16 :=
  truncf .bf16 (mulf (broadcastInDim S32x18944x112 ![0, 1, 2] bcast_S1x18944x112_S32x18944x112_0_1_2 (broadcastInDim S1x18944x112 ![1, 2] bcast_S18944x112_S1x18944x112_1_2 (shapeCast _ (broadcastInDim S18944x28x4 ![0, 1] bcast_S18944x28_S18944x28x4_0_1 (a4)) shapeCasts_S18944x28x4_S18944x112))) (r41 a2 a3)) bitsLt_bf16_f32

/-- The up weights. -/
def r137 (a5 : IVec S3x18944x112 32) (a6 : IVec S18944x28 8) (a7 : FVec Ideal S18944x28 .f32) : FVec Ideal S32x18944x112 .bf16 :=
  truncf .bf16 (mulf (broadcastInDim S32x18944x112 ![0, 1, 2] bcast_S1x18944x112_S32x18944x112_0_1_2 (broadcastInDim S1x18944x112 ![1, 2] bcast_S18944x112_S1x18944x112_1_2 (shapeCast _ (broadcastInDim S18944x28x4 ![0, 1] bcast_S18944x28_S18944x28x4_0_1 (a7)) shapeCasts_S18944x28x4_S18944x112))) (r83 a5 a6)) bitsLt_bf16_f32

/-- The down weights. -/
def r143 (a8 : IVec S3x3584x592 32) (a9 : IVec S3584x148 8) (a10 : FVec Ideal S3584x148 .f32) : FVec Ideal S32x3584x592 .bf16 :=
  truncf .bf16 (mulf (broadcastInDim S32x3584x592 ![0, 1, 2] bcast_S1x3584x592_S32x3584x592_0_1_2 (broadcastInDim S1x3584x592 ![1, 2] bcast_S3584x592_S1x3584x592_1_2 (shapeCast _ (broadcastInDim S3584x148x4 ![0, 1] bcast_S3584x148_S3584x148x4_0_1 (a10)) shapeCasts_S3584x148x4_S3584x592))) (r125 a8 a9)) bitsLt_bf16_f32

/-- The gate products. -/
def r145 (a0 : FVec Ideal S1536x3584 .bf16) (a2 : IVec S3x18944x112 32) (a3 : IVec S18944x28 8) (a4 : FVec Ideal S18944x28 .f32) : FVec Ideal S1536x18944 .f32 :=
  Host.dotGeneral dot_S1536x112x32_S32x18944x112_S1536x18944_21_02_0_1_n_n none (shapeCast _ (a0) shapeCasts_S1536x3584_S1536x112x32) (r131 a2 a3 a4)

/-- The up products. -/
def r147 (a0 : FVec Ideal S1536x3584 .bf16) (a5 : IVec S3x18944x112 32) (a6 : IVec S18944x28 8) (a7 : FVec Ideal S18944x28 .f32) : FVec Ideal S1536x18944 .f32 :=
  Host.dotGeneral dot_S1536x112x32_S32x18944x112_S1536x18944_21_02_0_1_n_n none (shapeCast _ (a0) shapeCasts_S1536x3584_S1536x112x32) (r137 a5 a6 a7)

/-- The sigmoid of the gate products. -/
def r153 (a0 : FVec Ideal S1536x3584 .bf16) (a2 : IVec S3x18944x112 32) (a3 : IVec S18944x28 8) (a4 : FVec Ideal S18944x28 .f32) : FVec Ideal S1536x18944 .f32 :=
  Host.divf (broadcastInDim S1536x18944 ![] bcast_S_S1536x18944 (constant S_ .f32 0x3F800000#32)) (addf (broadcastInDim S1536x18944 ![] bcast_S_S1536x18944 (constant S_ .f32 0x3F800000#32)) (Host.exp (Host.negf (r145 a0 a2 a3 a4))))

/-- The gradient of the hidden activation. -/
def r159 (a1 : FVec Ideal S1536x3584 .bf16) (a8 : IVec S3x3584x592 32) (a9 : IVec S3584x148 8) (a10 : FVec Ideal S3584x148 .f32) : FVec Ideal S1536x18944 .f32 :=
  shapeCast _ (transpose S1536x592x32 [2, 1, 0] (Host.dotGeneral dot_S32x3584x592_S1536x3584_S32x592x1536_1_1_02_0_n_n none (r143 a8 a9 a10) (a1)) transposes_S32x592x1536_S1536x592x32_2_1_0) shapeCasts_S1536x592x32_S1536x18944

/-- The hidden activation. -/
def REF156 (a0 : FVec Ideal S1536x3584 .bf16) (a2 : IVec S3x18944x112 32) (a3 : IVec S18944x28 8) (a4 : FVec Ideal S18944x28 .f32) (a5 : IVec S3x18944x112 32) (a6 : IVec S18944x28 8) (a7 : FVec Ideal S18944x28 .f32) : FVec Ideal S1536x18944 .bf16 :=
  truncf .bf16 (mulf (mulf (r145 a0 a2 a3 a4) (r153 a0 a2 a3 a4)) (r147 a0 a5 a6 a7)) bitsLt_bf16_f32

/-- The gradient of the gate products. -/
def REF168 (a0 : FVec Ideal S1536x3584 .bf16) (a1 : FVec Ideal S1536x3584 .bf16) (a2 : IVec S3x18944x112 32) (a3 : IVec S18944x28 8) (a4 : FVec Ideal S18944x28 .f32) (a5 : IVec S3x18944x112 32) (a6 : IVec S18944x28 8) (a7 : FVec Ideal S18944x28 .f32) (a8 : IVec S3x3584x592 32) (a9 : IVec S3584x148 8) (a10 : FVec Ideal S3584x148 .f32) : FVec Ideal S1536x18944 .bf16 :=
  truncf .bf16 (mulf (mulf (mulf (r159 a1 a8 a9 a10) (r147 a0 a5 a6 a7)) (r153 a0 a2 a3 a4)) (addf (broadcastInDim S1536x18944 ![] bcast_S_S1536x18944 (constant S_ .f32 0x3F800000#32)) (mulf (r145 a0 a2 a3 a4) (subf (broadcastInDim S1536x18944 ![] bcast_S_S1536x18944 (constant S_ .f32 0x3F800000#32)) (r153 a0 a2 a3 a4))))) bitsLt_bf16_f32

/-- The gradient of the up products. -/
def REF171 (a0 : FVec Ideal S1536x3584 .bf16) (a1 : FVec Ideal S1536x3584 .bf16) (a2 : IVec S3x18944x112 32) (a3 : IVec S18944x28 8) (a4 : FVec Ideal S18944x28 .f32) (a8 : IVec S3x3584x592 32) (a9 : IVec S3584x148 8) (a10 : FVec Ideal S3584x148 .f32) : FVec Ideal S1536x18944 .bf16 :=
  truncf .bf16 (mulf (mulf (r159 a1 a8 a9 a10) (r145 a0 a2 a3 a4)) (r153 a0 a2 a3 a4)) bitsLt_bf16_f32

/-- The gate weights, transposed. -/
def REF194 (a2 : IVec S3x18944x112 32) (a3 : IVec S18944x28 8) (a4 : FVec Ideal S18944x28 .f32) : FVec Ideal S3584x18944 .bf16 :=
  shapeCast _ (transpose S112x32x18944 [2, 0, 1] (r131 a2 a3 a4) transposes_S32x18944x112_S112x32x18944_2_0_1) shapeCasts_S112x32x18944_S3584x18944

/-- The up weights, transposed. -/
def REF196 (a5 : IVec S3x18944x112 32) (a6 : IVec S18944x28 8) (a7 : FVec Ideal S18944x28 .f32) : FVec Ideal S3584x18944 .bf16 :=
  shapeCast _ (transpose S112x32x18944 [2, 0, 1] (r137 a5 a6 a7) transposes_S32x18944x112_S112x32x18944_2_0_1) shapeCasts_S112x32x18944_S3584x18944

/-- The down weights, transposed. -/
def REF198 (a8 : IVec S3x3584x592 32) (a9 : IVec S3584x148 8) (a10 : FVec Ideal S3584x148 .f32) : FVec Ideal S18944x3584 .bf16 :=
  shapeCast _ (transpose S592x32x3584 [2, 0, 1] (r143 a8 a9 a10) transposes_S32x3584x592_S592x32x3584_2_0_1) shapeCasts_S592x32x3584_S18944x3584

/-- The gate scale gradients. -/
def REF200 (a0 : FVec Ideal S1536x3584 .bf16) (a1 : FVec Ideal S1536x3584 .bf16) (a2 : IVec S3x18944x112 32) (a3 : IVec S18944x28 8) (a4 : FVec Ideal S18944x28 .f32) (a5 : IVec S3x18944x112 32) (a6 : IVec S18944x28 8) (a7 : FVec Ideal S18944x28 .f32) (a8 : IVec S3x3584x592 32) (a9 : IVec S3584x148 8) (a10 : FVec Ideal S3584x148 .f32) : FVec Ideal S7x4x18944 .f32 :=
  shapeCast _ (transpose S28x18944 [1, 0] (Host.reduceAdd (shapeCast _ (Host.reduceAdd (mulf (transpose S32x18944x112 [1, 2, 0] (Host.dotGeneral dot_S1536x112x32_S1536x18944_S112x32x18944_0_0_12_1_n_n none (shapeCast _ (a0) shapeCasts_S1536x3584_S1536x112x32) (REF168 a0 a1 a2 a3 a4 a5 a6 a7 a8 a9 a10)) transposes_S112x32x18944_S32x18944x112_1_2_0) (r41 a2 a3)) (constant S_ .f32 0x00000000#32) reducesTo_S32x18944x112_S18944x112_d0 h_S_) shapeCasts_S18944x112_S18944x28x4) (constant S_ .f32 0x00000000#32) reducesTo_S18944x28x4_S18944x28_d2 h_S_) transposes_S18944x28_S28x18944_1_0) shapeCasts_S28x18944_S7x4x18944

/-- The up scale gradients. -/
def REF202 (a0 : FVec Ideal S1536x3584 .bf16) (a1 : FVec Ideal S1536x3584 .bf16) (a2 : IVec S3x18944x112 32) (a3 : IVec S18944x28 8) (a4 : FVec Ideal S18944x28 .f32) (a5 : IVec S3x18944x112 32) (a6 : IVec S18944x28 8) (a8 : IVec S3x3584x592 32) (a9 : IVec S3584x148 8) (a10 : FVec Ideal S3584x148 .f32) : FVec Ideal S7x4x18944 .f32 :=
  shapeCast _ (transpose S28x18944 [1, 0] (Host.reduceAdd (shapeCast _ (Host.reduceAdd (mulf (transpose S32x18944x112 [1, 2, 0] (Host.dotGeneral dot_S1536x112x32_S1536x18944_S112x32x18944_0_0_12_1_n_n none (shapeCast _ (a0) shapeCasts_S1536x3584_S1536x112x32) (REF171 a0 a1 a2 a3 a4 a8 a9 a10)) transposes_S112x32x18944_S32x18944x112_1_2_0) (r83 a5 a6)) (constant S_ .f32 0x00000000#32) reducesTo_S32x18944x112_S18944x112_d0 h_S_) shapeCasts_S18944x112_S18944x28x4) (constant S_ .f32 0x00000000#32) reducesTo_S18944x28x4_S18944x28_d2 h_S_) transposes_S18944x28_S28x18944_1_0) shapeCasts_S28x18944_S7x4x18944

/-- The down scale gradients. -/
def REF204 (a0 : FVec Ideal S1536x3584 .bf16) (a1 : FVec Ideal S1536x3584 .bf16) (a2 : IVec S3x18944x112 32) (a3 : IVec S18944x28 8) (a4 : FVec Ideal S18944x28 .f32) (a5 : IVec S3x18944x112 32) (a6 : IVec S18944x28 8) (a7 : FVec Ideal S18944x28 .f32) (a8 : IVec S3x3584x592 32) (a9 : IVec S3584x148 8) : FVec Ideal S74x2x3584 .f32 :=
  shapeCast _ (transpose S148x3584 [1, 0] (Host.reduceAdd (shapeCast _ (Host.reduceAdd (mulf (transpose S32x3584x592 [1, 2, 0] (Host.dotGeneral dot_S1536x592x32_S1536x3584_S592x32x3584_0_0_12_1_n_n none (shapeCast _ (REF156 a0 a2 a3 a4 a5 a6 a7) shapeCasts_S1536x18944_S1536x592x32) (a1)) transposes_S592x32x3584_S32x3584x592_1_2_0) (r125 a8 a9)) (constant S_ .f32 0x00000000#32) reducesTo_S32x3584x592_S3584x592_d0 h_S_) shapeCasts_S3584x592_S3584x148x4) (constant S_ .f32 0x00000000#32) reducesTo_S3584x148x4_S3584x148_d2 h_S_) transposes_S3584x148_S148x3584_1_0) shapeCasts_S148x3584_S74x2x3584

end Cert.MainRefIdeal.Value

end
-- ==== Proof.Main.Ref.lean ====
/- The reference's terms of the main call, read at an index: the mathematics of `Proof.Main.Spec`. -/
module

public import proofs.«01_k».proof.Proof.Main.RefTerms
public import proofs.«01_k».proof.Proof.Main.Spec

@[expose] public section

set_option maxRecDepth 16384

noncomputable section

namespace Cert.MainRefIdeal.Value

open Cert.MainRefIdeal Cert.MainRefIdeal.Gen Cert.MainSpec
open Idealize.ShloMosaic Idealize.ShloMosaic.TcCoe Idealize.SL.Sem

/-- The arguments as plain functions. -/
def argsOf (a0 a1 : FVec Ideal S1536x3584 .bf16) (a2 : IVec S3x18944x112 32) (a3 : IVec S18944x28 8) (a4 : FVec Ideal S18944x28 .f32)
  (a5 : IVec S3x18944x112 32) (a6 : IVec S18944x28 8) (a7 : FVec Ideal S18944x28 .f32)
  (a8 : IVec S3x3584x592 32) (a9 : IVec S3584x148 8) (a10 : FVec Ideal S3584x148 .f32) : Args where
  a t d := a0 (ix2 t d)
  dy t d := a1 (ix2 t d)
  qg b n w := a2 (ix3 b n w)
  zg n p := a3 (ix2 n p)
  sg n p := a4 (ix2 n p)
  qu b n w := a5 (ix3 b n w)
  zu n p := a6 (ix2 n p)
  su n p := a7 (ix2 n p)
  qd b n w := a8 (ix3 b n w)
  zd n p := a9 (ix2 n p)
  sd n p := a10 (ix2 n p)

variable (a0 a1 : FVec Ideal S1536x3584 .bf16) (a2 : IVec S3x18944x112 32) (a3 : IVec S18944x28 8) (a4 : FVec Ideal S18944x28 .f32)
  (a5 : IVec S3x18944x112 32) (a6 : IVec S18944x28 8) (a7 : FVec Ideal S18944x28 .f32)
  (a8 : IVec S3x3584x592 32) (a9 : IVec S3584x148 8) (a10 : FVec Ideal S3584x148 .f32)

theorem r41_apply (f : Fin 32) (n : Fin 18944) (w : Fin 112) :
    r41 a2 a3 (ix3 f n w) = dnum (a2 (ix3 0 n w)) (a2 (ix3 1 n w)) (a2 (ix3 2 n w)) f.val (a3 (ix2 n ⟨w.val / 4, by omega⟩)) := by
  rw [dnum_eq_sub]
  pointwise [r41, r0, r2, id_eq]
  rw [code_host]; rfl

theorem r83_apply (f : Fin 32) (n : Fin 18944) (w : Fin 112) :
    r83 a5 a6 (ix3 f n w) = dnum (a5 (ix3 0 n w)) (a5 (ix3 1 n w)) (a5 (ix3 2 n w)) f.val (a6 (ix2 n ⟨w.val / 4, by omega⟩)) := by
  rw [dnum_eq_sub]
  pointwise [r83, r42, r44, id_eq]
  rw [code_host]; rfl

theorem r125_apply (f : Fin 32) (n : Fin 3584) (w : Fin 592) :
    r125 a8 a9 (ix3 f n w) = dnum (a8 (ix3 0 n w)) (a8 (ix3 1 n w)) (a8 (ix3 2 n w)) f.val (a9 (ix2 n ⟨w.val / 4, by omega⟩)) := by
  rw [dnum_eq_sub]
  pointwise [r125, r84, r86, id_eq]
  rw [code_host]; rfl

theorem r131_apply (f : Fin 32) (n : Fin 18944) (w : Fin 112) :
    r131 a2 a3 a4 (ix3 f n w) = a4 (ix2 n ⟨w.val / 4, by omega⟩) * r41 a2 a3 (ix3 f n w) := by
  pointwise [r131]

theorem r137_apply (f : Fin 32) (n : Fin 18944) (w : Fin 112) :
    r137 a5 a6 a7 (ix3 f n w) = a7 (ix2 n ⟨w.val / 4, by omega⟩) * r83 a5 a6 (ix3 f n w) := by
  pointwise [r137]

theorem r143_apply (f : Fin 32) (n : Fin 3584) (w : Fin 592) :
    r143 a8 a9 a10 (ix3 f n w) = a10 (ix2 n ⟨w.val / 4, by omega⟩) * r125 a8 a9 (ix3 f n w) := by
  pointwise [r143]

/-- The differences at row `d`. -/
theorem r41_row (n : Fin 18944) (d : Fin 3584) :
    r41 a2 a3 (ix3 ⟨d.val % 32, by omega⟩ n ⟨d.val / 32, by omega⟩) = wideD (fun b n w => a2 (ix3 b n w)) (fun n p => a3 (ix2 n p)) n d := by
  rw [r41_apply]
  have e : (⟨d.val / 32 / 4, by omega⟩ : Fin 28) = ⟨d.val / 128, by omega⟩ := Fin.ext (by show d.val / 32 / 4 = d.val / 128; omega)
  exact congrArg (fun p => dnum _ _ _ _ (a3 (ix2 n p))) e

/-- The differences at row `d`. -/
theorem r83_row (n : Fin 18944) (d : Fin 3584) :
    r83 a5 a6 (ix3 ⟨d.val % 32, by omega⟩ n ⟨d.val / 32, by omega⟩) = wideD (fun b n w => a5 (ix3 b n w)) (fun n p => a6 (ix2 n p)) n d := by
  rw [r83_apply]
  have e : (⟨d.val / 32 / 4, by omega⟩ : Fin 28) = ⟨d.val / 128, by omega⟩ := Fin.ext (by show d.val / 32 / 4 = d.val / 128; omega)
  exact congrArg (fun p => dnum _ _ _ _ (a6 (ix2 n p))) e

/-- The differences at row `d`. -/
theorem r125_row (n : Fin 3584) (d : Fin 18944) :
    r125 a8 a9 (ix3 ⟨d.val % 32, by omega⟩ n ⟨d.val / 32, by omega⟩) = downD (fun b n w => a8 (ix3 b n w)) (fun n p => a9 (ix2 n p)) n d := by
  rw [r125_apply]
  have e : (⟨d.val / 32 / 4, by omega⟩ : Fin 148) = ⟨d.val / 128, by omega⟩ := Fin.ext (by show d.val / 32 / 4 = d.val / 128; omega)
  exact congrArg (fun p => dnum _ _ _ _ (a9 (ix2 n p))) e

/-- The weights at row `d`. -/
theorem r131_row (n : Fin 18944) (d : Fin 3584) :
    r131 a2 a3 a4 (ix3 ⟨d.val % 32, by omega⟩ n ⟨d.val / 32, by omega⟩) = wideW (fun b n w => a2 (ix3 b n w)) (fun n p => a3 (ix2 n p)) (fun n p => a4 (ix2 n p)) n d := by
  rw [r131_apply, r41_row]
  have e : (⟨d.val / 32 / 4, by omega⟩ : Fin 28) = ⟨d.val / 128, by omega⟩ := Fin.ext (by show d.val / 32 / 4 = d.val / 128; omega)
  exact congrArg (fun p => a4 (ix2 n p) * _) e

/-- The weights at row `d`. -/
theorem r137_row (n : Fin 18944) (d : Fin 3584) :
    r137 a5 a6 a7 (ix3 ⟨d.val % 32, by omega⟩ n ⟨d.val / 32, by omega⟩) = wideW (fun b n w => a5 (ix3 b n w)) (fun n p => a6 (ix2 n p)) (fun n p => a7 (ix2 n p)) n d := by
  rw [r137_apply, r83_row]
  have e : (⟨d.val / 32 / 4, by omega⟩ : Fin 28) = ⟨d.val / 128, by omega⟩ := Fin.ext (by show d.val / 32 / 4 = d.val / 128; omega)
  exact congrArg (fun p => a7 (ix2 n p) * _) e

/-- The weights at row `d`. -/
theorem r143_row (n : Fin 3584) (d : Fin 18944) :
    r143 a8 a9 a10 (ix3 ⟨d.val % 32, by omega⟩ n ⟨d.val / 32, by omega⟩) = downW (fun b n w => a8 (ix3 b n w)) (fun n p => a9 (ix2 n p)) (fun n p => a10 (ix2 n p)) n d := by
  rw [r143_apply, r125_row]
  have e : (⟨d.val / 32 / 4, by omega⟩ : Fin 148) = ⟨d.val / 128, by omega⟩ := Fin.ext (by show d.val / 32 / 4 = d.val / 128; omega)
  exact congrArg (fun p => a10 (ix2 n p) * _) e

theorem r145_apply (t : Fin 1536) (n : Fin 18944) :
    r145 a0 a2 a3 a4 (ix2 t n) = (argsOf a0 a1 a2 a3 a4 a5 a6 a7 a8 a9 a10).g t n := by
  unfold Args.g
  have e : r145 a0 a2 a3 a4 (ix2 t n) = ∑ f : Fin 32, ∑ w : Fin 112, a0 (ix2 t ⟨w.val * 32 + f.val, by omega⟩) * r131 a2 a3 a4 (ix3 f n w) := by
    pointwise [r145]
  rw [e, Finset.sum_comm, Fin.sum_univ_tiles 112 32 rfl]
  refine Finset.sum_congr rfl fun w _ => Finset.sum_congr rfl fun f _ => ?_
  refine congrArg₂ (fun x y : EReal => x * y) rfl ?_
  refine Eq.trans ?_ (r131_row a2 a3 a4 n ⟨w.val * 32 + f.val, by omega⟩)
  have e1 : (⟨(w.val * 32 + f.val) % 32, by omega⟩ : Fin 32) = f := Fin.ext (by show (w.val * 32 + f.val) % 32 = f.val; omega)
  have e2 : (⟨(w.val * 32 + f.val) / 32, by omega⟩ : Fin 112) = w := Fin.ext (by show (w.val * 32 + f.val) / 32 = w.val; omega)
  exact (congrArg₂ (fun x y => r131 a2 a3 a4 (ix3 x n y)) e1 e2).symm

theorem r147_apply (t : Fin 1536) (n : Fin 18944) :
    r147 a0 a5 a6 a7 (ix2 t n) = (argsOf a0 a1 a2 a3 a4 a5 a6 a7 a8 a9 a10).u t n := by
  unfold Args.u
  have e : r147 a0 a5 a6 a7 (ix2 t n) = ∑ f : Fin 32, ∑ w : Fin 112, a0 (ix2 t ⟨w.val * 32 + f.val, by omega⟩) * r137 a5 a6 a7 (ix3 f n w) := by
    pointwise [r147]
  rw [e, Finset.sum_comm, Fin.sum_univ_tiles 112 32 rfl]
  refine Finset.sum_congr rfl fun w _ => Finset.sum_congr rfl fun f _ => ?_
  refine congrArg₂ (fun x y : EReal => x * y) rfl ?_
  refine Eq.trans ?_ (r137_row a5 a6 a7 n ⟨w.val * 32 + f.val, by omega⟩)
  have e1 : (⟨(w.val * 32 + f.val) % 32, by omega⟩ : Fin 32) = f := Fin.ext (by show (w.val * 32 + f.val) % 32 = f.val; omega)
  have e2 : (⟨(w.val * 32 + f.val) / 32, by omega⟩ : Fin 112) = w := Fin.ext (by show (w.val * 32 + f.val) / 32 = w.val; omega)
  exact (congrArg₂ (fun x y => r137 a5 a6 a7 (ix3 x n y)) e1 e2).symm

theorem r159_apply (t : Fin 1536) (n : Fin 18944) :
    r159 a1 a8 a9 a10 (ix2 t n) = (argsOf a0 a1 a2 a3 a4 a5 a6 a7 a8 a9 a10).dh t n := by
  unfold Args.dh
  have e : r159 a1 a8 a9 a10 (ix2 t n) = ∑ k : Fin 3584, r143 a8 a9 a10 (ix3 ⟨n.val % 32, by omega⟩ k ⟨n.val / 32, by omega⟩) * a1 (ix2 t k) := by
    pointwise [r159]
  rw [e]
  exact Finset.sum_congr rfl fun k _ => (mul_comm _ _).trans (congrArg (fun x : EReal => a1 (ix2 t k) * x) (r143_row a8 a9 a10 k n))

/-- The sigmoid is the logistic function of the product. -/
theorem r153_apply (t : Fin 1536) (n : Fin 18944) :
    r153 a0 a2 a3 a4 (ix2 t n) = Ideal.logistic (r145 a0 a2 a3 a4 (ix2 t n)) := by
  pointwise [r153]
  rfl

/-- The hidden activation. -/
theorem REF156_apply (t : Fin 1536) (n : Fin 18944) :
    REF156 a0 a2 a3 a4 a5 a6 a7 (ix2 t n) = (argsOf a0 a1 a2 a3 a4 a5 a6 a7 a8 a9 a10).h t n := by
  have e : REF156 a0 a2 a3 a4 a5 a6 a7 (ix2 t n) = r145 a0 a2 a3 a4 (ix2 t n) * r153 a0 a2 a3 a4 (ix2 t n) * r147 a0 a5 a6 a7 (ix2 t n) := by
    pointwise [REF156]
  rw [e, r153_apply, r145_apply a0 a1 a2 a3 a4 a5 a6 a7 a8 a9 a10, r147_apply a0 a1 a2 a3 a4 a5 a6 a7 a8 a9 a10]; rfl

/-- The gradient of the gate products. -/
theorem REF168_apply (t : Fin 1536) (n : Fin 18944) :
    REF168 a0 a1 a2 a3 a4 a5 a6 a7 a8 a9 a10 (ix2 t n) = (argsOf a0 a1 a2 a3 a4 a5 a6 a7 a8 a9 a10).dg t n := by
  have e : REF168 a0 a1 a2 a3 a4 a5 a6 a7 a8 a9 a10 (ix2 t n)
      = r159 a1 a8 a9 a10 (ix2 t n) * r147 a0 a5 a6 a7 (ix2 t n) * r153 a0 a2 a3 a4 (ix2 t n)
        * (1 + r145 a0 a2 a3 a4 (ix2 t n) * (1 - r153 a0 a2 a3 a4 (ix2 t n))) := by
    pointwise [REF168]
  rw [e, r153_apply, r145_apply a0 a1 a2 a3 a4 a5 a6 a7 a8 a9 a10, r147_apply a0 a1 a2 a3 a4 a5 a6 a7 a8 a9 a10,
    r159_apply a0 a1 a2 a3 a4 a5 a6 a7 a8 a9 a10]; rfl

/-- The gradient of the up products. -/
theorem REF171_apply (t : Fin 1536) (n : Fin 18944) :
    REF171 a0 a1 a2 a3 a4 a8 a9 a10 (ix2 t n) = (argsOf a0 a1 a2 a3 a4 a5 a6 a7 a8 a9 a10).du t n := by
  have e : REF171 a0 a1 a2 a3 a4 a8 a9 a10 (ix2 t n)
      = r159 a1 a8 a9 a10 (ix2 t n) * r145 a0 a2 a3 a4 (ix2 t n) * r153 a0 a2 a3 a4 (ix2 t n) := by
    pointwise [REF171]
  rw [e, r153_apply, r145_apply a0 a1 a2 a3 a4 a5 a6 a7 a8 a9 a10, r159_apply a0 a1 a2 a3 a4 a5 a6 a7 a8 a9 a10]; rfl

/-- The weights, transposed. -/
theorem REF194_apply (d : Fin 3584) (n : Fin 18944) :
    REF194 a2 a3 a4 (ix2 d n) = wideW (fun b n w => a2 (ix3 b n w)) (fun n p => a3 (ix2 n p)) (fun n p => a4 (ix2 n p)) n d := by
  have e : REF194 a2 a3 a4 (ix2 d n) = r131 a2 a3 a4 (ix3 ⟨d.val % 32, by omega⟩ n ⟨d.val / 32, by omega⟩) := by
    pointwise [REF194]
  rw [e, r131_row]

/-- The weights, transposed. -/
theorem REF196_apply (d : Fin 3584) (n : Fin 18944) :
    REF196 a5 a6 a7 (ix2 d n) = wideW (fun b n w => a5 (ix3 b n w)) (fun n p => a6 (ix2 n p)) (fun n p => a7 (ix2 n p)) n d := by
  have e : REF196 a5 a6 a7 (ix2 d n) = r137 a5 a6 a7 (ix3 ⟨d.val % 32, by omega⟩ n ⟨d.val / 32, by omega⟩) := by
    pointwise [REF196]
  rw [e, r137_row]

/-- The down weights, transposed. -/
theorem REF198_apply (n : Fin 18944) (k : Fin 3584) :
    REF198 a8 a9 a10 (ix2 n k) = downW (fun b n w => a8 (ix3 b n w)) (fun n p => a9 (ix2 n p)) (fun n p => a10 (ix2 n p)) k n := by
  have e : REF198 a8 a9 a10 (ix2 n k) = r143 a8 a9 a10 (ix3 ⟨n.val % 32, by omega⟩ k ⟨n.val / 32, by omega⟩) := by
    pointwise [REF198]
  rw [e, r143_row]

/-- The scale gradients: four words of 32 fields are one group of 128 rows. -/
theorem REF200_apply (i : Fin 7) (k : Fin 4) (n : Fin 18944) :
    REF200 a0 a1 a2 a3 a4 a5 a6 a7 a8 a9 a10 (ix3 i k n) = wideDs (argsOf a0 a1 a2 a3 a4 a5 a6 a7 a8 a9 a10).a (argsOf a0 a1 a2 a3 a4 a5 a6 a7 a8 a9 a10).dg (wideD (fun b n w => a2 (ix3 b n w)) (fun n p => a3 (ix2 n p))) ⟨i.val * 4 + k.val, by omega⟩ n := by
  have e : REF200 a0 a1 a2 a3 a4 a5 a6 a7 a8 a9 a10 (ix3 i k n)
      = ∑ w : Fin 4, ∑ f : Fin 32, (∑ t : Fin 1536, a0 (ix2 t ⟨((i.val * 4 + k.val) * 4 + w.val) * 32 + f.val, by omega⟩) * REF168 a0 a1 a2 a3 a4 a5 a6 a7 a8 a9 a10 (ix2 t n)) * r41 a2 a3 (ix3 f n ⟨(i.val * 4 + k.val) * 4 + w.val, by omega⟩) := by
    pointwise [REF200]
    first | rfl | done
  rw [e]; unfold wideDs
  rw [Fin.sum_univ_tiles 4 32 rfl]
  refine Finset.sum_congr rfl fun w _ => Finset.sum_congr rfl fun f _ => ?_
  have e0 : ((i.val * 4 + k.val) * 4 + w.val) * 32 + f.val = (i.val * 4 + k.val) * 128 + (w.val * 32 + f.val) := by omega
  refine congrArg₂ (fun x y : EReal => x * y) (Finset.sum_congr rfl fun t _ => ?_) ?_
  · exact congrArg₂ (fun x y : EReal => x * y) (congrArg (fun x => a0 (ix2 t x)) (Fin.ext e0)) (REF168_apply a0 a1 a2 a3 a4 a5 a6 a7 a8 a9 a10 t n)
  · refine Eq.trans ?_ (r41_row a2 a3 n ⟨(i.val * 4 + k.val) * 128 + (w.val * 32 + f.val), by omega⟩)
    have e1 : (⟨((i.val * 4 + k.val) * 128 + (w.val * 32 + f.val)) % 32, by omega⟩ : Fin 32) = f := Fin.ext (by show ((i.val * 4 + k.val) * 128 + (w.val * 32 + f.val)) % 32 = f.val; omega)
    have e2 : (⟨((i.val * 4 + k.val) * 128 + (w.val * 32 + f.val)) / 32, by omega⟩ : Fin 112) = ⟨(i.val * 4 + k.val) * 4 + w.val, by omega⟩ := Fin.ext (by show ((i.val * 4 + k.val) * 128 + (w.val * 32 + f.val)) / 32 = (i.val * 4 + k.val) * 4 + w.val; omega)
    exact (congrArg₂ (fun x y => r41 a2 a3 (ix3 x n y)) e1 e2).symm

/-- The scale gradients: four words of 32 fields are one group of 128 rows. -/
theorem REF202_apply (i : Fin 7) (k : Fin 4) (n : Fin 18944) :
    REF202 a0 a1 a2 a3 a4 a5 a6 a8 a9 a10 (ix3 i k n) = wideDs (argsOf a0 a1 a2 a3 a4 a5 a6 a7 a8 a9 a10).a (argsOf a0 a1 a2 a3 a4 a5 a6 a7 a8 a9 a10).du (wideD (fun b n w => a5 (ix3 b n w)) (fun n p => a6 (ix2 n p))) ⟨i.val * 4 + k.val, by omega⟩ n := by
  have e : REF202 a0 a1 a2 a3 a4 a5 a6 a8 a9 a10 (ix3 i k n)
      = ∑ w : Fin 4, ∑ f : Fin 32, (∑ t : Fin 1536, a0 (ix2 t ⟨((i.val * 4 + k.val) * 4 + w.val) * 32 + f.val, by omega⟩) * REF171 a0 a1 a2 a3 a4 a8 a9 a10 (ix2 t n)) * r83 a5 a6 (ix3 f n ⟨(i.val * 4 + k.val) * 4 + w.val, by omega⟩) := by
    pointwise [REF202]
    first | rfl | done
  rw [e]; unfold wideDs
  rw [Fin.sum_univ_tiles 4 32 rfl]
  refine Finset.sum_congr rfl fun w _ => Finset.sum_congr rfl fun f _ => ?_
  have e0 : ((i.val * 4 + k.val) * 4 + w.val) * 32 + f.val = (i.val * 4 + k.val) * 128 + (w.val * 32 + f.val) := by omega
  refine congrArg₂ (fun x y : EReal => x * y) (Finset.sum_congr rfl fun t _ => ?_) ?_
  · exact congrArg₂ (fun x y : EReal => x * y) (congrArg (fun x => a0 (ix2 t x)) (Fin.ext e0)) (REF171_apply a0 a1 a2 a3 a4 a5 a6 a7 a8 a9 a10 t n)
  · refine Eq.trans ?_ (r83_row a5 a6 n ⟨(i.val * 4 + k.val) * 128 + (w.val * 32 + f.val), by omega⟩)
    have e1 : (⟨((i.val * 4 + k.val) * 128 + (w.val * 32 + f.val)) % 32, by omega⟩ : Fin 32) = f := Fin.ext (by show ((i.val * 4 + k.val) * 128 + (w.val * 32 + f.val)) % 32 = f.val; omega)
    have e2 : (⟨((i.val * 4 + k.val) * 128 + (w.val * 32 + f.val)) / 32, by omega⟩ : Fin 112) = ⟨(i.val * 4 + k.val) * 4 + w.val, by omega⟩ := Fin.ext (by show ((i.val * 4 + k.val) * 128 + (w.val * 32 + f.val)) / 32 = (i.val * 4 + k.val) * 4 + w.val; omega)
    exact (congrArg₂ (fun x y => r83 a5 a6 (ix3 x n y)) e1 e2).symm

/-- The scale gradients: four words of 32 fields are one group of 128 rows. -/
theorem REF204_apply (i : Fin 74) (k : Fin 2) (n : Fin 3584) :
    REF204 a0 a1 a2 a3 a4 a5 a6 a7 a8 a9 (ix3 i k n) = downDs (argsOf a0 a1 a2 a3 a4 a5 a6 a7 a8 a9 a10).h (argsOf a0 a1 a2 a3 a4 a5 a6 a7 a8 a9 a10).dy (downD (fun b n w => a8 (ix3 b n w)) (fun n p => a9 (ix2 n p))) ⟨i.val * 2 + k.val, by omega⟩ n := by
  have e : REF204 a0 a1 a2 a3 a4 a5 a6 a7 a8 a9 (ix3 i k n)
      = ∑ w : Fin 4, ∑ f : Fin 32, (∑ t : Fin 1536, REF156 a0 a2 a3 a4 a5 a6 a7 (ix2 t ⟨((i.val * 2 + k.val) * 4 + w.val) * 32 + f.val, by omega⟩) * a1 (ix2 t n)) * r125 a8 a9 (ix3 f n ⟨(i.val * 2 + k.val) * 4 + w.val, by omega⟩) := by
    pointwise [REF204]
    first | rfl | done
  rw [e]; unfold downDs
  rw [Fin.sum_univ_tiles 4 32 rfl]
  refine Finset.sum_congr rfl fun w _ => Finset.sum_congr rfl fun f _ => ?_
  have e0 : ((i.val * 2 + k.val) * 4 + w.val) * 32 + f.val = (i.val * 2 + k.val) * 128 + (w.val * 32 + f.val) := by omega
  refine congrArg₂ (fun x y : EReal => x * y) (Finset.sum_congr rfl fun t _ => ?_) ?_
  · exact congrArg₂ (fun x y : EReal => x * y) ((REF156_apply a0 a1 a2 a3 a4 a5 a6 a7 a8 a9 a10 t _).trans (congrArg (fun x => (argsOf a0 a1 a2 a3 a4 a5 a6 a7 a8 a9 a10).h t x) (Fin.ext e0))) rfl
  · refine Eq.trans ?_ (r125_row a8 a9 n ⟨(i.val * 2 + k.val) * 128 + (w.val * 32 + f.val), by omega⟩)
    have e1 : (⟨((i.val * 2 + k.val) * 128 + (w.val * 32 + f.val)) % 32, by omega⟩ : Fin 32) = f := Fin.ext (by show ((i.val * 2 + k.val) * 128 + (w.val * 32 + f.val)) % 32 = f.val; omega)
    have e2 : (⟨((i.val * 2 + k.val) * 128 + (w.val * 32 + f.val)) / 32, by omega⟩ : Fin 592) = ⟨(i.val * 2 + k.val) * 4 + w.val, by omega⟩ := Fin.ext (by show ((i.val * 2 + k.val) * 128 + (w.val * 32 + f.val)) / 32 = (i.val * 2 + k.val) * 4 + w.val; omega)
    exact (congrArg₂ (fun x y => r125 a8 a9 (ix3 x n y)) e1 e2).symm

end Cert.MainRefIdeal.Value

end
-- ==== Proof.Main.Reads.lean ====
/- The input blocks of each point of the main call, read off the arguments. -/
module

public import proofs.«01_k».proof.Proof.Main.Point
public import proofs.«01_k».proof.Proof.Main.Ref
public import proofs.«01_k».proof.Proof.MainIdealRun.Frame

@[expose] public section
set_option maxRecDepth 16384
noncomputable section
namespace Cert.MainIdeal.Value
open Cert.MainIdeal Cert.MainIdeal.Gen Cert.MainSpec
open Idealize.ShloMosaic Idealize.ShloMosaic.TcCoe Idealize.SL.Sem

variable (m : (ℓ : Loc nD τ sig) → Buf (Elt Ideal) ℓ) (c : Dev nD)

/-- Every window's block index at every grid point. -/
theorem idx_val : ∀ t : Fin cfg0.N, win0_0.index t = ![0, 0]
    ∧ win0_1.index t = ![0, 0]
    ∧ win0_2.index t = ![0, 0, t.val]
    ∧ win0_3.index t = ![0, t.val]
    ∧ win0_4.index t = ![0, t.val]
    ∧ win0_5.index t = ![0, 0, t.val]
    ∧ win0_6.index t = ![0, t.val]
    ∧ win0_7.index t = ![0, t.val]
    ∧ win0_8.index t = ![0, t.val, 0, 0]
    ∧ win0_9.index t = ![t.val, 0, 0]
    ∧ win0_10.index t = ![t.val, 0, 0]
    ∧ win0_11.index t = ![0, t.val]
    ∧ win0_12.index t = ![0, t.val]
    ∧ win0_13.index t = ![0, t.val]
    ∧ win0_14.index t = ![0, t.val]
    ∧ win0_15.index t = ![0, t.val]
    ∧ win0_16.index t = ![t.val, 0]
    ∧ win0_17.index t = ![0, 0, t.val]
    ∧ win0_18.index t = ![0, 0, t.val]
    ∧ win0_19.index t = ![t.val, 0, 0] :=
  (by decide +kernel : ∀ t : Fin grid0.N, _)

/-- A grid point, as a block's number. -/
abbrev pt (t : Fin cfg0.N) : Fin 74 := ⟨t.val, t.isLt⟩

theorem r0 (t : Fin cfg0.N) (r : Fin 1536) (d : Fin 3584) : iblk m c 0 t (ix2 r d) = m ((c : Thread nD τ).loc main_arg0) (ix2 r d) := by
  blk_point [iblk, V, idx_val t]
theorem r1 (t : Fin cfg0.N) (r : Fin 1536) (d : Fin 3584) : iblk m c 1 t (ix2 r d) = m ((c : Thread nD τ).loc main_arg1) (ix2 r d) := by
  blk_point [iblk, V, idx_val t]
theorem r2 (t : Fin cfg0.N) (b : Fin 3) (w : Fin 112) (l : Fin 256) : iblk m c 2 t (ix3 b w l) = m ((c : Thread nD τ).loc main_arg2) (ix3 b (col (pt t) l) w) := by
  blk_point [iblk, V, idx_val t]
theorem r3 (t : Fin cfg0.N) (p : Fin 28) (l : Fin 256) : iblk m c 3 t (ix2 p l) = (m ((c : Thread nD τ).loc main_arg3) (ix2 (col (pt t) l) p)).setWidth 32 := by
  blk_simp [iblk, V, idx_val t]; entry_read; pointwise
  refine congrArg (fun q => (m ((c : Thread nD τ).loc main_arg3) q).setWidth 32) ?_
  funext a; apply Fin.ext
  match a with
  | ⟨0, _⟩ => blk_simp [idx_val t]; show _ = 256 * t.val + l.val; omega
  | ⟨1, _⟩ => blk_simp [idx_val t]
theorem r4 (t : Fin cfg0.N) (p : Fin 28) (l : Fin 256) : iblk m c 4 t (ix2 p l) = m ((c : Thread nD τ).loc main_arg4) (ix2 (col (pt t) l) p) := by
  blk_point [iblk, V, idx_val t]
theorem r5 (t : Fin cfg0.N) (b : Fin 3) (w : Fin 112) (l : Fin 256) : iblk m c 5 t (ix3 b w l) = m ((c : Thread nD τ).loc main_arg5) (ix3 b (col (pt t) l) w) := by
  blk_point [iblk, V, idx_val t]
theorem r6 (t : Fin cfg0.N) (p : Fin 28) (l : Fin 256) : iblk m c 6 t (ix2 p l) = (m ((c : Thread nD τ).loc main_arg6) (ix2 (col (pt t) l) p)).setWidth 32 := by
  blk_simp [iblk, V, idx_val t]; entry_read; pointwise
  refine congrArg (fun q => (m ((c : Thread nD τ).loc main_arg6) q).setWidth 32) ?_
  funext a; apply Fin.ext
  match a with
  | ⟨0, _⟩ => blk_simp [idx_val t]; show _ = 256 * t.val + l.val; omega
  | ⟨1, _⟩ => blk_simp [idx_val t]
theorem r7 (t : Fin cfg0.N) (p : Fin 28) (l : Fin 256) : iblk m c 7 t (ix2 p l) = m ((c : Thread nD τ).loc main_arg7) (ix2 (col (pt t) l) p) := by
  blk_point [iblk, V, idx_val t]
theorem r8 (t : Fin cfg0.N) (b : Fin 3) (w : Fin 8) (k : Fin 3584) : iblk m c 8 t (ix4 b 0 w k) = m ((c : Thread nD τ).loc main_arg8) (ix3 b k ⟨8 * t.val + w.val, by have : t.val < 74 := t.isLt; omega⟩) := by
  blk_point [iblk, V, idx_val t]
theorem r9 (t : Fin cfg0.N) (p : Fin 2) (k : Fin 3584) : iblk m c 9 t (ix3 0 p k) = (m ((c : Thread nD τ).loc main_arg9) (ix2 k ⟨2 * t.val + p.val, by have : t.val < 74 := t.isLt; omega⟩)).setWidth 32 := by
  blk_simp [iblk, V, idx_val t]; entry_read; pointwise
  refine congrArg (fun q => (m ((c : Thread nD τ).loc main_arg9) q).setWidth 32) ?_
  funext a; apply Fin.ext
  match a with
  | ⟨0, _⟩ => blk_simp [idx_val t]
  | ⟨1, _⟩ => blk_simp [idx_val t]; show (t.val + 0) * 2 + p.val = 2 * t.val + p.val; omega
theorem r10 (t : Fin cfg0.N) (p : Fin 2) (k : Fin 3584) : iblk m c 10 t (ix3 0 p k) = m ((c : Thread nD τ).loc main_arg10) (ix2 k ⟨2 * t.val + p.val, by have : t.val < 74 := t.isLt; omega⟩) := by
  blk_point [iblk, V, idx_val t]

/-- The arguments of the call, as plain functions. -/
abbrev args : Args := Cert.MainRefIdeal.Value.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The input blocks of a point hold the arguments' entries of the point's block. -/
theorem reads (t : Fin cfg0.N) : Reads (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  ⟨r0 m c t, r1 m c t, r2 m c t, r3 m c t, r4 m c t, r5 m c t, r6 m c t, r7 m c t, r8 m c t, r9 m c t, r10 m c t⟩

end Cert.MainIdeal.Value
end
-- ==== Proof.Main.Final.lean ====
/- The result arrays of the main call after the run equal the reference's. -/
module

public import proofs.«01_k».proof.Proof.Main.Outs
public import proofs.«01_k».proof.Proof.Main.Reads

@[expose] public section
set_option maxRecDepth 16384
noncomputable section
namespace Cert.MainIdeal.Value
open Cert.MainIdeal Cert.MainIdeal.Gen Cert.MainSpec
open Idealize.ShloMosaic Idealize.ShloMosaic.TcCoe Idealize.SL.Sem

variable (m : (ℓ : Loc nD τ sig) → Buf (Elt Ideal) ℓ) (c : Dev nD)

theorem eq_row (y : S1x2x3584.Idx) : y = ix3 0 (y 1) (y 2) := by
  funext a
  match a with
  | ⟨0, _⟩ => exact Subsingleton.elim (α := Fin 1) _ _
  | ⟨1, _⟩ => rfl
  | ⟨2, _⟩ => rfl

/-- The gated activation: the array after the run is the reference's result of the arguments. -/
theorem final_11 : (dats m 0 c).arrAt 11 (cfgs 0).N = Cert.MainRefIdeal.Value.REF156 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp; rw [after0_11, outs11]
  refine (congrArg _ (eq_ix2 y)).trans ((hids_at (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) (y 0) (y 1)).trans ((Cert.MainRefIdeal.Value.REF156_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (col (pt t) (y 1))).symm.trans (congrArg (Cert.MainRefIdeal.Value.REF156 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)))
  funext a; apply Fin.ext
  match a with
  | ⟨0, _⟩ => blk_simp [idx_val t] <;> rfl
  | ⟨1, _⟩ => blk_simp [idx_val t]; show 256 * t.val + (y 1).val = t.val * 256 + (y 1).val; omega

/-- The gradient of the gate product: the array after the run is the reference's result of the arguments. -/
theorem final_12 : (dats m 0 c).arrAt 12 (cfgs 0).N = Cert.MainRefIdeal.Value.REF168 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp; rw [after0_12, outs12]
  refine (congrArg _ (eq_ix2 y)).trans ((dgs_at (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) (y 0) (y 1)).trans ((Cert.MainRefIdeal.Value.REF168_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (col (pt t) (y 1))).symm.trans (congrArg (Cert.MainRefIdeal.Value.REF168 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) ?_)))
  funext a; apply Fin.ext
  match a with
  | ⟨0, _⟩ => blk_simp [idx_val t] <;> rfl
  | ⟨1, _⟩ => blk_simp [idx_val t]; show 256 * t.val + (y 1).val = t.val * 256 + (y 1).val; omega

/-- The gradient of the up product: the array after the run is the reference's result of the arguments. -/
theorem final_13 : (dats m 0 c).arrAt 13 (cfgs 0).N = Cert.MainRefIdeal.Value.REF171 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp; rw [after0_13, outs13]
  refine (congrArg _ (eq_ix2 y)).trans ((dus_at (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) (y 0) (y 1)).trans ((Cert.MainRefIdeal.Value.REF171_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (col (pt t) (y 1))).symm.trans (congrArg (Cert.MainRefIdeal.Value.REF171 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10))) ?_)))
  funext a; apply Fin.ext
  match a with
  | ⟨0, _⟩ => blk_simp [idx_val t] <;> rfl
  | ⟨1, _⟩ => blk_simp [idx_val t]; show 256 * t.val + (y 1).val = t.val * 256 + (y 1).val; omega

/-- The gate weights: the array after the run is the reference's result of the arguments. -/
theorem final_14 : (dats m 0 c).arrAt 14 (cfgs 0).N = Cert.MainRefIdeal.Value.REF194 (m ((c : Thread nD τ).loc main_arg2)) (m ((c : Thread nD τ).loc main_arg3)) (m ((c : Thread nD τ).loc main_arg4)) := by
  refine (dats m 0 c).arrAt_eq_of_covers 14 _ (by decide +kernel) fun t hf y => ?_
  blk_simp; rw [after0_14, outs14]
  refine (congrArg _ (eq_ix2 y)).trans ((wtG (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) (y 0) (y 1)).trans ((Cert.MainRefIdeal.Value.REF194_apply (m ((c : Thread nD τ).loc main_arg2)) (m ((c : Thread nD τ).loc main_arg3)) (m ((c : Thread nD τ).loc main_arg4)) (y 0) (col (pt t) (y 1))).symm.trans (congrArg (Cert.MainRefIdeal.Value.REF194 (m ((c : Thread nD τ).loc main_arg2)) (m ((c : Thread nD τ).loc main_arg3)) (m ((c : Thread nD τ).loc main_arg4))) ?_)))
  funext a; apply Fin.ext
  match a with
  | ⟨0, _⟩ => blk_simp [idx_val t] <;> rfl
  | ⟨1, _⟩ => blk_simp [idx_val t]; show 256 * t.val + (y 1).val = t.val * 256 + (y 1).val; omega

/-- The up weights: the array after the run is the reference's result of the arguments. -/
theorem final_15 : (dats m 0 c).arrAt 15 (cfgs 0).N = Cert.MainRefIdeal.Value.REF196 (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp; rw [after0_15, outs15]
  refine (congrArg _ (eq_ix2 y)).trans ((wtU (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) (y 0) (y 1)).trans ((Cert.MainRefIdeal.Value.REF196_apply (m ((c : Thread nD τ).loc main_arg5)) (m ((c : Thread nD τ).loc main_arg6)) (m ((c : Thread nD τ).loc main_arg7)) (y 0) (col (pt t) (y 1))).symm.trans (congrArg (Cert.MainRefIdeal.Value.REF196 (m ((c : Thread nD τ).loc main_arg5)) (m ((c : Thread nD τ).loc main_arg6)) (m ((c : Thread nD τ).loc main_arg7))) ?_)))
  funext a; apply Fin.ext
  match a with
  | ⟨0, _⟩ => blk_simp [idx_val t] <;> rfl
  | ⟨1, _⟩ => blk_simp [idx_val t]; show 256 * t.val + (y 1).val = t.val * 256 + (y 1).val; omega

/-- The down weights: the array after the run is the reference's result of the arguments. -/
theorem final_16 : (dats m 0 c).arrAt 16 (cfgs 0).N = Cert.MainRefIdeal.Value.REF198 (m ((c : Thread nD τ).loc main_arg8)) (m ((c : Thread nD τ).loc main_arg9)) (m ((c : Thread nD τ).loc main_arg10)) := by
  refine (dats m 0 c).arrAt_eq_of_covers 16 _ (by decide +kernel) fun t hf y => ?_
  blk_simp; rw [after0_16, outs16]
  refine (congrArg _ (eq_ix2 y)).trans ((wtD (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) (y 0) (y 1)).trans ((Cert.MainRefIdeal.Value.REF198_apply (m ((c : Thread nD τ).loc main_arg8)) (m ((c : Thread nD τ).loc main_arg9)) (m ((c : Thread nD τ).loc main_arg10)) (col (pt t) (y 0)) (y 1)).symm.trans (congrArg (Cert.MainRefIdeal.Value.REF198 (m ((c : Thread nD τ).loc main_arg8)) (m ((c : Thread nD τ).loc main_arg9)) (m ((c : Thread nD τ).loc main_arg10))) ?_)))
  funext a; apply Fin.ext
  match a with
  | ⟨0, _⟩ => blk_simp [idx_val t]; show 256 * t.val + (y 0).val = t.val * 256 + (y 0).val; omega
  | ⟨1, _⟩ => blk_simp [idx_val t] <;> rfl

/-- The gate scale gradients: the array after the run is the reference's result of the arguments. -/
theorem final_17 (hz : ∀ n p, ((args m c).zg n p).toNat ≤ 128) : (dats m 0 c).arrAt 17 (cfgs 0).N = Cert.MainRefIdeal.Value.REF200 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 17 _ (by decide +kernel) fun t hf y => ?_
  blk_simp; rw [after0_17, outs17]
  refine (congrArg _ (eq_ix3 y)).trans ((wdsG_at (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) hz (y 0) (y 1) (y 2)).trans ((Cert.MainRefIdeal.Value.REF200_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (y 1) (col (pt t) (y 2))).symm.trans (congrArg (Cert.MainRefIdeal.Value.REF200 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) ?_)))
  funext a; apply Fin.ext
  match a with
  | ⟨0, _⟩ => blk_simp [idx_val t] <;> rfl
  | ⟨1, _⟩ => blk_simp [idx_val t] <;> rfl
  | ⟨2, _⟩ => blk_simp [idx_val t]; show 256 * t.val + (y 2).val = t.val * 256 + (y 2).val; omega

/-- The up scale gradients: the array after the run is the reference's result of the arguments. -/
theorem final_18 (hz : ∀ n p, ((args m c).zu n p).toNat ≤ 128) : (dats m 0 c).arrAt 18 (cfgs 0).N = Cert.MainRefIdeal.Value.REF202 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) := by
  refine (dats m 0 c).arrAt_eq_of_covers 18 _ (by decide +kernel) fun t hf y => ?_
  blk_simp; rw [after0_18, outs18]
  refine (congrArg _ (eq_ix3 y)).trans ((wdsU_at (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) hz (y 0) (y 1) (y 2)).trans ((Cert.MainRefIdeal.Value.REF202_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (y 1) (col (pt t) (y 2))).symm.trans (congrArg (Cert.MainRefIdeal.Value.REF202 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10))) ?_)))
  funext a; apply Fin.ext
  match a with
  | ⟨0, _⟩ => blk_simp [idx_val t] <;> rfl
  | ⟨1, _⟩ => blk_simp [idx_val t] <;> rfl
  | ⟨2, _⟩ => blk_simp [idx_val t]; show 256 * t.val + (y 2).val = t.val * 256 + (y 2).val; omega

/-- The down scale gradients: the array after the run is the reference's result of the arguments. -/
theorem final_19 (hz : ∀ n p, ((args m c).zd n p).toNat ≤ 128) : (dats m 0 c).arrAt 19 (cfgs 0).N = Cert.MainRefIdeal.Value.REF204 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 19 _ (by decide +kernel) fun t hf y => ?_
  blk_simp; rw [after0_19, outs19]
  refine (congrArg _ (eq_row y)).trans ((tds_at (args m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads m c t) hz (y 1) (y 2)).trans ((Cert.MainRefIdeal.Value.REF204_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (pt t) (y 1) (y 2)).symm.trans (congrArg (Cert.MainRefIdeal.Value.REF204 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)))
  funext a; apply Fin.ext
  match a with
  | ⟨0, _⟩ => blk_simp [idx_val t]
  | ⟨1, _⟩ => blk_simp [idx_val t] <;> rfl
  | ⟨2, _⟩ => blk_simp [idx_val t] <;> rfl

end Cert.MainIdeal.Value
end
-- ==== Proof.Main.Pair.lean ====
/- The main call and its reference end with equal results over the ideal values. -/
module

public import proofs.«01_k».proof.Defs
public import proofs.«01_k».proof.Proof.Main.Final
public import proofs.«01_k».proof.Proof.Gen.MainRefIdeal.Run
public import proofs.«01_k».proof.Proof.MainIdealRun.Frame
public import Idealize.ShloMosaic.Lib.Claim
public import Idealize.ShloMosaic.Adequacy
public import Idealize.ShloMosaic.Init

@[expose] public section
set_option maxRecDepth 65536
set_option maxHeartbeats 1600000
noncomputable section

namespace Cert.MainRefIdeal.Value
open Cert.MainRefIdeal Cert.MainRefIdeal.Gen
open Idealize.ShloMosaic Idealize.ShloMosaic.TcCoe Idealize.ShloMosaic.StableHlo Idealize.SL.Sem

theorem REF156_eq {a0 a0' : FVec Ideal S1536x3584 .bf16} {a2 a2' : IVec S3x18944x112 32} {a3 a3' : IVec S18944x28 8} {a4 a4' : FVec Ideal S18944x28 .f32} {a5 a5' : IVec S3x18944x112 32} {a6 a6' : IVec S18944x28 8} {a7 a7' : FVec Ideal S18944x28 .f32} (h0 : a0 = a0') (h2 : a2 = a2') (h3 : a3 = a3') (h4 : a4 = a4') (h5 : a5 = a5') (h6 : a6 = a6') (h7 : a7 = a7') :
    REF156 a0 a2 a3 a4 a5 a6 a7 = REF156 a0' a2' a3' a4' a5' a6' a7' := by
  subst h0; subst h2; subst h3; subst h4; subst h5; subst h6; subst h7; rfl

theorem REF168_eq {a0 a0' : FVec Ideal S1536x3584 .bf16} {a1 a1' : FVec Ideal S1536x3584 .bf16} {a2 a2' : IVec S3x18944x112 32} {a3 a3' : IVec S18944x28 8} {a4 a4' : FVec Ideal S18944x28 .f32} {a5 a5' : IVec S3x18944x112 32} {a6 a6' : IVec S18944x28 8} {a7 a7' : FVec Ideal S18944x28 .f32} {a8 a8' : IVec S3x3584x592 32} {a9 a9' : IVec S3584x148 8} {a10 a10' : FVec Ideal S3584x148 .f32} (h0 : a0 = a0') (h1 : a1 = a1') (h2 : a2 = a2') (h3 : a3 = a3') (h4 : a4 = a4') (h5 : a5 = a5') (h6 : a6 = a6') (h7 : a7 = a7') (h8 : a8 = a8') (h9 : a9 = a9') (h10 : a10 = a10') :
    REF168 a0 a1 a2 a3 a4 a5 a6 a7 a8 a9 a10 = REF168 a0' a1' a2' a3' a4' a5' a6' a7' a8' a9' a10' := by
  subst h0; subst h1; subst h2; subst h3; subst h4; subst h5; subst h6; subst h7; subst h8; subst h9; subst h10; rfl

theorem REF171_eq {a0 a0' : FVec Ideal S1536x3584 .bf16} {a1 a1' : FVec Ideal S1536x3584 .bf16} {a2 a2' : IVec S3x18944x112 32} {a3 a3' : IVec S18944x28 8} {a4 a4' : FVec Ideal S18944x28 .f32} {a8 a8' : IVec S3x3584x592 32} {a9 a9' : IVec S3584x148 8} {a10 a10' : FVec Ideal S3584x148 .f32} (h0 : a0 = a0') (h1 : a1 = a1') (h2 : a2 = a2') (h3 : a3 = a3') (h4 : a4 = a4') (h8 : a8 = a8') (h9 : a9 = a9') (h10 : a10 = a10') :
    REF171 a0 a1 a2 a3 a4 a8 a9 a10 = REF171 a0' a1' a2' a3' a4' a8' a9' a10' := by
  subst h0; subst h1; subst h2; subst h3; subst h4; subst h8; subst h9; subst h10; rfl

theorem REF194_eq {a2 a2' : IVec S3x18944x112 32} {a3 a3' : IVec S18944x28 8} {a4 a4' : FVec Ideal S18944x28 .f32} (h2 : a2 = a2') (h3 : a3 = a3') (h4 : a4 = a4') :
    REF194 a2 a3 a4 = REF194 a2' a3' a4' := by
  subst h2; subst h3; subst h4; rfl

theorem REF196_eq {a5 a5' : IVec S3x18944x112 32} {a6 a6' : IVec S18944x28 8} {a7 a7' : FVec Ideal S18944x28 .f32} (h5 : a5 = a5') (h6 : a6 = a6') (h7 : a7 = a7') :
    REF196 a5 a6 a7 = REF196 a5' a6' a7' := by
  subst h5; subst h6; subst h7; rfl

theorem REF198_eq {a8 a8' : IVec S3x3584x592 32} {a9 a9' : IVec S3584x148 8} {a10 a10' : FVec Ideal S3584x148 .f32} (h8 : a8 = a8') (h9 : a9 = a9') (h10 : a10 = a10') :
    REF198 a8 a9 a10 = REF198 a8' a9' a10' := by
  subst h8; subst h9; subst h10; rfl

theorem REF200_eq {a0 a0' : FVec Ideal S1536x3584 .bf16} {a1 a1' : FVec Ideal S1536x3584 .bf16} {a2 a2' : IVec S3x18944x112 32} {a3 a3' : IVec S18944x28 8} {a4 a4' : FVec Ideal S18944x28 .f32} {a5 a5' : IVec S3x18944x112 32} {a6 a6' : IVec S18944x28 8} {a7 a7' : FVec Ideal S18944x28 .f32} {a8 a8' : IVec S3x3584x592 32} {a9 a9' : IVec S3584x148 8} {a10 a10' : FVec Ideal S3584x148 .f32} (h0 : a0 = a0') (h1 : a1 = a1') (h2 : a2 = a2') (h3 : a3 = a3') (h4 : a4 = a4') (h5 : a5 = a5') (h6 : a6 = a6') (h7 : a7 = a7') (h8 : a8 = a8') (h9 : a9 = a9') (h10 : a10 = a10') :
    REF200 a0 a1 a2 a3 a4 a5 a6 a7 a8 a9 a10 = REF200 a0' a1' a2' a3' a4' a5' a6' a7' a8' a9' a10' := by
  subst h0; subst h1; subst h2; subst h3; subst h4; subst h5; subst h6; subst h7; subst h8; subst h9; subst h10; rfl

theorem REF202_eq {a0 a0' : FVec Ideal S1536x3584 .bf16} {a1 a1' : FVec Ideal S1536x3584 .bf16} {a2 a2' : IVec S3x18944x112 32} {a3 a3' : IVec S18944x28 8} {a4 a4' : FVec Ideal S18944x28 .f32} {a5 a5' : IVec S3x18944x112 32} {a6 a6' : IVec S18944x28 8} {a8 a8' : IVec S3x3584x592 32} {a9 a9' : IVec S3584x148 8} {a10 a10' : FVec Ideal S3584x148 .f32} (h0 : a0 = a0') (h1 : a1 = a1') (h2 : a2 = a2') (h3 : a3 = a3') (h4 : a4 = a4') (h5 : a5 = a5') (h6 : a6 = a6') (h8 : a8 = a8') (h9 : a9 = a9') (h10 : a10 = a10') :
    REF202 a0 a1 a2 a3 a4 a5 a6 a8 a9 a10 = REF202 a0' a1' a2' a3' a4' a5' a6' a8' a9' a10' := by
  subst h0; subst h1; subst h2; subst h3; subst h4; subst h5; subst h6; subst h8; subst h9; subst h10; rfl

theorem REF204_eq {a0 a0' : FVec Ideal S1536x3584 .bf16} {a1 a1' : FVec Ideal S1536x3584 .bf16} {a2 a2' : IVec S3x18944x112 32} {a3 a3' : IVec S18944x28 8} {a4 a4' : FVec Ideal S18944x28 .f32} {a5 a5' : IVec S3x18944x112 32} {a6 a6' : IVec S18944x28 8} {a7 a7' : FVec Ideal S18944x28 .f32} {a8 a8' : IVec S3x3584x592 32} {a9 a9' : IVec S3584x148 8} (h0 : a0 = a0') (h1 : a1 = a1') (h2 : a2 = a2') (h3 : a3 = a3') (h4 : a4 = a4') (h5 : a5 = a5') (h6 : a6 = a6') (h7 : a7 = a7') (h8 : a8 = a8') (h9 : a9 = a9') :
    REF204 a0 a1 a2 a3 a4 a5 a6 a7 a8 a9 = REF204 a0' a1' a2' a3' a4' a5' a6' a7' a8' a9' := by
  subst h0; subst h1; subst h2; subst h3; subst h4; subst h5; subst h6; subst h7; subst h8; subst h9; rfl

theorem res41 (V : Valuation τ sig (Elt Ideal)) : res_main_v41 V = r41 (V (Proc.devRef .tc main_arg2)) (V (Proc.devRef .tc main_arg3)) := rfl

theorem res83 (V : Valuation τ sig (Elt Ideal)) : res_main_v83 V = r83 (V (Proc.devRef .tc main_arg5)) (V (Proc.devRef .tc main_arg6)) := rfl

theorem res125 (V : Valuation τ sig (Elt Ideal)) : res_main_v125 V = r125 (V (Proc.devRef .tc main_arg8)) (V (Proc.devRef .tc main_arg9)) := rfl

theorem res131 (V : Valuation τ sig (Elt Ideal)) : res_main_v131 V = r131 (V (Proc.devRef .tc main_arg2)) (V (Proc.devRef .tc main_arg3)) (V (Proc.devRef .tc main_arg4)) := rfl

theorem res137 (V : Valuation τ sig (Elt Ideal)) : res_main_v137 V = r137 (V (Proc.devRef .tc main_arg5)) (V (Proc.devRef .tc main_arg6)) (V (Proc.devRef .tc main_arg7)) := rfl

theorem res143 (V : Valuation τ sig (Elt Ideal)) : res_main_v143 V = r143 (V (Proc.devRef .tc main_arg8)) (V (Proc.devRef .tc main_arg9)) (V (Proc.devRef .tc main_arg10)) := rfl

theorem res145 (V : Valuation τ sig (Elt Ideal)) : res_main_v145 V = r145 (V (Proc.devRef .tc main_arg0)) (V (Proc.devRef .tc main_arg2)) (V (Proc.devRef .tc main_arg3)) (V (Proc.devRef .tc main_arg4)) := rfl

theorem res147 (V : Valuation τ sig (Elt Ideal)) : res_main_v147 V = r147 (V (Proc.devRef .tc main_arg0)) (V (Proc.devRef .tc main_arg5)) (V (Proc.devRef .tc main_arg6)) (V (Proc.devRef .tc main_arg7)) := rfl

theorem res153 (V : Valuation τ sig (Elt Ideal)) : res_main_v153 V = r153 (V (Proc.devRef .tc main_arg0)) (V (Proc.devRef .tc main_arg2)) (V (Proc.devRef .tc main_arg3)) (V (Proc.devRef .tc main_arg4)) := rfl

theorem res159 (V : Valuation τ sig (Elt Ideal)) : res_main_v159 V = r159 (V (Proc.devRef .tc main_arg1)) (V (Proc.devRef .tc main_arg8)) (V (Proc.devRef .tc main_arg9)) (V (Proc.devRef .tc main_arg10)) := rfl

/-- Every run of the reference ends with its results at their terms of the arguments, and the arguments unchanged. -/
theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v156) = REF156 (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7))
      ∧ r.2.mem ((c.tc : Thread nD τ).loc main_v168) = REF168 (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7)) (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9)) (m ((c.tc : Thread Cert.MainRefIdeal.nD Cert.MainRefIdeal.τ).loc Cert.MainRefIdeal.main_arg10))
      ∧ r.2.mem ((c.tc : Thread nD τ).loc main_v171) = REF171 (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9)) (m ((c.tc : Thread Cert.MainRefIdeal.nD Cert.MainRefIdeal.τ).loc Cert.MainRefIdeal.main_arg10))
      ∧ r.2.mem ((c.tc : Thread nD τ).loc main_v194) = REF194 (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4))
      ∧ r.2.mem ((c.tc : Thread nD τ).loc main_v196) = REF196 (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7))
      ∧ r.2.mem ((c.tc : Thread nD τ).loc main_v198) = REF198 (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9)) (m ((c.tc : Thread Cert.MainRefIdeal.nD Cert.MainRefIdeal.τ).loc Cert.MainRefIdeal.main_arg10))
      ∧ r.2.mem ((c.tc : Thread nD τ).loc main_v200) = REF200 (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7)) (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9)) (m ((c.tc : Thread Cert.MainRefIdeal.nD Cert.MainRefIdeal.τ).loc Cert.MainRefIdeal.main_arg10))
      ∧ r.2.mem ((c.tc : Thread nD τ).loc main_v202) = REF202 (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9)) (m ((c.tc : Thread Cert.MainRefIdeal.nD Cert.MainRefIdeal.τ).loc Cert.MainRefIdeal.main_arg10))
      ∧ r.2.mem ((c.tc : Thread nD τ).loc main_v204) = REF204 (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6)) (m ((c.tc : Thread Cert.MainRefIdeal.nD Cert.MainRefIdeal.τ).loc Cert.MainRefIdeal.main_arg7)) (m ((c.tc : Thread Cert.MainRefIdeal.nD Cert.MainRefIdeal.τ).loc Cert.MainRefIdeal.main_arg8)) (m ((c.tc : Thread Cert.MainRefIdeal.nD Cert.MainRefIdeal.τ).loc Cert.MainRefIdeal.main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run _ _ _).mono (fun r h c => ?_) (run m g)
  obtain ⟨k156, k168, k171, k194, k196, k198, k200, k202, k204, ks⟩ := h c
  refine ⟨?_, ?_, ?_, ?_, ?_, ?_, ?_, ?_, ?_, ks⟩
  · refine k156.trans ?_; simp only [res41, res83, res125, res131, res137, res143, res145, res147, res153, res159]; rfl
  · refine k168.trans ?_; simp only [res41, res83, res125, res131, res137, res143, res145, res147, res153, res159]; rfl
  · refine k171.trans ?_; simp only [res41, res83, res125, res131, res137, res143, res145, res147, res153, res159]; rfl
  · refine k194.trans ?_; simp only [res41, res83, res125, res131, res137, res143, res145, res147, res153, res159]; rfl
  · refine k196.trans ?_; simp only [res41, res83, res125, res131, res137, res143, res145, res147, res153, res159]; rfl
  · refine k198.trans ?_; simp only [res41, res83, res125, res131, res137, res143, res145, res147, res153, res159]; rfl
  · refine k200.trans ?_; simp only [res41, res83, res125, res131, res137, res143, res145, res147, res153, res159]; rfl
  · refine k202.trans ?_; simp only [res41, res83, res125, res131, res137, res143, res145, res147, res153, res159]; rfl
  · refine k204.trans ?_; simp only [res41, res83, res125, res131, res137, res143, res145, res147, res153, res159]; rfl

end Cert.MainRefIdeal.Value

namespace Cert.MainIdeal.Value
open Cert.MainIdeal Cert.MainIdeal.Gen
open Idealize.ShloMosaic Idealize.ShloMosaic.TcCoe Idealize.SL.Sem

/-- Every run of the kernel ends with its results at what the grid's points wrote, and the arguments unchanged. -/
theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15_0) = (dats m 0 c).arrAt 11 (cfgs 0).N
      ∧ r.2.mem ((c.tc : Thread nD τ).loc main_v15_1) = (dats m 0 c).arrAt 12 (cfgs 0).N
      ∧ r.2.mem ((c.tc : Thread nD τ).loc main_v15_2) = (dats m 0 c).arrAt 13 (cfgs 0).N
      ∧ r.2.mem ((c.tc : Thread nD τ).loc main_v15_3) = (dats m 0 c).arrAt 14 (cfgs 0).N
      ∧ r.2.mem ((c.tc : Thread nD τ).loc main_v15_4) = (dats m 0 c).arrAt 15 (cfgs 0).N
      ∧ r.2.mem ((c.tc : Thread nD τ).loc main_v15_5) = (dats m 0 c).arrAt 16 (cfgs 0).N
      ∧ r.2.mem ((c.tc : Thread nD τ).loc main_v15_6) = (dats m 0 c).arrAt 17 (cfgs 0).N
      ∧ r.2.mem ((c.tc : Thread nD τ).loc main_v15_7) = (dats m 0 c).arrAt 18 (cfgs 0).N
      ∧ r.2.mem ((c.tc : Thread nD τ).loc main_v15_8) = (dats m 0 c).arrAt 19 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run _ _ _).mono (fun r h c => ?_) (θ_run_and (run_main m g) (unchanged m g))
  exact ⟨(h.1 c).1 11, (h.1 c).1 12, (h.1 c).1 13, (h.1 c).1 14, (h.1 c).1 15, (h.1 c).1 16, (h.1 c).1 17, (h.1 c).1 18, (h.1 c).1 19, h.2 c⟩

end Cert.MainIdeal.Value

namespace Cert.Proof
open Idealize.ShloMosaic Idealize.SL.Sem

/-- The side conditions of the precondition's text. -/
theorem facts_zero_points_fit : Cert.Pre_zero_points_fit.Facts :=
  ⟨by decide, by decide⟩

/-- Where a comparison with 128 is all ones, no entry is above 128. -/
theorem le_of_ones {s : Shape} {x : IVec s 8} (hb : Cert.Pre_zero_points_fit.S_.BroadcastsInDim s (![] : Fin 0 → Fin s.rank))
    (h : cmpi .ule x (broadcastInDim s ![] hb (constantI Cert.Pre_zero_points_fit.S_ 8 128#8)) = fun _ => 1#1) (i : s.Idx) : (x i).toNat ≤ 128 := by
  have e : IntOp.cmpi .ule (x i) 128#8 = 1#1 := congrFun h i
  unfold IntOp.cmpi at e
  by_contra hn
  have hd : BitVec.ule (x i) 128#8 = false := by
    simp only [BitVec.ule, decide_eq_false_iff_not]; exact hn
  simp only [hd] at e
  exact absurd e (by decide)

/-- The precondition bounds the zero points. -/
theorem zero_points_le (m : (ℓ : Loc Cert.MainIdeal.nD Cert.MainIdeal.τ Cert.MainIdeal.sig) → Buf (Elt Ideal) ℓ)
    (h : @Cert.Pre_MainIdeal_zero_points_fit facts_zero_points_fit m) (c : Dev Cert.MainIdeal.nD) :
    (∀ n p, ((Cert.MainIdeal.Value.args m c).zg n p).toNat ≤ 128)
      ∧ (∀ n p, ((Cert.MainIdeal.Value.args m c).zu n p).toNat ≤ 128) ∧ (∀ n p, ((Cert.MainIdeal.Value.args m c).zd n p).toNat ≤ 128) :=
  ⟨fun n p => le_of_ones _ (h c).1 (ix2 n p), fun n p => le_of_ones _ (h c).2.1 (ix2 n p), fun n p => le_of_ones _ (h c).2.2 (ix2 n p)⟩

/-- Over the ideal values the main call and its reference end with equal results, where every zero point is at most 128. -/
theorem algebraic_Main : Cert.algebraic_MainIdeal_MainRefIdeal_pre_zero_points_fit (hMainIdeal := Cert.MainIdeal.Gen.facts) (hMainRefIdeal := Cert.MainRefIdeal.Gen.facts) (hPre_zero_points_fit := facts_zero_points_fit) := by
  intro m g m' g' hpre hagree
  refine ⟨fun c => (Cert.MainIdeal.Gen.dats m 0 c).arrAt 11 (Cert.MainIdeal.cfgs 0).N, fun c => (Cert.MainIdeal.Gen.dats m 0 c).arrAt 12 (Cert.MainIdeal.cfgs 0).N, fun c => (Cert.MainIdeal.Gen.dats m 0 c).arrAt 13 (Cert.MainIdeal.cfgs 0).N, fun c => (Cert.MainIdeal.Gen.dats m 0 c).arrAt 14 (Cert.MainIdeal.cfgs 0).N, fun c => (Cert.MainIdeal.Gen.dats m 0 c).arrAt 15 (Cert.MainIdeal.cfgs 0).N, fun c => (Cert.MainIdeal.Gen.dats m 0 c).arrAt 16 (Cert.MainIdeal.cfgs 0).N, fun c => (Cert.MainIdeal.Gen.dats m 0 c).arrAt 17 (Cert.MainIdeal.cfgs 0).N, fun c => (Cert.MainIdeal.Gen.dats m 0 c).arrAt 18 (Cert.MainIdeal.cfgs 0).N, fun c => (Cert.MainIdeal.Gen.dats m 0 c).arrAt 19 (Cert.MainIdeal.cfgs 0).N, Cert.MainIdeal.Value.run_values m g, ?_⟩
  refine (θ_run _ _ _).mono (fun r h c => ?_) (Cert.MainRefIdeal.Value.run_values m' g')
  obtain ⟨k156, k168, k171, k194, k196, k198, k200, k202, k204, ks⟩ := h c
  obtain ⟨h0, h1, h2, h3, h4, h5, h6, h7, h8, h9, h10⟩ := hagree c
  obtain ⟨zg, zu, zd⟩ := zero_points_le m hpre c
  refine ⟨?_, ?_, ?_, ?_, ?_, ?_, ?_, ?_, ?_, ks⟩
  · exact k156.trans ((Cert.MainRefIdeal.Value.REF156_eq h0 h2 h3 h4 h5 h6 h7).trans (Cert.MainIdeal.Value.final_11 m c).symm)
  · exact k168.trans ((Cert.MainRefIdeal.Value.REF168_eq h0 h1 h2 h3 h4 h5 h6 h7 h8 h9 h10).trans (Cert.MainIdeal.Value.final_12 m c).symm)
  · exact k171.trans ((Cert.MainRefIdeal.Value.REF171_eq h0 h1 h2 h3 h4 h8 h9 h10).trans (Cert.MainIdeal.Value.final_13 m c).symm)
  · exact k194.trans ((Cert.MainRefIdeal.Value.REF194_eq h2 h3 h4).trans (Cert.MainIdeal.Value.final_14 m c).symm)
  · exact k196.trans ((Cert.MainRefIdeal.Value.REF196_eq h5 h6 h7).trans (Cert.MainIdeal.Value.final_15 m c).symm)
  · exact k198.trans ((Cert.MainRefIdeal.Value.REF198_eq h8 h9 h10).trans (Cert.MainIdeal.Value.final_16 m c).symm)
  · exact k200.trans ((Cert.MainRefIdeal.Value.REF200_eq h0 h1 h2 h3 h4 h5 h6 h7 h8 h9 h10).trans (Cert.MainIdeal.Value.final_17 m c zg).symm)
  · exact k202.trans ((Cert.MainRefIdeal.Value.REF202_eq h0 h1 h2 h3 h4 h5 h6 h8 h9 h10).trans (Cert.MainIdeal.Value.final_18 m c zu).symm)
  · exact k204.trans ((Cert.MainRefIdeal.Value.REF204_eq h0 h1 h2 h3 h4 h5 h6 h7 h8 h9).trans (Cert.MainIdeal.Value.final_19 m c zd).symm)

end Cert.Proof

end
-- ==== Proof.Calls.NormRef.lean ====
/- What the reference program of RMS normalisation computes, as one term of its arguments for each result. -/
module

public import proofs.«01_k».proof.Proof.Gen.NormRefIdeal
public import Idealize.ShloMosaic.Lib.StableHlo.Run
public import Idealize.ShloMosaic.PureOps.Ideal

@[expose] public section

set_option maxRecDepth 16384

noncomputable section

namespace Cert.NormRefIdeal.Value

open Cert.NormRefIdeal Cert.NormRefIdeal.Gen
open Idealize.ShloMosaic Idealize.ShloMosaic.TcCoe Idealize.SL.Sem

/-- Result `main_v15` of the reference as a function of the argument arrays. -/
abbrev REF (a0 : FVec Ideal S1536x3584 .bf16) (a1 : FVec Ideal S1x3584 .f32) : FVec Ideal S1536x3584 .bf16 :=
  truncf .bf16 (mulf (mulf (extf .f32 a0 bitsLt_bf16_f32) (broadcastInDim S1536x3584 ![0, 1] bcast_S1536x1_S1536x3584_0_1 (Host.divf (broadcastInDim S1536x1 ![] bcast_S_S1536x1 (constant S_ .f32 0x3F800000#32)) (Host.sqrt (addf (Host.divf (broadcastInDim S1536x1 ![0] bcast_S1536_S1536x1_0 (Host.reduceAdd (mulf (extf .f32 a0 bitsLt_bf16_f32) (extf .f32 a0 bitsLt_bf16_f32)) (constant S_ .f32 0x00000000#32) reducesTo_S1536x3584_S1536_d1 h_S_)) (broadcastInDim S1536x1 ![] bcast_S_S1536x1 (constant S_ .f32 0x45600000#32))) (broadcastInDim S1536x1 ![] bcast_S_S1536x1 (constant S_ .f32 0x3727C5AC#32))))))) (broadcastInDim S1536x3584 ![0, 1] bcast_S1x3584_S1536x3584_0_1 a1)) bitsLt_bf16_f32

end Cert.NormRefIdeal.Value

end
-- ==== Proof.Calls.Norm.lean ====
/- The result arrays of RMS normalisation after the run equal the reference's. -/
module

public import proofs.«01_k».proof.Proof.Calls.NormRef
public import proofs.«01_k».proof.Proof.Gen.NormIdeal.Frame
public import Idealize.ShloMosaic.Lib.Pipeline.ValueKit

@[expose] public section

set_option maxRecDepth 16384

noncomputable section

namespace Cert.NormIdeal.Value

open Cert.NormIdeal Cert.NormIdeal.Gen
open Idealize.ShloMosaic Idealize.ShloMosaic.TcCoe Idealize.SL.Sem

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

/-- The array of window 2 after the run is the reference's result `REF` of the arguments. -/
theorem final_2 (c : Dev nD) : (dats m 0 c).arrAt 2 (cfgs 0).N
    = Cert.NormRefIdeal.Value.REF (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Cert.NormRefIdeal.Value.REF]
  blk_point [iblk, V, idx_val t]

end Cert.NormIdeal.Value

end
-- ==== Proof.Calls.DownRef.lean ====
/- What the reference program of the down projection computes, as one term of its arguments for each result. -/
module

public import proofs.«01_k».proof.Proof.Gen.DownRefIdeal
public import Idealize.ShloMosaic.Lib.StableHlo.Run
public import Idealize.ShloMosaic.PureOps.Ideal

@[expose] public section

set_option maxRecDepth 16384

noncomputable section

namespace Cert.DownRefIdeal.Value

open Cert.DownRefIdeal Cert.DownRefIdeal.Gen
open Idealize.ShloMosaic Idealize.ShloMosaic.TcCoe Idealize.SL.Sem

/-- Result `main_v3` of the reference as a function of the argument arrays. -/
abbrev REF (a0 : FVec Ideal S1536x3584 .bf16) (a1 : FVec Ideal S1536x18944 .bf16) (a2 : FVec Ideal S18944x3584 .bf16) : FVec Ideal S1536x3584 .bf16 :=
  truncf .bf16 (addf (extf .f32 a0 bitsLt_bf16_f32) (Host.dotGeneral dot_S1536x18944_S18944x3584_S1536x3584_1_0_0_1_n_n none a1 a2)) bitsLt_bf16_f32

end Cert.DownRefIdeal.Value

end
-- ==== Proof.Calls.Down.lean ====
/- The result arrays of the down projection after the run equal the reference's. -/
module

public import proofs.«01_k».proof.Proof.Calls.DownRef
public import proofs.«01_k».proof.Proof.Gen.DownIdeal.Frame
public import Idealize.ShloMosaic.Lib.Pipeline.ValueKit
public import Idealize.ShloMosaic.Lib.WritesUnit

@[expose] public section

set_option maxRecDepth 16384

noncomputable section

namespace Cert.DownIdeal.Value

open Cert.DownIdeal Cert.DownIdeal.Gen
open Idealize.ShloMosaic Idealize.ShloMosaic.TcCoe Idealize.SL.Sem

variable (m : (ℓ : Loc nD τ sig) → Buf (Elt Ideal) ℓ)

/-- Every window's block index at every grid point. -/
theorem idx_val : ∀ t : Fin cfg0.N, win0_0.index t = ![0, 0]
    ∧ win0_1.index t = ![0, t.val]
    ∧ win0_2.index t = ![t.val, 0]
    ∧ win0_3.index t = ![0, 0] :=
  (by decide +kernel : ∀ t : Fin grid0.N, _)

/-- The rows trip `k` of the loop takes. -/
theorem off1_val : ∀ k : Fin k0_t1_loop.trips, k0_off1 k = ![512 * k.val, 0] := by decide +kernel

/-- The same rows of the hidden block. -/
theorem off2_val : ∀ k : Fin k0_t1_loop.trips, k0_off2 k = ![512 * k.val, 0] := by decide +kernel

/-- The zero fill. -/
theorem pay1_apply (j) : k0_pay1 (F := Ideal) j = 0 := by pointwise [k0_pay1]

/-- The accumulation of a trip: what was there plus one product. -/
theorem pay2_apply (a : Vec Ideal S512x3584 .f32) (b : Vec Ideal S512x512 .bf16) (w : Vec Ideal S512x3584 .bf16) (j) :
    k0_pay2 (F := Ideal) a b w j = a j + ∑ l : Fin 512, b (ix2 (j 0) l) * w (ix2 l (j 1)) := by pointwise [k0_pay2]

/-- The last store: the input plus the accumulated product. -/
theorem pay3_apply (x : Vec Ideal S1536x3584 .bf16) (a : Vec Ideal S1536x3584 .f32) (j) :
    k0_pay3 (F := Ideal) x a j = (x j + a j : EReal) := by pointwise [k0_pay3]

/-- The reference's result at an index. -/
theorem ref_apply (a0 : FVec Ideal S1536x3584 .bf16) (a1 : FVec Ideal S1536x18944 .bf16) (a2 : FVec Ideal S18944x3584 .bf16) (j) :
    Cert.DownRefIdeal.Value.REF a0 a1 a2 j = (a0 j + ∑ l : Fin 18944, a1 (ix2 (j 0) l) * a2 (ix2 l (j 1)) : EReal) := by
  pointwise [Cert.DownRefIdeal.Value.REF]

section
variable (c : Dev nD) (t : Fin cfg0.N) (x1 : Vec Ideal S1536x512 .bf16) (x2 : Vec Ideal S512x3584 .bf16)
  (G : BufTy.Contents (Elt Ideal) scM0_0.view.ty)

/-- The pieces written by the trips before `k` at point `t`. -/
abbrev PB (k : ℕ) := pb_k0_t1 (F := Ideal) Variants.none c none (grid0.coords t) (ms0_0 t) (hs0_0 t) (ms0_1 t) (hs0_1 t) (ms0_2 t) (hs0_2 t) (ms0_3 t) (hs0_3 t) scM0_0 (Memref.isWhole_whole _)
        ((hs0_1 t).unread x1) ((hs0_2 t).unread x2) G k

/-- What one point adds at an index. -/
abbrev part (y : S1536x3584.Idx) : EReal := ∑ l : Fin 512, x1 (ix2 (y 0) l) * x2 (ix2 l (y 1))

/-- The piece of one trip: the accumulation over the trip's rows. -/
theorem trip_eq (k : Fin k0_t1_loop.trips) (f) :
  (tripL_k0_t1 (F := Ideal) Variants.none c none (grid0.coords t) (ms0_0 t) (hs0_0 t) (ms0_1 t) (hs0_1 t) (ms0_2 t) (hs0_2 t) (ms0_3 t) (hs0_3 t) scM0_0 (Memref.isWhole_whole _)
        ((hs0_1 t).unread x1) ((hs0_2 t).unread x2) k f)
   = [⟨Rect.unit (s := S1536x3584) (k0_off1 k) S512x3584.size (k0_off1_inb k),
        k0_pay2 (F := Ideal) (View.ld (scM0_0.view.read (Elt Ideal) f) (Rect.unit (s := S1536x3584) (k0_off1 k) S512x3584.size (k0_off1_inb k))) (View.ld x1 (Rect.unit (s := S1536x512) (k0_off2 k) S512x512.size (k0_off2_inb k))) x2⟩] := by
  unfold tripL_k0_t1 trip_k0_t1
  dsimp only
  frame_out

/-- What the accumulator holds after the trips before `k`. -/
theorem read_pb (k : ℕ) (hk : k ≤ 3) (y : S1536x3584.Idx) :
    scM0_0.view.read (Elt Ideal) (scM0_0.view.writes (Elt Ideal) G (PB c t x1 x2 G k)) y
      = if (y 0).val < 512 * k then scM0_0.view.read (Elt Ideal) G y + part x1 x2 y else scM0_0.view.read (Elt Ideal) G y := by
  induction k with
  | zero => rw [if_neg (by omega)]; rfl
  | succ k ih =>
    have hk' : k < k0_t1_loop.trips := hk
    rw [PB, pb_k0_t1_succ (k := ⟨k, hk'⟩), trip_eq, View.writes_append]
    rw [View.read_writes_cons_unit _ _ _ _ _ _ (off1_val ⟨k, hk'⟩)]
    by_cases h : ∀ a, (![512 * k, 0] : Fin 2 → ℕ) a ≤ (y a).val ∧ (y a).val < (![512 * k, 0] : Fin 2 → ℕ) a + S512x3584.size a
    · rw [dif_pos h]
      have h0 : 512 * k ≤ (y 0).val ∧ (y 0).val < 512 * k + 512 := h 0
      rw [if_pos (by omega), pay2_apply]
      have ho1 := off1_val ⟨k, hk'⟩
      have ho2 := off2_val ⟨k, hk'⟩
      have eb : (Rect.unit (s := S1536x3584) (k0_off1 ⟨k, hk'⟩) S512x3584.size (k0_off1_inb ⟨k, hk'⟩)).emb (Rect.unitLocal (s := S1536x3584) y h) = y := by
        funext a; apply Fin.ext
        show k0_off1 ⟨k, hk'⟩ a + 1 * ((y a).val - (![512 * k, 0] : Fin 2 → ℕ) a) = (y a).val
        rw [ho1, Nat.one_mul]; exact Nat.add_sub_cancel' (h a).1
      have ex : ∀ (x : Vec Ideal S1536x512 .bf16) (l : Fin 512), View.ld x (Rect.unit (s := S1536x512) (k0_off2 ⟨k, hk'⟩) S512x512.size (k0_off2_inb ⟨k, hk'⟩)) (ix2 (Rect.unitLocal (s := S1536x3584) (off := (![512 * k, 0] : Fin 2 → ℕ)) (size := S512x3584.size) y h 0) l) = x (ix2 (y 0) l) := by
        intro x l
        refine congrArg x ?_
        funext a; apply Fin.ext
        match a with
        | ⟨0, _⟩ =>
          show k0_off2 ⟨k, hk'⟩ 0 + 1 * ((y 0).val - 512 * k) = (y 0).val
          rw [ho2, Nat.one_mul]; exact Nat.add_sub_cancel' h0.1
        | ⟨1, _⟩ =>
          show k0_off2 ⟨k, hk'⟩ 1 + 1 * l.val = l.val
          rw [ho2, Nat.one_mul]; exact Nat.zero_add _
      have ew : Rect.unitLocal (s := S1536x3584) (off := (![512 * k, 0] : Fin 2 → ℕ)) (size := S512x3584.size) y h 1 = y 1 := Fin.ext (Nat.sub_zero _)
      have e0 := ih (by omega)
      rw [if_neg (by omega)] at e0
      rw [← e0]
      have ep : (∑ l : Fin 512, View.ld x1 (Rect.unit (s := S1536x512) (k0_off2 ⟨k, hk'⟩) S512x512.size (k0_off2_inb ⟨k, hk'⟩)) (ix2 (Rect.unitLocal (s := S1536x3584) (off := (![512 * k, 0] : Fin 2 → ℕ)) (size := S512x3584.size) y h 0) l)
            * x2 (ix2 l (Rect.unitLocal (s := S1536x3584) (off := (![512 * k, 0] : Fin 2 → ℕ)) (size := S512x3584.size) y h 1)))
          = (∑ l : Fin 512, x1 (ix2 (y 0) l) * x2 (ix2 l (y 1)) : EReal) :=
        Finset.sum_congr rfl fun l _ => congrArg₂ (fun p q : EReal => p * q) (ex x1 l) (congrArg (fun i => x2 (ix2 l i)) ew)
      exact congrArg₂ (fun p q : EReal => p + q) (congrArg (scM0_0.view.read (Elt Ideal) (scM0_0.view.writes (Elt Ideal) G (PB c t x1 x2 G k))) eb) ep
    · rw [dif_neg h]
      rw [View.writes_nil, ih (by omega)]
      have h1 : ¬ (512 * k ≤ (y 0).val ∧ (y 0).val < 512 * k + 512) := fun h0 => h fun a => by
        match a with
        | ⟨0, _⟩ => exact h0
        | ⟨1, _⟩ => exact ⟨Nat.zero_le _, by show (y 1).val < 0 + 3584; have : (y 1).val < 3584 := (y 1).isLt; omega⟩
      by_cases h2 : (y 0).val < 512 * k
      · rw [if_pos h2, if_pos (by omega)]
      · rw [if_neg h2, if_neg (by omega)]

/-- The trips before `k` cover the first `512 k` rows. -/
theorem cover_pb (k : ℕ) (hk : k ≤ 3) (y : S1536x3584.Idx) (hy : (y 0).val < 512 * k) :
    ∃ p ∈ PB c t x1 x2 G k, y ∈ p.1.set := by
  induction k with
  | zero => omega
  | succ k ih =>
    have hk' : k < k0_t1_loop.trips := hk
    rw [PB, pb_k0_t1_succ (k := ⟨k, hk'⟩), trip_eq]
    by_cases h : (y 0).val < 512 * k
    · obtain ⟨p, hp, hy⟩ := ih (by omega) h
      exact ⟨p, List.mem_append_right _ hp, hy⟩
    · refine ⟨_, List.mem_append_left _ List.mem_cons_self, ?_⟩
      rw [Rect.mem_set_unit, off1_val]
      intro a
      match a with
      | ⟨0, _⟩ => show 512 * k ≤ (y 0).val ∧ (y 0).val < 512 * k + 512; omega
      | ⟨1, _⟩ => exact ⟨Nat.zero_le _, by show (y 1).val < 0 + 3584; have : (y 1).val < 3584 := (y 1).isLt; omega⟩

/-- The pieces of all the trips over what the accumulator held: that plus the point's part. -/
theorem canon_pb (xs : Vec Ideal S1536x3584 .f32) (j : S1536x3584.Idx) :
    View.canon (PB c t x1 x2 ((Memref.isWhole_whole _ : scM0_0.IsWhole).unread xs) 3) j = (xs j + part x1 x2 j : EReal) := by
  refine (View.read_writes_apply_eq_canon scM0_0.view ((Memref.isWhole_whole _ : scM0_0.IsWhole).unread xs) j _ (cover_pb c t _ _ _ 3 le_rfl j (j 0).isLt)).symm.trans ?_
  rw [read_pb c t _ _ _ 3 le_rfl j, if_pos (show (j 0).val < 512 * 3 from (j 0).isLt), Memref.IsWhole.read_unread]

end

/-- What the accumulator holds after point `n`. -/
abbrev acc (c : Dev nD) (n : ℕ) (h : n < cfg0.N) : Vec Ideal S1536x3584 .f32 := (outsAt0 m c n h).2

/-- What the first point of the grid leaves in the accumulator. -/
theorem reset_apply (c : Dev nD) (t : Fin cfg0.N) (h : t.val % 37 = 0) (j) : acc m c t.val t.isLt j
    = part (iblk m c 1 t) (iblk m c 2 t) j := by
  rw [acc, outsAt0_A m c t h (by omega)]; frame_out
  have hc : ∀ G L, ∃ p ∈ PB c t (iblk m c 1 t) (iblk m c 2 t) G 3 ++ L, j ∈ p.1.set := fun G L =>
    let ⟨p, hp, hj⟩ := cover_pb c t (iblk m c 1 t) (iblk m c 2 t) G 3 le_rfl j (j 0).isLt
    ⟨p, List.mem_append_left _ hp, hj⟩
  refine (View.read_writes_apply_eq_canon scM0_0.view scM0_0.view.junk j _ (hc _ _)).symm.trans ?_
  rw [View.writes_append]
  refine (read_pb c t _ _ _ 3 le_rfl j).trans ?_
  rw [if_pos (show (j 0).val < 512 * 3 from (j 0).isLt), View.read_writes_junk_eq_canon]
  refine (congrArg (fun p : EReal => p + _) ((congrFun (View.canon_unit_zero (by decide) _ _) j).trans (pay1_apply j))).trans (zero_add _)

/-- What a later point leaves in the accumulator: what was there plus the point's part. -/
theorem step_apply (c : Dev nD) (t : Fin cfg0.N) (h : ¬ t.val % 37 = 0) (j) : acc m c t.val t.isLt j
    = acc m c (t.val - 1) (Nat.lt_of_le_of_lt (Nat.sub_le _ _) t.isLt) j + part (iblk m c 1 t) (iblk m c 2 t) j := by
  by_cases h1 : t.val % 37 = 36
  · rw [acc, outsAt0_C m c t h h1]; frame_out; exact canon_pb c t _ _ _ j
  · rw [acc, outsAt0_B m c t h h1]; frame_out; exact canon_pb c t _ _ _ j

/-- What the last point of the grid leaves in the output block: the input plus the accumulator. -/
theorem last_apply (c : Dev nD) (t : Fin cfg0.N) (h : t.val % 37 = 36) (j) : (outsAt0 m c t.val t.isLt).1 j
    = k0_pay3 (F := Ideal) (iblk m c 0 t) (acc m c t.val t.isLt) j := by
  rw [outsAt0_C m c t (by omega) h]; frame_out
  refine congrFun (congrArg (k0_pay3 (F := Ideal) (iblk m c 0 t)) (funext fun i => ?_)) j
  refine (read_pb c t (iblk m c 1 t) (iblk m c 2 t) _ 3 le_rfl i).trans ?_
  rw [if_pos (show (i 0).val < 512 * 3 from (i 0).isLt), Memref.IsWhole.read_unread]
  exact (step_apply m c t (by omega) i).symm

/-- The array of window 3 after the run is the reference's result `REF` of the arguments. -/
theorem final_3 (c : Dev nD) : (dats m 0 c).arrAt 3 (cfgs 0).N
    = Cert.DownRefIdeal.Value.REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, last_apply m c t ((flush0_3 t).mp hf), pay3_apply, Pipeline.eq_sum_fin_of_reset_step_apply_of_flush (fun n h => acc m c n h) 37 (fun _ => 0)
    (fun p j => part (iblk m c 1 p) (iblk m c 2 p) j)
    (fun t h j => by rw [reset_apply m c t h, zero_add]) (fun t h j => step_apply m c t h j)
    t ((flush0_3 t).mp hf) _, zero_add, ref_apply]
  refine congrArg₂ (fun p q : EReal => p + q) ?_ ?_
  · blk_point [iblk, V, idx_val t]
  · refine Fin.sum_mul_add_congr fun s k hl => ?_
    blk_point [iblk, V, idx_val t, idx_val ⟨_, Pipeline.run_point_lt_of_flush t ((flush0_3 t).mp hf) s⟩]

end Cert.DownIdeal.Value

end
-- ==== Proof.Calls.InputRef.lean ====
/- What the reference program of the gradient at the normalised input computes, as one term of its arguments for each result. -/
module

public import proofs.«01_k».proof.Proof.Gen.InputRefIdeal
public import Idealize.ShloMosaic.Lib.StableHlo.Run
public import Idealize.ShloMosaic.PureOps.Ideal

@[expose] public section

set_option maxRecDepth 16384

noncomputable section

namespace Cert.InputRefIdeal.Value

open Cert.InputRefIdeal Cert.InputRefIdeal.Gen
open Idealize.ShloMosaic Idealize.ShloMosaic.TcCoe Idealize.SL.Sem

/-- Result `main_v4` of the reference as a function of the argument arrays. -/
abbrev REF (a0 : FVec Ideal S1536x18944 .bf16) (a1 : FVec Ideal S1536x18944 .bf16) (a2 : FVec Ideal S3584x18944 .bf16) (a3 : FVec Ideal S3584x18944 .bf16) : FVec Ideal S1536x3584 .f32 :=
  addf (Host.dotGeneral dot_S1536x18944_S18944x3584_S1536x3584_1_0_0_1_n_n none a0 (transpose S18944x3584 [1, 0] a2 transposes_S3584x18944_S18944x3584_1_0)) (Host.dotGeneral dot_S1536x18944_S18944x3584_S1536x3584_1_0_0_1_n_n none a1 (transpose S18944x3584 [1, 0] a3 transposes_S3584x18944_S18944x3584_1_0))

end Cert.InputRefIdeal.Value

end
-- ==== Proof.Calls.Input.lean ====
/- The result arrays of the gradient at the normalised input after the run equal the reference's. -/
module

public import proofs.«01_k».proof.Proof.Calls.InputRef
public import proofs.«01_k».proof.Proof.Gen.InputIdeal.Frame
public import Idealize.ShloMosaic.Lib.Pipeline.ValueKit
public import Idealize.ShloMosaic.Lib.WritesUnit

@[expose] public section
set_option maxRecDepth 16384
noncomputable section
namespace Cert.InputIdeal.Value
open Cert.InputIdeal Cert.InputIdeal.Gen
open Idealize.ShloMosaic Idealize.ShloMosaic.TcCoe Idealize.SL.Sem
variable (m : (ℓ : Loc nD τ sig) → Buf (Elt Ideal) ℓ)

/-- The rows trip `k` of the loop takes. -/
theorem off1_val : ∀ k : Fin k0_t1_loop.trips, k0_off1 k = ![512 * k.val, 0] := by decide +kernel

/-- The same rows of the gradient's block. -/
theorem off2_val : ∀ k : Fin k0_t1_loop.trips, k0_off2 k = ![512 * k.val, 0] := by decide +kernel

/-- The zero fill. -/
theorem pay1_apply (j) : k0_pay1 (F := Ideal) j = 0 := by pointwise [k0_pay1]

/-- The first accumulation of a trip: what was there plus one product. -/
theorem pay2_apply (a : Vec Ideal S512x3584 .f32) (b : Vec Ideal S512x512 .bf16) (w : Vec Ideal S3584x512 .bf16) (j) :
    k0_pay2 (F := Ideal) a b w j = a j + ∑ l : Fin 512, b (ix2 (j 0) l) * w (ix2 (j 1) l) := by pointwise [k0_pay2]

/-- The second accumulation of a trip. -/
theorem pay3_apply (a : Vec Ideal S512x3584 .f32) (b : Vec Ideal S512x512 .bf16) (w : Vec Ideal S3584x512 .bf16) (j) :
    k0_pay3 (F := Ideal) a b w j = a j + ∑ l : Fin 512, b (ix2 (j 0) l) * w (ix2 (j 1) l) := by pointwise [k0_pay3]

/-- The reference's result at an index. -/
theorem ref_apply (a0 a1 : FVec Ideal S1536x18944 .bf16) (a2 a3 : FVec Ideal S3584x18944 .bf16) (j) :
    Cert.InputRefIdeal.Value.REF a0 a1 a2 a3 j = (∑ l : Fin 18944, a0 (ix2 (j 0) l) * a2 (ix2 (j 1) l)) + ∑ l : Fin 18944, a1 (ix2 (j 0) l) * a3 (ix2 (j 1) l) := by
  pointwise [Cert.InputRefIdeal.Value.REF]

variable (c : Dev nD) (t : Fin cfg0.N) (x0 x1 : Vec Ideal S1536x512 .bf16) (x2 x3 : Vec Ideal S3584x512 .bf16)
  (G : BufTy.Contents (Elt Ideal) (ms0_4 t).view.ty)

/-- The pieces written by the trips before `k` at point `t`. -/
abbrev PB (k : ℕ) := pb_k0_t1 (F := Ideal) Variants.none c none (grid0.coords t) (ms0_0 t) (hs0_0 t) (ms0_1 t) (hs0_1 t) (ms0_2 t) (hs0_2 t) (ms0_3 t) (hs0_3 t) (ms0_4 t) (hs0_4 t)
        ((hs0_0 t).unread x0) ((hs0_1 t).unread x1) ((hs0_2 t).unread x2) ((hs0_3 t).unread x3) G k

/-- What one point adds at an index. -/
abbrev part (y : S1536x3584.Idx) : EReal :=
  (∑ l : Fin 512, x0 (ix2 (y 0) l) * x2 (ix2 (y 1) l)) + ∑ l : Fin 512, x1 (ix2 (y 0) l) * x3 (ix2 (y 1) l)

/-- The pieces of one trip: the two accumulations over the trip's rows. -/
theorem trip_eq (k : Fin k0_t1_loop.trips) (f) :
  (tripL_k0_t1 (F := Ideal) Variants.none c none (grid0.coords t) (ms0_0 t) (hs0_0 t) (ms0_1 t) (hs0_1 t) (ms0_2 t) (hs0_2 t) (ms0_3 t) (hs0_3 t) (ms0_4 t) (hs0_4 t)
        ((hs0_0 t).unread x0) ((hs0_1 t).unread x1) ((hs0_2 t).unread x2) ((hs0_3 t).unread x3) k f)
   = [⟨Rect.unit (s := S1536x3584) (k0_off1 k) S512x3584.size (k0_off1_inb k),
        k0_pay3 (F := Ideal) (k0_pay2 (F := Ideal) (View.ld ((ms0_4 t).view.read (Elt Ideal) f) (Rect.unit (s := S1536x3584) (k0_off1 k) S512x3584.size (k0_off1_inb k))) (View.ld x0 (Rect.unit (s := S1536x512) (k0_off2 k) S512x512.size (k0_off2_inb k))) x2)
          (View.ld x1 (Rect.unit (s := S1536x512) (k0_off2 k) S512x512.size (k0_off2_inb k))) x3⟩,
      ⟨Rect.unit (s := S1536x3584) (k0_off1 k) S512x3584.size (k0_off1_inb k), k0_pay2 (F := Ideal) (View.ld ((ms0_4 t).view.read (Elt Ideal) f) (Rect.unit (s := S1536x3584) (k0_off1 k) S512x3584.size (k0_off1_inb k))) (View.ld x0 (Rect.unit (s := S1536x512) (k0_off2 k) S512x512.size (k0_off2_inb k))) x2⟩] := by
  unfold tripL_k0_t1 trip_k0_t1
  unfold trip_k0_t1.sl.HW_arg5_1 trip_k0_t1.sl.v19
  dsimp only
  frame_out
  rw [View.readCov_cons_toLoadRect]

/-- Every window's block index at every grid point. -/
theorem idx_val : ∀ t : Fin cfg0.N, win0_0.index t = ![0, t.val]
    ∧ win0_1.index t = ![0, t.val]
    ∧ win0_2.index t = ![0, t.val]
    ∧ win0_3.index t = ![0, t.val]
    ∧ win0_4.index t = ![0, 0] :=
  (by decide +kernel : ∀ t : Fin grid0.N, _)

/-- What the output block holds after the trips before `k`. -/
theorem read_pb (k : ℕ) (hk : k ≤ 3) (y : S1536x3584.Idx) :
    (ms0_4 t).view.read (Elt Ideal) ((ms0_4 t).view.writes (Elt Ideal) G (PB c t x0 x1 x2 x3 G k)) y
      = if (y 0).val < 512 * k then (ms0_4 t).view.read (Elt Ideal) G y + part x0 x1 x2 x3 y else (ms0_4 t).view.read (Elt Ideal) G y := by
  induction k with
  | zero => rw [if_neg (by omega)]; rfl
  | succ k ih =>
    have hk' : k < k0_t1_loop.trips := hk
    rw [PB, pb_k0_t1_succ (k := ⟨k, hk'⟩), trip_eq, View.writes_append]
    rw [View.read_writes_cons_unit _ _ _ _ _ _ (off1_val ⟨k, hk'⟩)]
    by_cases h : ∀ a, (![512 * k, 0] : Fin 2 → ℕ) a ≤ (y a).val ∧ (y a).val < (![512 * k, 0] : Fin 2 → ℕ) a + S512x3584.size a
    · rw [dif_pos h]
      have h0 : 512 * k ≤ (y 0).val ∧ (y 0).val < 512 * k + 512 := h 0
      rw [if_pos (by omega), pay3_apply, pay2_apply]
      have ho1 := off1_val ⟨k, hk'⟩
      have ho2 := off2_val ⟨k, hk'⟩
      have eb : (Rect.unit (s := S1536x3584) (k0_off1 ⟨k, hk'⟩) S512x3584.size (k0_off1_inb ⟨k, hk'⟩)).emb (Rect.unitLocal (s := S1536x3584) y h) = y := by
        funext a; apply Fin.ext
        show k0_off1 ⟨k, hk'⟩ a + 1 * ((y a).val - (![512 * k, 0] : Fin 2 → ℕ) a) = (y a).val
        rw [ho1, Nat.one_mul]; exact Nat.add_sub_cancel' (h a).1
      have ex : ∀ (x : Vec Ideal S1536x512 .bf16) (l : Fin 512), View.ld x (Rect.unit (s := S1536x512) (k0_off2 ⟨k, hk'⟩) S512x512.size (k0_off2_inb ⟨k, hk'⟩)) (ix2 (Rect.unitLocal (s := S1536x3584) (off := (![512 * k, 0] : Fin 2 → ℕ)) (size := S512x3584.size) y h 0) l) = x (ix2 (y 0) l) := by
        intro x l
        refine congrArg x ?_
        funext a; apply Fin.ext
        match a with
        | ⟨0, _⟩ =>
          show k0_off2 ⟨k, hk'⟩ 0 + 1 * ((y 0).val - 512 * k) = (y 0).val
          rw [ho2, Nat.one_mul]; exact Nat.add_sub_cancel' h0.1
        | ⟨1, _⟩ =>
          show k0_off2 ⟨k, hk'⟩ 1 + 1 * l.val = l.val
          rw [ho2, Nat.one_mul]; exact Nat.zero_add _
      have ew : Rect.unitLocal (s := S1536x3584) (off := (![512 * k, 0] : Fin 2 → ℕ)) (size := S512x3584.size) y h 1 = y 1 := Fin.ext (Nat.sub_zero _)
      have e0 := ih (by omega)
      rw [if_neg (by omega)] at e0
      rw [← e0, add_assoc]
      have ep : ∀ (x : Vec Ideal S1536x512 .bf16) (w : Vec Ideal S3584x512 .bf16),
          (∑ l : Fin 512, View.ld x (Rect.unit (s := S1536x512) (k0_off2 ⟨k, hk'⟩) S512x512.size (k0_off2_inb ⟨k, hk'⟩)) (ix2 (Rect.unitLocal (s := S1536x3584) (off := (![512 * k, 0] : Fin 2 → ℕ)) (size := S512x3584.size) y h 0) l)
            * w (ix2 (Rect.unitLocal (s := S1536x3584) (off := (![512 * k, 0] : Fin 2 → ℕ)) (size := S512x3584.size) y h 1) l))
          = (∑ l : Fin 512, x (ix2 (y 0) l) * w (ix2 (y 1) l) : EReal) := fun x w =>
        Finset.sum_congr rfl fun l _ => congrArg₂ (fun p q : EReal => p * q) (ex x l) (congrArg (fun i => w (ix2 i l)) ew)
      exact congrArg₂ (fun p q : EReal => p + q) (congrArg ((ms0_4 t).view.read (Elt Ideal) ((ms0_4 t).view.writes (Elt Ideal) G (PB c t x0 x1 x2 x3 G k))) eb)
        (congrArg₂ (fun p q : EReal => p + q) (ep x0 x2) (ep x1 x3))
    · rw [dif_neg h]
      rw [View.read_writes_cons_unit _ _ _ _ _ _ (off1_val ⟨k, hk'⟩), dif_neg h, View.writes_nil, ih (by omega)]
      have h1 : ¬ (512 * k ≤ (y 0).val ∧ (y 0).val < 512 * k + 512) := fun h0 => h fun a => by
        match a with
        | ⟨0, _⟩ => exact h0
        | ⟨1, _⟩ => exact ⟨Nat.zero_le _, by show (y 1).val < 0 + 3584; have : (y 1).val < 3584 := (y 1).isLt; omega⟩
      by_cases h2 : (y 0).val < 512 * k
      · rw [if_pos h2, if_pos (by omega)]
      · rw [if_neg h2, if_neg (by omega)]

/-- The trips before `k` cover the first `512 k` rows. -/
theorem cover_pb (k : ℕ) (hk : k ≤ 3) (y : S1536x3584.Idx) (hy : (y 0).val < 512 * k) :
    ∃ p ∈ PB c t x0 x1 x2 x3 G k, y ∈ p.1.set := by
  induction k with
  | zero => omega
  | succ k ih =>
    have hk' : k < k0_t1_loop.trips := hk
    rw [PB, pb_k0_t1_succ (k := ⟨k, hk'⟩), trip_eq]
    by_cases h : (y 0).val < 512 * k
    · obtain ⟨p, hp, hy⟩ := ih (by omega) h
      exact ⟨p, List.mem_append_right _ hp, hy⟩
    · refine ⟨_, List.mem_append_left _ List.mem_cons_self, ?_⟩
      rw [Rect.mem_set_unit, off1_val]
      intro a
      match a with
      | ⟨0, _⟩ => show 512 * k ≤ (y 0).val ∧ (y 0).val < 512 * k + 512; omega
      | ⟨1, _⟩ => exact ⟨Nat.zero_le _, by show (y 1).val < 0 + 3584; have : (y 1).val < 3584 := (y 1).isLt; omega⟩

/-- What a point of the grid after the first leaves at an index: what was there plus the point's part. -/
theorem step_apply (h : ¬ t.val % 37 = 0) (j) : outsAt0 m c t.val t.isLt j
    = outsAt0 m c (t.val - 1) (Nat.lt_of_le_of_lt (Nat.sub_le _ _) t.isLt) j + part (iblk m c 0 t) (iblk m c 1 t) (iblk m c 2 t) (iblk m c 3 t) j := by
  rw [outsAt0_B m c t h]; frame_out
  refine (View.read_writes_apply_eq_canon (ms0_4 t).view ((hs0_4 t).unread (outsAt0 m c (t.val - 1) (Nat.lt_of_le_of_lt (Nat.sub_le _ _) t.isLt))) j _ (cover_pb c t _ _ _ _ _ 3 le_rfl j (j 0).isLt)).symm.trans ?_
  rw [read_pb c t _ _ _ _ _ 3 le_rfl j, if_pos (show (j 0).val < 512 * 3 from (j 0).isLt), Memref.IsWhole.read_unread]

/-- What the first point of the grid leaves at an index. -/
theorem reset_apply (h : t.val % 37 = 0) (j) : outsAt0 m c t.val t.isLt j
    = part (iblk m c 0 t) (iblk m c 1 t) (iblk m c 2 t) (iblk m c 3 t) j := by
  rw [outsAt0_A m c t h]; frame_out
  have hc : ∀ G L, ∃ p ∈ PB c t (iblk m c 0 t) (iblk m c 1 t) (iblk m c 2 t) (iblk m c 3 t) G 3 ++ L, j ∈ p.1.set := fun G L =>
    let ⟨p, hp, hj⟩ := cover_pb c t (iblk m c 0 t) (iblk m c 1 t) (iblk m c 2 t) (iblk m c 3 t) G 3 le_rfl j (j 0).isLt
    ⟨p, List.mem_append_left _ hp, hj⟩
  refine (View.read_writes_apply_eq_canon (ms0_4 t).view (ms0_4 t).view.junk j _ (hc _ _)).symm.trans ?_
  rw [View.writes_append]
  refine (read_pb c t _ _ _ _ _ 3 le_rfl j).trans ?_
  rw [if_pos (show (j 0).val < 512 * 3 from (j 0).isLt), View.read_writes_junk_eq_canon]
  refine (congrArg (fun p : EReal => p + _) ((congrFun (View.canon_unit_zero (by decide) _ _) j).trans (pay1_apply j))).trans (zero_add _)

/-- The array of window 4 after the run is the reference's result `REF` of the arguments. -/
theorem final_4 (c : Dev nD) : (dats m 0 c).arrAt 4 (cfgs 0).N
    = Cert.InputRefIdeal.Value.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => outsAt0 m c n h) 37 (fun _ => 0)
    (fun p j => part (iblk m c 0 p) (iblk m c 1 p) (iblk m c 2 p) (iblk m c 3 p) j)
    (fun t h j => by rw [reset_apply m c t h, zero_add]) (fun t h j => step_apply m c t h j)
    t ((flush0_4 t).mp hf) _, zero_add, ref_apply]
  show (_ : EReal) = _
  unfold part
  rw [Finset.sum_add_distrib]
  refine congrArg₂ (fun p q : EReal => p + q) ?_ ?_
  · refine Fin.sum_mul_add_congr fun s k hl => ?_
    blk_point [iblk, V, idx_val t, idx_val ⟨_, Pipeline.run_point_lt_of_flush t ((flush0_4 t).mp hf) s⟩]
  · refine Fin.sum_mul_add_congr fun s k hl => ?_
    blk_point [iblk, V, idx_val t, idx_val ⟨_, Pipeline.run_point_lt_of_flush t ((flush0_4 t).mp hf) s⟩]

end Cert.InputIdeal.Value
end
-- ==== Proof.Calls.FinishRef.lean ====
/- What the reference program of the backward pass of RMS normalisation computes, as one term of its arguments for each result. -/
module

public import proofs.«01_k».proof.Proof.Gen.FinishRefIdeal
public import Idealize.ShloMosaic.Lib.StableHlo.Run
public import Idealize.ShloMosaic.PureOps.Ideal

@[expose] public section

set_option maxRecDepth 16384

noncomputable section

namespace Cert.FinishRefIdeal.Value

open Cert.FinishRefIdeal Cert.FinishRefIdeal.Gen
open Idealize.ShloMosaic Idealize.ShloMosaic.TcCoe Idealize.SL.Sem

/-- Result `main_v28` of the reference as a function of the argument arrays. -/
abbrev REF_v28 (a0 : FVec Ideal S1536x3584 .bf16) (a1 : FVec Ideal S1536x3584 .bf16) (a2 : FVec Ideal S1x3584 .f32) (a3 : FVec Ideal S1536x3584 .f32) : FVec Ideal S1536x3584 .bf16 :=
  truncf .bf16 (addf (extf .f32 a1 bitsLt_bf16_f32) (mulf (broadcastInDim S1536x3584 ![0, 1] bcast_S1536x1_S1536x3584_0_1 (Host.divf (broadcastInDim S1536x1 ![] bcast_S_S1536x1 (constant S_ .f32 0x3F800000#32)) (Host.sqrt (addf (Host.divf (broadcastInDim S1536x1 ![0] bcast_S1536_S1536x1_0 (Host.reduceAdd (mulf (extf .f32 a0 bitsLt_bf16_f32) (extf .f32 a0 bitsLt_bf16_f32)) (constant S_ .f32 0x00000000#32) reducesTo_S1536x3584_S1536_d1 h_S_)) (broadcastInDim S1536x1 ![] bcast_S_S1536x1 (constant S_ .f32 0x45600000#32))) (broadcastInDim S1536x1 ![] bcast_S_S1536x1 (constant S_ .f32 0x3727C5AC#32)))))) (subf (mulf a3 (broadcastInDim S1536x3584 ![0, 1] bcast_S1x3584_S1536x3584_0_1 a2)) (mulf (mulf (extf .f32 a0 bitsLt_bf16_f32) (broadcastInDim S1536x3584 ![0, 1] bcast_S1536x1_S1536x3584_0_1 (Host.divf (broadcastInDim S1536x1 ![] bcast_S_S1536x1 (constant S_ .f32 0x3F800000#32)) (Host.sqrt (addf (Host.divf (broadcastInDim S1536x1 ![0] bcast_S1536_S1536x1_0 (Host.reduceAdd (mulf (extf .f32 a0 bitsLt_bf16_f32) (extf .f32 a0 bitsLt_bf16_f32)) (constant S_ .f32 0x00000000#32) reducesTo_S1536x3584_S1536_d1 h_S_)) (broadcastInDim S1536x1 ![] bcast_S_S1536x1 (constant S_ .f32 0x45600000#32))) (broadcastInDim S1536x1 ![] bcast_S_S1536x1 (constant S_ .f32 0x3727C5AC#32))))))) (broadcastInDim S1536x3584 ![0, 1] bcast_S1536x1_S1536x3584_0_1 (mulf (Host.divf (broadcastInDim S1536x1 ![] bcast_S_S1536x1 (constant S_ .f32 0x3F800000#32)) (Host.sqrt (addf (Host.divf (broadcastInDim S1536x1 ![0] bcast_S1536_S1536x1_0 (Host.reduceAdd (mulf (extf .f32 a0 bitsLt_bf16_f32) (extf .f32 a0 bitsLt_bf16_f32)) (constant S_ .f32 0x00000000#32) reducesTo_S1536x3584_S1536_d1 h_S_)) (broadcastInDim S1536x1 ![] bcast_S_S1536x1 (constant S_ .f32 0x45600000#32))) (broadcastInDim S1536x1 ![] bcast_S_S1536x1 (constant S_ .f32 0x3727C5AC#32))))) (Host.divf (broadcastInDim S1536x1 ![0] bcast_S1536_S1536x1_0 (Host.reduceAdd (mulf (mulf a3 (broadcastInDim S1536x3584 ![0, 1] bcast_S1x3584_S1536x3584_0_1 a2)) (extf .f32 a0 bitsLt_bf16_f32)) (constant S_ .f32 0x00000000#32) reducesTo_S1536x3584_S1536_d1 h_S_)) (broadcastInDim S1536x1 ![] bcast_S_S1536x1 (constant S_ .f32 0x45600000#32))))))))) bitsLt_bf16_f32

/-- Result `main_v29` of the reference as a function of the argument arrays. -/
abbrev REF_v29 (a0 : FVec Ideal S1536x3584 .bf16) (a2 : FVec Ideal S1x3584 .f32) (a3 : FVec Ideal S1536x3584 .f32) : FVec Ideal S1536x3584 .bf16 :=
  truncf .bf16 (mulf (broadcastInDim S1536x3584 ![0, 1] bcast_S1536x1_S1536x3584_0_1 (Host.divf (broadcastInDim S1536x1 ![] bcast_S_S1536x1 (constant S_ .f32 0x3F800000#32)) (Host.sqrt (addf (Host.divf (broadcastInDim S1536x1 ![0] bcast_S1536_S1536x1_0 (Host.reduceAdd (mulf (extf .f32 a0 bitsLt_bf16_f32) (extf .f32 a0 bitsLt_bf16_f32)) (constant S_ .f32 0x00000000#32) reducesTo_S1536x3584_S1536_d1 h_S_)) (broadcastInDim S1536x1 ![] bcast_S_S1536x1 (constant S_ .f32 0x45600000#32))) (broadcastInDim S1536x1 ![] bcast_S_S1536x1 (constant S_ .f32 0x3727C5AC#32)))))) (subf (mulf a3 (broadcastInDim S1536x3584 ![0, 1] bcast_S1x3584_S1536x3584_0_1 a2)) (mulf (mulf (extf .f32 a0 bitsLt_bf16_f32) (broadcastInDim S1536x3584 ![0, 1] bcast_S1536x1_S1536x3584_0_1 (Host.divf (broadcastInDim S1536x1 ![] bcast_S_S1536x1 (constant S_ .f32 0x3F800000#32)) (Host.sqrt (addf (Host.divf (broadcastInDim S1536x1 ![0] bcast_S1536_S1536x1_0 (Host.reduceAdd (mulf (extf .f32 a0 bitsLt_bf16_f32) (extf .f32 a0 bitsLt_bf16_f32)) (constant S_ .f32 0x00000000#32) reducesTo_S1536x3584_S1536_d1 h_S_)) (broadcastInDim S1536x1 ![] bcast_S_S1536x1 (constant S_ .f32 0x45600000#32))) (broadcastInDim S1536x1 ![] bcast_S_S1536x1 (constant S_ .f32 0x3727C5AC#32))))))) (broadcastInDim S1536x3584 ![0, 1] bcast_S1536x1_S1536x3584_0_1 (mulf (Host.divf (broadcastInDim S1536x1 ![] bcast_S_S1536x1 (constant S_ .f32 0x3F800000#32)) (Host.sqrt (addf (Host.divf (broadcastInDim S1536x1 ![0] bcast_S1536_S1536x1_0 (Host.reduceAdd (mulf (extf .f32 a0 bitsLt_bf16_f32) (extf .f32 a0 bitsLt_bf16_f32)) (constant S_ .f32 0x00000000#32) reducesTo_S1536x3584_S1536_d1 h_S_)) (broadcastInDim S1536x1 ![] bcast_S_S1536x1 (constant S_ .f32 0x45600000#32))) (broadcastInDim S1536x1 ![] bcast_S_S1536x1 (constant S_ .f32 0x3727C5AC#32))))) (Host.divf (broadcastInDim S1536x1 ![0] bcast_S1536_S1536x1_0 (Host.reduceAdd (mulf (mulf a3 (broadcastInDim S1536x3584 ![0, 1] bcast_S1x3584_S1536x3584_0_1 a2)) (extf .f32 a0 bitsLt_bf16_f32)) (constant S_ .f32 0x00000000#32) reducesTo_S1536x3584_S1536_d1 h_S_)) (broadcastInDim S1536x1 ![] bcast_S_S1536x1 (constant S_ .f32 0x45600000#32)))))))) bitsLt_bf16_f32

/-- Result `main_v18` of the reference as a function of the argument arrays. -/
abbrev REF_v18 (a0 : FVec Ideal S1536x3584 .bf16) (a2 : FVec Ideal S1x3584 .f32) (a3 : FVec Ideal S1536x3584 .f32) : FVec Ideal S1536x1 .f32 :=
  mulf (Host.divf (broadcastInDim S1536x1 ![] bcast_S_S1536x1 (constant S_ .f32 0x3F800000#32)) (Host.sqrt (addf (Host.divf (broadcastInDim S1536x1 ![0] bcast_S1536_S1536x1_0 (Host.reduceAdd (mulf (extf .f32 a0 bitsLt_bf16_f32) (extf .f32 a0 bitsLt_bf16_f32)) (constant S_ .f32 0x00000000#32) reducesTo_S1536x3584_S1536_d1 h_S_)) (broadcastInDim S1536x1 ![] bcast_S_S1536x1 (constant S_ .f32 0x45600000#32))) (broadcastInDim S1536x1 ![] bcast_S_S1536x1 (constant S_ .f32 0x3727C5AC#32))))) (Host.divf (broadcastInDim S1536x1 ![0] bcast_S1536_S1536x1_0 (Host.reduceAdd (mulf (mulf a3 (broadcastInDim S1536x3584 ![0, 1] bcast_S1x3584_S1536x3584_0_1 a2)) (extf .f32 a0 bitsLt_bf16_f32)) (constant S_ .f32 0x00000000#32) reducesTo_S1536x3584_S1536_d1 h_S_)) (broadcastInDim S1536x1 ![] bcast_S_S1536x1 (constant S_ .f32 0x45600000#32)))

end Cert.FinishRefIdeal.Value

end
-- ==== Proof.Calls.Finish.lean ====
/- The result arrays of the backward pass of RMS normalisation after the run equal the reference's. -/
module

public import proofs.«01_k».proof.Proof.Calls.FinishRef
public import proofs.«01_k».proof.Proof.Gen.FinishIdeal.Frame
public import Idealize.ShloMosaic.Lib.Pipeline.ValueKit

@[expose] public section

set_option maxRecDepth 16384

noncomputable section

namespace Cert.FinishIdeal.Value

open Cert.FinishIdeal Cert.FinishIdeal.Gen
open Idealize.ShloMosaic Idealize.ShloMosaic.TcCoe Idealize.SL.Sem

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

set_option maxHeartbeats 1600000 in
/-- The array of window 4 after the run is the reference's result `REF_v28` of the arguments. -/
theorem final_4 (c : Dev nD) : (dats m 0 c).arrAt 4 (cfgs 0).N
    = Cert.FinishRefIdeal.Value.REF_v28 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  pointwise [k0_pay1, k0_pay2, k0_pay3, k0_pay4, k0_pay5, k0_pay6, k0_pay7, Cert.FinishRefIdeal.Value.REF_v28]
  blk_point [iblk, V, idx_val t]

set_option maxHeartbeats 1600000 in
/-- The array of window 5 after the run is the reference's result `REF_v29` of the arguments. -/
theorem final_5 (c : Dev nD) : (dats m 0 c).arrAt 5 (cfgs 0).N
    = Cert.FinishRefIdeal.Value.REF_v29 (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, k0_pay6, k0_pay7, Cert.FinishRefIdeal.Value.REF_v29]
  blk_point [iblk, V, idx_val t]

set_option maxHeartbeats 1600000 in
/-- The array of window 6 after the run is the reference's result `REF_v18` of the arguments. -/
theorem final_6 (c : Dev nD) : (dats m 0 c).arrAt 6 (cfgs 0).N
    = Cert.FinishRefIdeal.Value.REF_v18 (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp; rw [after0_6]; frame_out
  pointwise [k0_pay1, k0_pay2, k0_pay3, k0_pay4, k0_pay5, k0_pay6, k0_pay7, Cert.FinishRefIdeal.Value.REF_v18]
  blk_point [iblk, V, idx_val t]

end Cert.FinishIdeal.Value

end
-- ==== Proof.Calls.AdamRef.lean ====
/- What the reference program of the scale step for the gate and up scales computes, as one term of its arguments for each result. -/
module

public import proofs.«01_k».proof.Proof.Gen.AdamRefIdeal
public import Idealize.ShloMosaic.Lib.StableHlo.Run
public import Idealize.ShloMosaic.PureOps.Ideal

@[expose] public section

set_option maxRecDepth 16384

noncomputable section

namespace Cert.AdamRefIdeal.Value

open Cert.AdamRefIdeal Cert.AdamRefIdeal.Gen
open Idealize.ShloMosaic Idealize.ShloMosaic.TcCoe Idealize.SL.Sem

/-- Result `main_v20` of the reference as a function of the argument arrays. -/
abbrev REF_v20 (a1 : FVec Ideal S18944x28 .f32) (a2 : FVec Ideal S18944x28 .f32) (a3 : FVec Ideal S18944x28 .f32) (a4 : FVec Ideal S_ .f32) (a5 : FVec Ideal S_ .f32) (a6 : FVec Ideal S_ .f32) (a7 : FVec Ideal S_ .f32) : FVec Ideal S18944x28 .f32 :=
  Host.divf (mulf (broadcastInDim S18944x28 ![] bcast_S_S18944x28 a4) (Host.divf (addf (mulf (broadcastInDim S18944x28 ![] bcast_S_S18944x28 (constant S_ .f32 0x3F666666#32)) a1) (mulf (broadcastInDim S18944x28 ![] bcast_S_S18944x28 (constant S_ .f32 0x3DCCCCCD#32)) a3)) (broadcastInDim S18944x28 ![] bcast_S_S18944x28 a6))) (addf (Host.sqrt (Host.divf (addf (mulf (broadcastInDim S18944x28 ![] bcast_S_S18944x28 (constant S_ .f32 0x3F7FBE77#32)) a2) (mulf (broadcastInDim S18944x28 ![] bcast_S_S18944x28 (constant S_ .f32 0x3A83126F#32)) (mulf a3 a3))) (broadcastInDim S18944x28 ![] bcast_S_S18944x28 a7))) (broadcastInDim S18944x28 ![] bcast_S_S18944x28 a5))

/-- Result `main_v21` of the reference as a function of the argument arrays. -/
abbrev REF_v21 (a0 : FVec Ideal S18944x28 .f32) (a1 : FVec Ideal S18944x28 .f32) (a2 : FVec Ideal S18944x28 .f32) (a3 : FVec Ideal S18944x28 .f32) (a4 : FVec Ideal S_ .f32) (a5 : FVec Ideal S_ .f32) (a6 : FVec Ideal S_ .f32) (a7 : FVec Ideal S_ .f32) : FVec Ideal S18944x28 .f32 :=
  subf a0 (Host.divf (mulf (broadcastInDim S18944x28 ![] bcast_S_S18944x28 a4) (Host.divf (addf (mulf (broadcastInDim S18944x28 ![] bcast_S_S18944x28 (constant S_ .f32 0x3F666666#32)) a1) (mulf (broadcastInDim S18944x28 ![] bcast_S_S18944x28 (constant S_ .f32 0x3DCCCCCD#32)) a3)) (broadcastInDim S18944x28 ![] bcast_S_S18944x28 a6))) (addf (Host.sqrt (Host.divf (addf (mulf (broadcastInDim S18944x28 ![] bcast_S_S18944x28 (constant S_ .f32 0x3F7FBE77#32)) a2) (mulf (broadcastInDim S18944x28 ![] bcast_S_S18944x28 (constant S_ .f32 0x3A83126F#32)) (mulf a3 a3))) (broadcastInDim S18944x28 ![] bcast_S_S18944x28 a7))) (broadcastInDim S18944x28 ![] bcast_S_S18944x28 a5)))

/-- Result `main_v4` of the reference as a function of the argument arrays. -/
abbrev REF_v4 (a1 : FVec Ideal S18944x28 .f32) (a3 : FVec Ideal S18944x28 .f32) : FVec Ideal S18944x28 .f32 :=
  addf (mulf (broadcastInDim S18944x28 ![] bcast_S_S18944x28 (constant S_ .f32 0x3F666666#32)) a1) (mulf (broadcastInDim S18944x28 ![] bcast_S_S18944x28 (constant S_ .f32 0x3DCCCCCD#32)) a3)

/-- Result `main_v10` of the reference as a function of the argument arrays. -/
abbrev REF_v10 (a2 : FVec Ideal S18944x28 .f32) (a3 : FVec Ideal S18944x28 .f32) : FVec Ideal S18944x28 .f32 :=
  addf (mulf (broadcastInDim S18944x28 ![] bcast_S_S18944x28 (constant S_ .f32 0x3F7FBE77#32)) a2) (mulf (broadcastInDim S18944x28 ![] bcast_S_S18944x28 (constant S_ .f32 0x3A83126F#32)) (mulf a3 a3))

end Cert.AdamRefIdeal.Value

end
-- ==== Proof.Calls.Adam.lean ====
/- The result arrays of the scale step for the gate and up scales after the run equal the reference's. -/
module

public import proofs.«01_k».proof.Proof.Calls.AdamRef
public import proofs.«01_k».proof.Proof.Gen.AdamIdeal.Frame
public import Idealize.ShloMosaic.Lib.Pipeline.ValueKit

@[expose] public section

set_option maxRecDepth 16384

noncomputable section

namespace Cert.AdamIdeal.Value

open Cert.AdamIdeal Cert.AdamIdeal.Gen
open Idealize.ShloMosaic Idealize.ShloMosaic.TcCoe Idealize.SL.Sem

variable (m : (ℓ : Loc nD τ sig) → Buf (Elt Ideal) ℓ)

/-- Every window's block index at every grid point. -/
theorem idx_val : ∀ t : Fin cfg0.N, win0_0.index t = ![0, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- What the packed scalars hold when the kernel starts: the four scalar arguments, one after the other. -/
theorem entry5 (c : Dev nD) : V m c main_v5 = shapeCast S1x4
    (concatenate S4 0 [⟨S1, (broadcastInDim S1 ![] bcast_S_S1 (m ((c : Thread nD τ).loc main_arg4)) : FVec Ideal S1 .f32)⟩, ⟨S1, (broadcastInDim S1 ![] bcast_S_S1 (m ((c : Thread nD τ).loc main_arg5)) : FVec Ideal S1 .f32)⟩, ⟨S1, (broadcastInDim S1 ![] bcast_S_S1 (m ((c : Thread nD τ).loc main_arg6)) : FVec Ideal S1 .f32)⟩, ⟨S1, (broadcastInDim S1 ![] bcast_S_S1 (m ((c : Thread nD τ).loc main_arg7)) : FVec Ideal S1 .f32)⟩] concatenates_S1_S1_S1_S1_S4_d0) shapeCasts_S4_S1x4 := by
  unfold V hostOps0
  simp only [Idealize.ShloMosaic.StableHlo.after_cons, Idealize.ShloMosaic.StableHlo.after_nil]
  rw [StableHlo.reshape_result, StableHlo.nary4_result]
  after_results_simp
  rfl

/-- Scalar 0 of the packed scalars of the step is argument 4. -/
theorem const0 (c : Dev nD) (t : Fin cfg0.N) : iblk m c 0 t (ix2 0 0) = m ((c : Thread nD τ).loc main_arg4) ix0 := by
  blk_simp [iblk, idx_val t]
  rw [entry5]
  have e : ((((View.whole main_v5).slice (win0_0.rect t)).emb (ix2 0 0) 1 : Fin _) : ℕ) = 0 := by blk_simp [idx_val t]; rfl
  pointwise
  simp only [e]
  rfl

/-- Scalar 1 of the packed scalars of the step is argument 5. -/
theorem const1 (c : Dev nD) (t : Fin cfg0.N) : iblk m c 0 t (ix2 0 1) = m ((c : Thread nD τ).loc main_arg5) ix0 := by
  blk_simp [iblk, idx_val t]
  rw [entry5]
  have e : ((((View.whole main_v5).slice (win0_0.rect t)).emb (ix2 0 1) 1 : Fin _) : ℕ) = 1 := by blk_simp [idx_val t]; rfl
  pointwise
  simp only [e]
  rfl

/-- Scalar 2 of the packed scalars of the step is argument 6. -/
theorem const2 (c : Dev nD) (t : Fin cfg0.N) : iblk m c 0 t (ix2 0 2) = m ((c : Thread nD τ).loc main_arg6) ix0 := by
  blk_simp [iblk, idx_val t]
  rw [entry5]
  have e : ((((View.whole main_v5).slice (win0_0.rect t)).emb (ix2 0 2) 1 : Fin _) : ℕ) = 2 := by blk_simp [idx_val t]; rfl
  pointwise
  simp only [e]
  rfl

/-- Scalar 3 of the packed scalars of the step is argument 7. -/
theorem const3 (c : Dev nD) (t : Fin cfg0.N) : iblk m c 0 t (ix2 0 3) = m ((c : Thread nD τ).loc main_arg7) ix0 := by
  blk_simp [iblk, idx_val t]
  rw [entry5]
  have e : ((((View.whole main_v5).slice (win0_0.rect t)).emb (ix2 0 3) 1 : Fin _) : ℕ) = 3 := by blk_simp [idx_val t]; rfl
  pointwise
  simp only [e]
  rfl

/-- The array of window 5 after the run is the reference's result `REF_v20` of the arguments. -/
theorem final_5 (c : Dev nD) : (dats m 0 c).arrAt 5 (cfgs 0).N
    = Cert.AdamRefIdeal.Value.REF_v20 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 5 _ (by decide +kernel) fun t hf y => ?_
  blk_simp; rw [after0_5]; unfold outsAt0; frame_out
  pointwise [k0_pay1, k0_pay2, k0_pay3, k0_pay4, Cert.AdamRefIdeal.Value.REF_v20]
  rw [const0, const1, const2, const3]
  blk_point [iblk, V, idx_val t]

/-- The array of window 6 after the run is the reference's result `REF_v21` of the arguments. -/
theorem final_6 (c : Dev nD) : (dats m 0 c).arrAt 6 (cfgs 0).N
    = Cert.AdamRefIdeal.Value.REF_v21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 6 _ (by decide +kernel) fun t hf y => ?_
  blk_simp; rw [after0_6]; unfold outsAt0; frame_out
  pointwise [k0_pay1, k0_pay2, k0_pay3, k0_pay4, Cert.AdamRefIdeal.Value.REF_v21]
  rw [const0, const1, const2, const3]
  blk_point [iblk, V, idx_val t]

/-- The array of window 7 after the run is the reference's result `REF_v4` of the arguments. -/
theorem final_7 (c : Dev nD) : (dats m 0 c).arrAt 7 (cfgs 0).N
    = Cert.AdamRefIdeal.Value.REF_v4 (m ((c : Thread nD τ).loc main_arg1)) (m ((c : Thread nD τ).loc main_arg3)) := by
  refine (dats m 0 c).arrAt_eq_of_covers 7 _ (by decide +kernel) fun t hf y => ?_
  blk_simp; rw [after0_7]; unfold outsAt0; frame_out
  pointwise [k0_pay1, k0_pay2, k0_pay3, k0_pay4, Cert.AdamRefIdeal.Value.REF_v4]
  blk_point [iblk, V, idx_val t]

/-- The array of window 8 after the run is the reference's result `REF_v10` of the arguments. -/
theorem final_8 (c : Dev nD) : (dats m 0 c).arrAt 8 (cfgs 0).N
    = Cert.AdamRefIdeal.Value.REF_v10 (m ((c : Thread nD τ).loc main_arg2)) (m ((c : Thread nD τ).loc main_arg3)) := by
  refine (dats m 0 c).arrAt_eq_of_covers 8 _ (by decide +kernel) fun t hf y => ?_
  blk_simp; rw [after0_8]; unfold outsAt0; frame_out
  pointwise [k0_pay1, k0_pay2, k0_pay3, k0_pay4, Cert.AdamRefIdeal.Value.REF_v10]
  blk_point [iblk, V, idx_val t]

end Cert.AdamIdeal.Value

end
-- ==== Proof.Calls.AdamDownRef.lean ====
/- What the reference program of the scale step for the down scales computes, as one term of its arguments for each result. -/
module

public import proofs.«01_k».proof.Proof.Gen.AdamDownRefIdeal
public import Idealize.ShloMosaic.Lib.StableHlo.Run
public import Idealize.ShloMosaic.PureOps.Ideal

@[expose] public section

set_option maxRecDepth 16384

noncomputable section

namespace Cert.AdamDownRefIdeal.Value

open Cert.AdamDownRefIdeal Cert.AdamDownRefIdeal.Gen
open Idealize.ShloMosaic Idealize.ShloMosaic.TcCoe Idealize.SL.Sem

/-- Result `main_v20` of the reference as a function of the argument arrays. -/
abbrev REF_v20 (a1 : FVec Ideal S3584x148 .f32) (a2 : FVec Ideal S3584x148 .f32) (a3 : FVec Ideal S3584x148 .f32) (a4 : FVec Ideal S_ .f32) (a5 : FVec Ideal S_ .f32) (a6 : FVec Ideal S_ .f32) (a7 : FVec Ideal S_ .f32) : FVec Ideal S3584x148 .f32 :=
  Host.divf (mulf (broadcastInDim S3584x148 ![] bcast_S_S3584x148 a4) (Host.divf (addf (mulf (broadcastInDim S3584x148 ![] bcast_S_S3584x148 (constant S_ .f32 0x3F666666#32)) a1) (mulf (broadcastInDim S3584x148 ![] bcast_S_S3584x148 (constant S_ .f32 0x3DCCCCCD#32)) a3)) (broadcastInDim S3584x148 ![] bcast_S_S3584x148 a6))) (addf (Host.sqrt (Host.divf (addf (mulf (broadcastInDim S3584x148 ![] bcast_S_S3584x148 (constant S_ .f32 0x3F7FBE77#32)) a2) (mulf (broadcastInDim S3584x148 ![] bcast_S_S3584x148 (constant S_ .f32 0x3A83126F#32)) (mulf a3 a3))) (broadcastInDim S3584x148 ![] bcast_S_S3584x148 a7))) (broadcastInDim S3584x148 ![] bcast_S_S3584x148 a5))

/-- Result `main_v21` of the reference as a function of the argument arrays. -/
abbrev REF_v21 (a0 : FVec Ideal S3584x148 .f32) (a1 : FVec Ideal S3584x148 .f32) (a2 : FVec Ideal S3584x148 .f32) (a3 : FVec Ideal S3584x148 .f32) (a4 : FVec Ideal S_ .f32) (a5 : FVec Ideal S_ .f32) (a6 : FVec Ideal S_ .f32) (a7 : FVec Ideal S_ .f32) : FVec Ideal S3584x148 .f32 :=
  subf a0 (Host.divf (mulf (broadcastInDim S3584x148 ![] bcast_S_S3584x148 a4) (Host.divf (addf (mulf (broadcastInDim S3584x148 ![] bcast_S_S3584x148 (constant S_ .f32 0x3F666666#32)) a1) (mulf (broadcastInDim S3584x148 ![] bcast_S_S3584x148 (constant S_ .f32 0x3DCCCCCD#32)) a3)) (broadcastInDim S3584x148 ![] bcast_S_S3584x148 a6))) (addf (Host.sqrt (Host.divf (addf (mulf (broadcastInDim S3584x148 ![] bcast_S_S3584x148 (constant S_ .f32 0x3F7FBE77#32)) a2) (mulf (broadcastInDim S3584x148 ![] bcast_S_S3584x148 (constant S_ .f32 0x3A83126F#32)) (mulf a3 a3))) (broadcastInDim S3584x148 ![] bcast_S_S3584x148 a7))) (broadcastInDim S3584x148 ![] bcast_S_S3584x148 a5)))

/-- Result `main_v4` of the reference as a function of the argument arrays. -/
abbrev REF_v4 (a1 : FVec Ideal S3584x148 .f32) (a3 : FVec Ideal S3584x148 .f32) : FVec Ideal S3584x148 .f32 :=
  addf (mulf (broadcastInDim S3584x148 ![] bcast_S_S3584x148 (constant S_ .f32 0x3F666666#32)) a1) (mulf (broadcastInDim S3584x148 ![] bcast_S_S3584x148 (constant S_ .f32 0x3DCCCCCD#32)) a3)

/-- Result `main_v10` of the reference as a function of the argument arrays. -/
abbrev REF_v10 (a2 : FVec Ideal S3584x148 .f32) (a3 : FVec Ideal S3584x148 .f32) : FVec Ideal S3584x148 .f32 :=
  addf (mulf (broadcastInDim S3584x148 ![] bcast_S_S3584x148 (constant S_ .f32 0x3F7FBE77#32)) a2) (mulf (broadcastInDim S3584x148 ![] bcast_S_S3584x148 (constant S_ .f32 0x3A83126F#32)) (mulf a3 a3))

end Cert.AdamDownRefIdeal.Value

end
-- ==== Proof.Calls.AdamDown.lean ====
/- The result arrays of the scale step for the down scales after the run equal the reference's. -/
module

public import proofs.«01_k».proof.Proof.Calls.AdamDownRef
public import proofs.«01_k».proof.Proof.Gen.AdamDownIdeal.Frame
public import Idealize.ShloMosaic.Lib.Pipeline.ValueKit

@[expose] public section

set_option maxRecDepth 16384

noncomputable section

namespace Cert.AdamDownIdeal.Value

open Cert.AdamDownIdeal Cert.AdamDownIdeal.Gen
open Idealize.ShloMosaic Idealize.ShloMosaic.TcCoe Idealize.SL.Sem

variable (m : (ℓ : Loc nD τ sig) → Buf (Elt Ideal) ℓ)

/-- Every window's block index at every grid point. -/
theorem idx_val : ∀ t : Fin cfg0.N, win0_0.index t = ![0, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- What the packed scalars hold when the kernel starts: the four scalar arguments, one after the other. -/
theorem entry5 (c : Dev nD) : V m c main_v5 = shapeCast S1x4
    (concatenate S4 0 [⟨S1, (broadcastInDim S1 ![] bcast_S_S1 (m ((c : Thread nD τ).loc main_arg4)) : FVec Ideal S1 .f32)⟩, ⟨S1, (broadcastInDim S1 ![] bcast_S_S1 (m ((c : Thread nD τ).loc main_arg5)) : FVec Ideal S1 .f32)⟩, ⟨S1, (broadcastInDim S1 ![] bcast_S_S1 (m ((c : Thread nD τ).loc main_arg6)) : FVec Ideal S1 .f32)⟩, ⟨S1, (broadcastInDim S1 ![] bcast_S_S1 (m ((c : Thread nD τ).loc main_arg7)) : FVec Ideal S1 .f32)⟩] concatenates_S1_S1_S1_S1_S4_d0) shapeCasts_S4_S1x4 := by
  unfold V hostOps0
  simp only [Idealize.ShloMosaic.StableHlo.after_cons, Idealize.ShloMosaic.StableHlo.after_nil]
  rw [StableHlo.reshape_result, StableHlo.nary4_result]
  after_results_simp
  rfl

/-- Scalar 0 of the packed scalars of the step is argument 4. -/
theorem const0 (c : Dev nD) (t : Fin cfg0.N) : iblk m c 0 t (ix2 0 0) = m ((c : Thread nD τ).loc main_arg4) ix0 := by
  blk_simp [iblk, idx_val t]
  rw [entry5]
  have e : ((((View.whole main_v5).slice (win0_0.rect t)).emb (ix2 0 0) 1 : Fin _) : ℕ) = 0 := by blk_simp [idx_val t]; rfl
  pointwise
  simp only [e]
  rfl

/-- Scalar 1 of the packed scalars of the step is argument 5. -/
theorem const1 (c : Dev nD) (t : Fin cfg0.N) : iblk m c 0 t (ix2 0 1) = m ((c : Thread nD τ).loc main_arg5) ix0 := by
  blk_simp [iblk, idx_val t]
  rw [entry5]
  have e : ((((View.whole main_v5).slice (win0_0.rect t)).emb (ix2 0 1) 1 : Fin _) : ℕ) = 1 := by blk_simp [idx_val t]; rfl
  pointwise
  simp only [e]
  rfl

/-- Scalar 2 of the packed scalars of the step is argument 6. -/
theorem const2 (c : Dev nD) (t : Fin cfg0.N) : iblk m c 0 t (ix2 0 2) = m ((c : Thread nD τ).loc main_arg6) ix0 := by
  blk_simp [iblk, idx_val t]
  rw [entry5]
  have e : ((((View.whole main_v5).slice (win0_0.rect t)).emb (ix2 0 2) 1 : Fin _) : ℕ) = 2 := by blk_simp [idx_val t]; rfl
  pointwise
  simp only [e]
  rfl

/-- Scalar 3 of the packed scalars of the step is argument 7. -/
theorem const3 (c : Dev nD) (t : Fin cfg0.N) : iblk m c 0 t (ix2 0 3) = m ((c : Thread nD τ).loc main_arg7) ix0 := by
  blk_simp [iblk, idx_val t]
  rw [entry5]
  have e : ((((View.whole main_v5).slice (win0_0.rect t)).emb (ix2 0 3) 1 : Fin _) : ℕ) = 3 := by blk_simp [idx_val t]; rfl
  pointwise
  simp only [e]
  rfl

/-- The array of window 5 after the run is the reference's result `REF_v20` of the arguments. -/
theorem final_5 (c : Dev nD) : (dats m 0 c).arrAt 5 (cfgs 0).N
    = Cert.AdamDownRefIdeal.Value.REF_v20 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 5 _ (by decide +kernel) fun t hf y => ?_
  blk_simp; rw [after0_5]; unfold outsAt0; frame_out
  pointwise [k0_pay1, k0_pay2, k0_pay3, k0_pay4, Cert.AdamDownRefIdeal.Value.REF_v20]
  rw [const0, const1, const2, const3]
  blk_point [iblk, V, idx_val t]

/-- The array of window 6 after the run is the reference's result `REF_v21` of the arguments. -/
theorem final_6 (c : Dev nD) : (dats m 0 c).arrAt 6 (cfgs 0).N
    = Cert.AdamDownRefIdeal.Value.REF_v21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 6 _ (by decide +kernel) fun t hf y => ?_
  blk_simp; rw [after0_6]; unfold outsAt0; frame_out
  pointwise [k0_pay1, k0_pay2, k0_pay3, k0_pay4, Cert.AdamDownRefIdeal.Value.REF_v21]
  rw [const0, const1, const2, const3]
  blk_point [iblk, V, idx_val t]

/-- The array of window 7 after the run is the reference's result `REF_v4` of the arguments. -/
theorem final_7 (c : Dev nD) : (dats m 0 c).arrAt 7 (cfgs 0).N
    = Cert.AdamDownRefIdeal.Value.REF_v4 (m ((c : Thread nD τ).loc main_arg1)) (m ((c : Thread nD τ).loc main_arg3)) := by
  refine (dats m 0 c).arrAt_eq_of_covers 7 _ (by decide +kernel) fun t hf y => ?_
  blk_simp; rw [after0_7]; unfold outsAt0; frame_out
  pointwise [k0_pay1, k0_pay2, k0_pay3, k0_pay4, Cert.AdamDownRefIdeal.Value.REF_v4]
  blk_point [iblk, V, idx_val t]

/-- The array of window 8 after the run is the reference's result `REF_v10` of the arguments. -/
theorem final_8 (c : Dev nD) : (dats m 0 c).arrAt 8 (cfgs 0).N
    = Cert.AdamDownRefIdeal.Value.REF_v10 (m ((c : Thread nD τ).loc main_arg2)) (m ((c : Thread nD τ).loc main_arg3)) := by
  refine (dats m 0 c).arrAt_eq_of_covers 8 _ (by decide +kernel) fun t hf y => ?_
  blk_simp; rw [after0_8]; unfold outsAt0; frame_out
  pointwise [k0_pay1, k0_pay2, k0_pay3, k0_pay4, Cert.AdamDownRefIdeal.Value.REF_v10]
  blk_point [iblk, V, idx_val t]

end Cert.AdamDownIdeal.Value

end
-- ==== Proof.lean ====
/- The certificate: each call's kernel and reference run to the end and leave their arguments alone, the idealised programs are
   the programs themselves, and over the ideal values each call computes its reference. -/
module

public import proofs.«01_k».proof.Defs
public import proofs.«01_k».proof.Proof.MainRun.Frame
public import proofs.«01_k».proof.Proof.MainIdealRun.Frame
public import proofs.«01_k».proof.Proof.Main.Pair
public import proofs.«01_k».proof.Proof.Gen.MainRefIdeal.Run
public import proofs.«01_k».proof.Proof.Gen.Norm.Frame
public import proofs.«01_k».proof.Proof.Calls.Norm
public import proofs.«01_k».proof.Proof.Gen.NormRefIdeal.Run
public import proofs.«01_k».proof.Proof.Gen.Down.Frame
public import proofs.«01_k».proof.Proof.Calls.Down
public import proofs.«01_k».proof.Proof.Gen.DownRefIdeal.Run
public import proofs.«01_k».proof.Proof.Gen.Input.Frame
public import proofs.«01_k».proof.Proof.Calls.Input
public import proofs.«01_k».proof.Proof.Gen.InputRefIdeal.Run
public import proofs.«01_k».proof.Proof.Gen.Finish.Frame
public import proofs.«01_k».proof.Proof.Calls.Finish
public import proofs.«01_k».proof.Proof.Gen.FinishRefIdeal.Run
public import proofs.«01_k».proof.Proof.Gen.Adam.Frame
public import proofs.«01_k».proof.Proof.Calls.Adam
public import proofs.«01_k».proof.Proof.Gen.AdamRefIdeal.Run
public import proofs.«01_k».proof.Proof.Gen.AdamDown.Frame
public import proofs.«01_k».proof.Proof.Calls.AdamDown
public import proofs.«01_k».proof.Proof.Gen.AdamDownRefIdeal.Run
public import Idealize.ShloMosaic.Lib.Claim
public import Idealize.ShloMosaic.Adequacy
public import Idealize.ShloMosaic.Init

@[expose] public section

set_option maxRecDepth 65536
set_option maxHeartbeats 1600000

noncomputable section

namespace Cert.Proof

open Idealize.ShloMosaic Idealize.SL.Sem

/-- Over the ideal values the normalisation and its reference end with equal results. -/
theorem algebraic_Norm : Cert.algebraic_NormIdeal_NormRefIdeal (hNormIdeal := Cert.NormIdeal.Gen.facts) (hNormRefIdeal := Cert.NormRefIdeal.Gen.facts) := by
  pair_intro
  · run_from Cert.NormIdeal.Gen.run_main m g
  · run_from Cert.NormRefIdeal.Value.run m' g'
    · exact (Cert.NormIdeal.Value.final_2 m c).symm

/-- Over the ideal values the down projection and its reference end with equal results. -/
theorem algebraic_Down : Cert.algebraic_DownIdeal_DownRefIdeal (hDownIdeal := Cert.DownIdeal.Gen.facts) (hDownRefIdeal := Cert.DownRefIdeal.Gen.facts) := by
  pair_intro
  · run_from Cert.DownIdeal.Gen.run_main m g
  · run_from Cert.DownRefIdeal.Value.run m' g'
    · exact (Cert.DownIdeal.Value.final_3 m c).symm

/-- Over the ideal values the gradient at the normalised input and its reference end with equal results. -/
theorem algebraic_Input : Cert.algebraic_InputIdeal_InputRefIdeal (hInputIdeal := Cert.InputIdeal.Gen.facts) (hInputRefIdeal := Cert.InputRefIdeal.Gen.facts) := by
  pair_intro
  · run_from Cert.InputIdeal.Gen.run_main m g
  · run_from Cert.InputRefIdeal.Value.run m' g'
    · exact (Cert.InputIdeal.Value.final_4 m c).symm

/-- Over the ideal values the end of the backward pass through the normalisation and its reference end with equal results. -/
theorem algebraic_Finish : Cert.algebraic_FinishIdeal_FinishRefIdeal (hFinishIdeal := Cert.FinishIdeal.Gen.facts) (hFinishRefIdeal := Cert.FinishRefIdeal.Gen.facts) := by
  pair_intro
  · run_from Cert.FinishIdeal.Gen.run_main m g
  · run_from Cert.FinishRefIdeal.Value.run m' g'
    · exact (Cert.FinishIdeal.Value.final_4 m c).symm
    · exact (Cert.FinishIdeal.Value.final_5 m c).symm
    · exact (Cert.FinishIdeal.Value.final_6 m c).symm

/-- Over the ideal values the scale update at the gate and up shapes and its reference end with equal results. -/
theorem algebraic_Adam : Cert.algebraic_AdamIdeal_AdamRefIdeal (hAdamIdeal := Cert.AdamIdeal.Gen.facts) (hAdamRefIdeal := Cert.AdamRefIdeal.Gen.facts) := by
  pair_intro
  · run_from Cert.AdamIdeal.Gen.run_main m g
  · run_from Cert.AdamRefIdeal.Value.run m' g'
    · exact (Cert.AdamIdeal.Value.final_5 m c).symm
    · exact (Cert.AdamIdeal.Value.final_6 m c).symm
    · exact (Cert.AdamIdeal.Value.final_7 m c).symm
    · exact (Cert.AdamIdeal.Value.final_8 m c).symm

/-- Over the ideal values the scale update at the down shape and its reference end with equal results. -/
theorem algebraic_AdamDown : Cert.algebraic_AdamDownIdeal_AdamDownRefIdeal (hAdamDownIdeal := Cert.AdamDownIdeal.Gen.facts) (hAdamDownRefIdeal := Cert.AdamDownRefIdeal.Gen.facts) := by
  pair_intro
  · run_from Cert.AdamDownIdeal.Gen.run_main m g
  · run_from Cert.AdamDownRefIdeal.Value.run m' g'
    · exact (Cert.AdamDownIdeal.Value.final_5 m c).symm
    · exact (Cert.AdamDownIdeal.Value.final_6 m c).symm
    · exact (Cert.AdamDownIdeal.Value.final_7 m c).symm
    · exact (Cert.AdamDownIdeal.Value.final_8 m c).symm

/-- The reference of the main call ends with its arguments unchanged. -/
theorem frame_MainRefIdeal : Cert.quiescent_MainRefIdeal (hMainRefIdeal := Cert.MainRefIdeal.Gen.facts) := by
  intro m g _
  refine (θ_run Cert.MainRefIdeal.defs _ _).mono (fun r h => ⟨?_, sem_eq_zero_of_no_sems (by decide) r.2⟩) (Cert.MainRefIdeal.Value.run m g)
  exact fun c => by have hc := h c; simp only [hc, and_self]

/-- The reference of the normalisation ends with its arguments unchanged. -/
theorem frame_NormRefIdeal : Cert.quiescent_NormRefIdeal (hNormRefIdeal := Cert.NormRefIdeal.Gen.facts) := by
  intro m g _
  refine (θ_run Cert.NormRefIdeal.defs _ _).mono (fun r h => ⟨?_, sem_eq_zero_of_no_sems (by decide) r.2⟩) (Cert.NormRefIdeal.Value.run m g)
  exact fun c => by have hc := h c; simp only [hc, and_self]

/-- The reference of the down projection ends with its arguments unchanged. -/
theorem frame_DownRefIdeal : Cert.quiescent_DownRefIdeal (hDownRefIdeal := Cert.DownRefIdeal.Gen.facts) := by
  intro m g _
  refine (θ_run Cert.DownRefIdeal.defs _ _).mono (fun r h => ⟨?_, sem_eq_zero_of_no_sems (by decide) r.2⟩) (Cert.DownRefIdeal.Value.run m g)
  exact fun c => by have hc := h c; simp only [hc, and_self]

/-- The reference of the gradient at the normalised input ends with its arguments unchanged. -/
theorem frame_InputRefIdeal : Cert.quiescent_InputRefIdeal (hInputRefIdeal := Cert.InputRefIdeal.Gen.facts) := by
  intro m g _
  refine (θ_run Cert.InputRefIdeal.defs _ _).mono (fun r h => ⟨?_, sem_eq_zero_of_no_sems (by decide) r.2⟩) (Cert.InputRefIdeal.Value.run m g)
  exact fun c => by have hc := h c; simp only [hc, and_self]

/-- The reference of the end of the backward pass through the normalisation ends with its arguments unchanged. -/
theorem frame_FinishRefIdeal : Cert.quiescent_FinishRefIdeal (hFinishRefIdeal := Cert.FinishRefIdeal.Gen.facts) := by
  intro m g _
  refine (θ_run Cert.FinishRefIdeal.defs _ _).mono (fun r h => ⟨?_, sem_eq_zero_of_no_sems (by decide) r.2⟩) (Cert.FinishRefIdeal.Value.run m g)
  exact fun c => by have hc := h c; simp only [hc, and_self]

/-- The reference of the scale update at the gate and up shapes ends with its arguments unchanged. -/
theorem frame_AdamRefIdeal : Cert.quiescent_AdamRefIdeal (hAdamRefIdeal := Cert.AdamRefIdeal.Gen.facts) := by
  intro m g _
  refine (θ_run Cert.AdamRefIdeal.defs _ _).mono (fun r h => ⟨?_, sem_eq_zero_of_no_sems (by decide) r.2⟩) (Cert.AdamRefIdeal.Value.run m g)
  exact fun c => by have hc := h c; simp only [hc, and_self]

/-- The reference of the scale update at the down shape ends with its arguments unchanged. -/
theorem frame_AdamDownRefIdeal : Cert.quiescent_AdamDownRefIdeal (hAdamDownRefIdeal := Cert.AdamDownRefIdeal.Gen.facts) := by
  intro m g _
  refine (θ_run Cert.AdamDownRefIdeal.defs _ _).mono (fun r h => ⟨?_, sem_eq_zero_of_no_sems (by decide) r.2⟩) (Cert.AdamDownRefIdeal.Value.run m g)
  exact fun c => by have hc := h c; simp only [hc, and_self]

/-- All the claims. -/
theorem claim : Cert.Claim :=
  ⟨Cert.Main.Gen.facts, Cert.MainIdeal.Gen.facts, Cert.MainRefIdeal.Gen.facts, Cert.Norm.Gen.facts, Cert.NormIdeal.Gen.facts, Cert.NormRefIdeal.Gen.facts, Cert.Down.Gen.facts, Cert.DownIdeal.Gen.facts, Cert.DownRefIdeal.Gen.facts, Cert.Input.Gen.facts, Cert.InputIdeal.Gen.facts, Cert.InputRefIdeal.Gen.facts, Cert.Finish.Gen.facts, Cert.FinishIdeal.Gen.facts, Cert.FinishRefIdeal.Gen.facts, Cert.Adam.Gen.facts, Cert.AdamIdeal.Gen.facts, Cert.AdamRefIdeal.Gen.facts, Cert.AdamDown.Gen.facts, Cert.AdamDownIdeal.Gen.facts, Cert.AdamDownRefIdeal.Gen.facts, facts_zero_points_fit,
   fun m ρ _ => Cert.Main.Gen.frame m ρ,
   fun m ρ _ => Cert.MainIdeal.Gen.frame m ρ,
   fun m ρ _ => Cert.MainIdeal.Gen.frame m ρ,
   frame_MainRefIdeal,
   fun m ρ _ => frame_MainRefIdeal m ρ trivial,
   fun m ρ _ => Cert.Norm.Gen.frame m ρ,
   fun m ρ _ => Cert.NormIdeal.Gen.frame m ρ,
   frame_NormRefIdeal,
   fun m ρ _ => Cert.Down.Gen.frame m ρ,
   fun m ρ _ => Cert.DownIdeal.Gen.frame m ρ,
   frame_DownRefIdeal,
   fun m ρ _ => Cert.Input.Gen.frame m ρ,
   fun m ρ _ => Cert.InputIdeal.Gen.frame m ρ,
   frame_InputRefIdeal,
   fun m ρ _ => Cert.Finish.Gen.frame m ρ,
   fun m ρ _ => Cert.FinishIdeal.Gen.frame m ρ,
   frame_FinishRefIdeal,
   fun m ρ _ => Cert.Adam.Gen.frame m ρ,
   fun m ρ _ => Cert.AdamIdeal.Gen.frame m ρ,
   frame_AdamRefIdeal,
   fun m ρ _ => Cert.AdamDown.Gen.frame m ρ,
   fun m ρ _ => Cert.AdamDownIdeal.Gen.frame m ρ,
   frame_AdamDownRefIdeal,
   trivial,
   algebraic_Main,
   trivial,
   algebraic_Norm,
   trivial,
   algebraic_Down,
   trivial,
   algebraic_Input,
   trivial,
   algebraic_Finish,
   trivial,
   algebraic_Adam,
   trivial,
   algebraic_AdamDown⟩

end Cert.Proof

end
